-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 2048]⟩ ⟨2, ![512, 65536]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 2048]⟩ ⟨2, ![512, 65536]⟩ 1 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x2048 : Shape := ⟨2, ![512, 2048]⟩
abbrev S512x512 : Shape := ⟨2, ![512, 512]⟩
abbrev S8x32x512 : Shape := ⟨3, ![8, 32, 512]⟩
abbrev S4x64x512 : Shape := ⟨3, ![4, 64, 512]⟩
abbrev S32x512 : Shape := ⟨2, ![32, 512]⟩
abbrev S64x512 : Shape := ⟨2, ![64, 512]⟩
abbrev S4x8x512 : Shape := ⟨3, ![4, 8, 512]⟩
abbrev S8x8x512 : Shape := ⟨3, ![8, 8, 512]⟩
abbrev S8 : Shape := ⟨1, ![8]⟩
abbrev S4 : Shape := ⟨1, ![4]⟩
abbrev S_ : Shape := ⟨0, ![]⟩
abbrev S1 : Shape := ⟨1, ![1]⟩
abbrev S1x32x512 : Shape := ⟨3, ![1, 32, 512]⟩
abbrev S1x64x512 : Shape := ⟨3, ![1, 64, 512]⟩
abbrev S1x8x512 : Shape := ⟨3, ![1, 8, 512]⟩
abbrev S8x512 : Shape := ⟨2, ![8, 512]⟩

abbrev nBuf : Space → Nat
  | .hbm => 3
  | .vmem => 12
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x512, .f32⟩
  | .local _ .vmem, ⟨0, _⟩ => ⟨S512x2048, .f32⟩
  | .local _ .vmem, ⟨1, _⟩ => ⟨S512x2048, .f32⟩
  | .local _ .vmem, ⟨2, _⟩ => ⟨S512x512, .f32⟩
  | .local _ .vmem, ⟨3, _⟩ => ⟨S512x512, .f32⟩
  | .local _ .vmem, ⟨4, _⟩ => ⟨S8x32x512, .f32⟩
  | .local _ .vmem, ⟨5, _⟩ => ⟨S4x64x512, .f32⟩
  | .local _ .vmem, ⟨6, _⟩ => ⟨S32x512, .f32⟩
  | .local _ .vmem, ⟨7, _⟩ => ⟨S64x512, .f32⟩
  | .local _ .vmem, ⟨8, _⟩ => ⟨S4x8x512, .f32⟩
  | .local _ .vmem, ⟨9, _⟩ => ⟨S8x8x512, .f32⟩
  | .local _ .vmem, ⟨10, _⟩ => ⟨S4x8x512, .f32⟩
  | .local _ .vmem, ⟨11, _⟩ => ⟨S8x8x512, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 99 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | _ => false

abbrev sig : RefSig :=
  (ofTc nBuf bufTy 1 99 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_1 : BitVec 32 := 8#32
  let v6 : BitVec 32 := Scalar.muli v3 c8_i32_1
  let c8_i32_0 : BitVec 32 := 8#32
  let v4 : BitVec 32 := Scalar.remsi v2 c8_i32_0
  let c1_i32_2 : BitVec 32 := 1#32
  let v7 : BitVec 32 := Scalar.addi v4 c1_i32_2
  let c8_i32_3 : BitVec 32 := 8#32
  let v8 : BitVec 32 := Scalar.remsi v7 c8_i32_3
  let v9 : BitVec 32 := Scalar.addi v6 v8
  v9.toNat
def k0_dev2 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_5 : BitVec 32 := 8#32
  let v10 : BitVec 32 := Scalar.muli v3 c8_i32_5
  let c8_i32_0 : BitVec 32 := 8#32
  let v4 : BitVec 32 := Scalar.remsi v2 c8_i32_0
  let c2_i32 : BitVec 32 := 2#32
  let v11 : BitVec 32 := Scalar.addi v4 c2_i32
  let c8_i32_6 : BitVec 32 := 8#32
  let v12 : BitVec 32 := Scalar.remsi v11 c8_i32_6
  let v13 : BitVec 32 := Scalar.addi v10 v12
  v13.toNat
def k0_dev3 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_8 : BitVec 32 := 8#32
  let v14 : BitVec 32 := Scalar.muli v3 c8_i32_8
  let c8_i32_0 : BitVec 32 := 8#32
  let v4 : BitVec 32 := Scalar.remsi v2 c8_i32_0
  let c3_i32 : BitVec 32 := 3#32
  let v15 : BitVec 32 := Scalar.addi v4 c3_i32
  let c8_i32_9 : BitVec 32 := 8#32
  let v16 : BitVec 32 := Scalar.remsi v15 c8_i32_9
  let v17 : BitVec 32 := Scalar.addi v14 v16
  v17.toNat
def k0_dev4 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_11 : BitVec 32 := 8#32
  let v18 : BitVec 32 := Scalar.muli v3 c8_i32_11
  let c8_i32_0 : BitVec 32 := 8#32
  let v4 : BitVec 32 := Scalar.remsi v2 c8_i32_0
  let c4_i32 : BitVec 32 := 4#32
  let v19 : BitVec 32 := Scalar.addi v4 c4_i32
  let c8_i32_12 : BitVec 32 := 8#32
  let v20 : BitVec 32 := Scalar.remsi v19 c8_i32_12
  let v21 : BitVec 32 := Scalar.addi v18 v20
  v21.toNat
def k0_dev5 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_14 : BitVec 32 := 8#32
  let v22 : BitVec 32 := Scalar.muli v3 c8_i32_14
  let c8_i32_0 : BitVec 32 := 8#32
  let v4 : BitVec 32 := Scalar.remsi v2 c8_i32_0
  let c5_i32 : BitVec 32 := 5#32
  let v23 : BitVec 32 := Scalar.addi v4 c5_i32
  let c8_i32_15 : BitVec 32 := 8#32
  let v24 : BitVec 32 := Scalar.remsi v23 c8_i32_15
  let v25 : BitVec 32 := Scalar.addi v22 v24
  v25.toNat
def k0_dev6 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_17 : BitVec 32 := 8#32
  let v26 : BitVec 32 := Scalar.muli v3 c8_i32_17
  let c8_i32_0 : BitVec 32 := 8#32
  let v4 : BitVec 32 := Scalar.remsi v2 c8_i32_0
  let c6_i32 : BitVec 32 := 6#32
  let v27 : BitVec 32 := Scalar.addi v4 c6_i32
  let c8_i32_18 : BitVec 32 := 8#32
  let v28 : BitVec 32 := Scalar.remsi v27 c8_i32_18
  let v29 : BitVec 32 := Scalar.addi v26 v28
  v29.toNat
def k0_dev7 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_20 : BitVec 32 := 8#32
  let v30 : BitVec 32 := Scalar.muli v3 c8_i32_20
  let c8_i32_0 : BitVec 32 := 8#32
  let v4 : BitVec 32 := Scalar.remsi v2 c8_i32_0
  let c7_i32 : BitVec 32 := 7#32
  let v31 : BitVec 32 := Scalar.addi v4 c7_i32
  let c8_i32_21 : BitVec 32 := 8#32
  let v32 : BitVec 32 := Scalar.remsi v31 c8_i32_21
  let v33 : BitVec 32 := Scalar.addi v30 v32
  v33.toNat
def k0_dev8 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c1_i32_23 : BitVec 32 := 1#32
  let v34 : BitVec 32 := Scalar.addi v3 c1_i32_23
  let c4_i32_24 : BitVec 32 := 4#32
  let v35 : BitVec 32 := Scalar.remsi v34 c4_i32_24
  let c8_i32_25 : BitVec 32 := 8#32
  let v36 : BitVec 32 := Scalar.muli v35 c8_i32_25
  let c8_i32_0 : BitVec 32 := 8#32
  let v4 : BitVec 32 := Scalar.remsi v2 c8_i32_0
  let v37 : BitVec 32 := Scalar.addi v36 v4
  v37.toNat
def k0_dev9 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32_27 : BitVec 32 := 2#32
  let v38 : BitVec 32 := Scalar.addi v3 c2_i32_27
  let c4_i32_28 : BitVec 32 := 4#32
  let v39 : BitVec 32 := Scalar.remsi v38 c4_i32_28
  let c8_i32_29 : BitVec 32 := 8#32
  let v40 : BitVec 32 := Scalar.muli v39 c8_i32_29
  let c8_i32_0 : BitVec 32 := 8#32
  let v4 : BitVec 32 := Scalar.remsi v2 c8_i32_0
  let v41 : BitVec 32 := Scalar.addi v40 v4
  v41.toNat
def k0_dev10 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c3_i32_31 : BitVec 32 := 3#32
  let v42 : BitVec 32 := Scalar.addi v3 c3_i32_31
  let c4_i32_32 : BitVec 32 := 4#32
  let v43 : BitVec 32 := Scalar.remsi v42 c4_i32_32
  let c8_i32_33 : BitVec 32 := 8#32
  let v44 : BitVec 32 := Scalar.muli v43 c8_i32_33
  let c8_i32_0 : BitVec 32 := 8#32
  let v4 : BitVec 32 := Scalar.remsi v2 c8_i32_0
  let v45 : BitVec 32 := Scalar.addi v44 v4
  v45.toNat
def k0_off1 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  ![v4.toNat]
def k0_off2 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c0_i32 : BitVec 32 := 0#32
  let c0_i32_45 : BitVec 32 := 0#32
  ![v4.toNat, 0, 0]
def k0_off3 (d0 : Dev nD) (c1_i32_40 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let v54 : BitVec 32 := Scalar.addi v4 c1_i32_40
  let c8_i32_41 : BitVec 32 := 8#32
  let v55 : BitVec 32 := Scalar.remsi v54 c8_i32_41
  let c32_i32_42 : BitVec 32 := 32#32
  let v56 : BitVec 32 := Scalar.muli v55 c32_i32_42
  let c0_i32_46 : BitVec 32 := 0#32
  ![v56.toNat, 0]
def k0_dev11 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_43 : BitVec 32 := 8#32
  let v57 : BitVec 32 := Scalar.muli v3 c8_i32_43
  let c8_i32_0 : BitVec 32 := 8#32
  let v4 : BitVec 32 := Scalar.remsi v2 c8_i32_0
  let c1_i32_40 : BitVec 32 := 1#32
  let v54 : BitVec 32 := Scalar.addi v4 c1_i32_40
  let c8_i32_41 : BitVec 32 := 8#32
  let v55 : BitVec 32 := Scalar.remsi v54 c8_i32_41
  let v58 : BitVec 32 := Scalar.addi v57 v55
  v58.toNat
def k0_dev12 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_50 : BitVec 32 := 8#32
  let v69 : BitVec 32 := Scalar.muli v3 c8_i32_50
  let c8_i32_0 : BitVec 32 := 8#32
  let v4 : BitVec 32 := Scalar.remsi v2 c8_i32_0
  let c2_i32_47 : BitVec 32 := 2#32
  let v66 : BitVec 32 := Scalar.addi v4 c2_i32_47
  let c8_i32_48 : BitVec 32 := 8#32
  let v67 : BitVec 32 := Scalar.remsi v66 c8_i32_48
  let v70 : BitVec 32 := Scalar.addi v69 v67
  v70.toNat
def k0_dev13 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_58 : BitVec 32 := 8#32
  let v81 : BitVec 32 := Scalar.muli v3 c8_i32_58
  let c8_i32_0 : BitVec 32 := 8#32
  let v4 : BitVec 32 := Scalar.remsi v2 c8_i32_0
  let c3_i32_55 : BitVec 32 := 3#32
  let v78 : BitVec 32 := Scalar.addi v4 c3_i32_55
  let c8_i32_56 : BitVec 32 := 8#32
  let v79 : BitVec 32 := Scalar.remsi v78 c8_i32_56
  let v82 : BitVec 32 := Scalar.addi v81 v79
  v82.toNat
def k0_dev14 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_66 : BitVec 32 := 8#32
  let v93 : BitVec 32 := Scalar.muli v3 c8_i32_66
  let c8_i32_0 : BitVec 32 := 8#32
  let v4 : BitVec 32 := Scalar.remsi v2 c8_i32_0
  let c4_i32_63 : BitVec 32 := 4#32
  let v90 : BitVec 32 := Scalar.addi v4 c4_i32_63
  let c8_i32_64 : BitVec 32 := 8#32
  let v91 : BitVec 32 := Scalar.remsi v90 c8_i32_64
  let v94 : BitVec 32 := Scalar.addi v93 v91
  v94.toNat
def k0_dev15 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_74 : BitVec 32 := 8#32
  let v105 : BitVec 32 := Scalar.muli v3 c8_i32_74
  let c8_i32_0 : BitVec 32 := 8#32
  let v4 : BitVec 32 := Scalar.remsi v2 c8_i32_0
  let c5_i32_71 : BitVec 32 := 5#32
  let v102 : BitVec 32 := Scalar.addi v4 c5_i32_71
  let c8_i32_72 : BitVec 32 := 8#32
  let v103 : BitVec 32 := Scalar.remsi v102 c8_i32_72
  let v106 : BitVec 32 := Scalar.addi v105 v103
  v106.toNat
def k0_dev16 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_82 : BitVec 32 := 8#32
  let v117 : BitVec 32 := Scalar.muli v3 c8_i32_82
  let c8_i32_0 : BitVec 32 := 8#32
  let v4 : BitVec 32 := Scalar.remsi v2 c8_i32_0
  let c6_i32_79 : BitVec 32 := 6#32
  let v114 : BitVec 32 := Scalar.addi v4 c6_i32_79
  let c8_i32_80 : BitVec 32 := 8#32
  let v115 : BitVec 32 := Scalar.remsi v114 c8_i32_80
  let v118 : BitVec 32 := Scalar.addi v117 v115
  v118.toNat
def k0_dev17 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_90 : BitVec 32 := 8#32
  let v129 : BitVec 32 := Scalar.muli v3 c8_i32_90
  let c8_i32_0 : BitVec 32 := 8#32
  let v4 : BitVec 32 := Scalar.remsi v2 c8_i32_0
  let c7_i32_87 : BitVec 32 := 7#32
  let v126 : BitVec 32 := Scalar.addi v4 c7_i32_87
  let c8_i32_88 : BitVec 32 := 8#32
  let v127 : BitVec 32 := Scalar.remsi v126 c8_i32_88
  let v130 : BitVec 32 := Scalar.addi v129 v127
  v130.toNat
def k0_off4 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  ![v3.toNat]
def k0_off5 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c0_i32_99 : BitVec 32 := 0#32
  let c0_i32_100 : BitVec 32 := 0#32
  ![v3.toNat, 0, 0]
def k0_off6 (d0 : Dev nD) (c1_i32_95 : BitVec 32) : Fin 2 → Nat :=
  let c256_i32 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let v138 : BitVec 32 := Scalar.addi v3 c1_i32_95
  let c4_i32_96 : BitVec 32 := 4#32
  let v139 : BitVec 32 := Scalar.remsi v138 c4_i32_96
  let c64_i32 : BitVec 32 := 64#32
  let v140 : BitVec 32 := Scalar.muli v139 c64_i32
  let v141 : BitVec 32 := Scalar.addi c256_i32 v140
  let c0_i32_101 : BitVec 32 := 0#32
  ![v141.toNat, 0]
def k0_dev18 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c1_i32_95 : BitVec 32 := 1#32
  let v138 : BitVec 32 := Scalar.addi v3 c1_i32_95
  let c4_i32_96 : BitVec 32 := 4#32
  let v139 : BitVec 32 := Scalar.remsi v138 c4_i32_96
  let c8_i32_97 : BitVec 32 := 8#32
  let v142 : BitVec 32 := Scalar.muli v139 c8_i32_97
  let c8_i32_0 : BitVec 32 := 8#32
  let v4 : BitVec 32 := Scalar.remsi v2 c8_i32_0
  let v143 : BitVec 32 := Scalar.addi v142 v4
  v143.toNat
def k0_dev19 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32_102 : BitVec 32 := 2#32
  let v151 : BitVec 32 := Scalar.addi v3 c2_i32_102
  let c4_i32_103 : BitVec 32 := 4#32
  let v152 : BitVec 32 := Scalar.remsi v151 c4_i32_103
  let c8_i32_106 : BitVec 32 := 8#32
  let v155 : BitVec 32 := Scalar.muli v152 c8_i32_106
  let c8_i32_0 : BitVec 32 := 8#32
  let v4 : BitVec 32 := Scalar.remsi v2 c8_i32_0
  let v156 : BitVec 32 := Scalar.addi v155 v4
  v156.toNat
def k0_dev20 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c3_i32_111 : BitVec 32 := 3#32
  let v164 : BitVec 32 := Scalar.addi v3 c3_i32_111
  let c4_i32_112 : BitVec 32 := 4#32
  let v165 : BitVec 32 := Scalar.remsi v164 c4_i32_112
  let c8_i32_115 : BitVec 32 := 8#32
  let v168 : BitVec 32 := Scalar.muli v165 c8_i32_115
  let c8_i32_0 : BitVec 32 := 8#32
  let v4 : BitVec 32 := Scalar.remsi v2 c8_i32_0
  let v169 : BitVec 32 := Scalar.addi v168 v4
  v169.toNat
def k0_off7 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c32_i32_120 : BitVec 32 := 32#32
  let v177 : BitVec 32 := Scalar.muli v4 c32_i32_120
  let v178 : Index := Scalar.indexCast v177
  let c0_121 : Index := 0#32
  ![v178.toNat, 0]
def k0_off8 (d0 : Dev nD) : Fin 2 → Nat :=
  let c256_i32_125 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c64_i32_124 : BitVec 32 := 64#32
  let v183 : BitVec 32 := Scalar.muli v3 c64_i32_124
  let v184 : BitVec 32 := Scalar.addi c256_i32_125 v183
  let v185 : Index := Scalar.indexCast v184
  let c0_126 : Index := 0#32
  ![v185.toNat, 0]
def k0_off9 (d0 : Dev nD) (c1_i32_129 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let v190 : BitVec 32 := Scalar.addi v4 c1_i32_129
  let c8_i32_130 : BitVec 32 := 8#32
  let v191 : BitVec 32 := Scalar.remsi v190 c8_i32_130
  ![v191.toNat]
def k0_off10 (d0 : Dev nD) (c1_i32_129 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let v190 : BitVec 32 := Scalar.addi v4 c1_i32_129
  let c8_i32_130 : BitVec 32 := 8#32
  let v191 : BitVec 32 := Scalar.remsi v190 c8_i32_130
  let c0_i32_131 : BitVec 32 := 0#32
  let c0_i32_132 : BitVec 32 := 0#32
  ![v191.toNat, 0, 0]
def k0_off11 (d0 : Dev nD) (c1_i32_129 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let v190 : BitVec 32 := Scalar.addi v4 c1_i32_129
  let c8_i32_130 : BitVec 32 := 8#32
  let v191 : BitVec 32 := Scalar.remsi v190 c8_i32_130
  let v199 : Index := Scalar.indexCast v191
  let c0_137 : Index := 0#32
  let c0_138 : Index := 0#32
  ![v199.toNat, 0, 0]
def k0_off12 (d0 : Dev nD) (c1_i32_213 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let v302 : BitVec 32 := Scalar.addi v3 c1_i32_213
  let c4_i32_214 : BitVec 32 := 4#32
  let v303 : BitVec 32 := Scalar.remsi v302 c4_i32_214
  ![v303.toNat]
def k0_off13 (d0 : Dev nD) (c1_i32_213 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let v302 : BitVec 32 := Scalar.addi v3 c1_i32_213
  let c4_i32_214 : BitVec 32 := 4#32
  let v303 : BitVec 32 := Scalar.remsi v302 c4_i32_214
  let c0_i32_215 : BitVec 32 := 0#32
  let c0_i32_216 : BitVec 32 := 0#32
  ![v303.toNat, 0, 0]
def k0_off14 (d0 : Dev nD) (c1_i32_213 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let v302 : BitVec 32 := Scalar.addi v3 c1_i32_213
  let c4_i32_214 : BitVec 32 := 4#32
  let v303 : BitVec 32 := Scalar.remsi v302 c4_i32_214
  let v311 : Index := Scalar.indexCast v303
  let c0_221 : Index := 0#32
  let c0_222 : Index := 0#32
  ![v311.toNat, 0, 0]
def k0_off15 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c0_i32_254 : BitVec 32 := 0#32
  let c0_i32_255 : BitVec 32 := 0#32
  ![v3.toNat, 0, 0]
def k0_off16 (d0 : Dev nD) (c1_i32_249 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let v350 : BitVec 32 := Scalar.addi v3 c1_i32_249
  let c4_i32_250 : BitVec 32 := 4#32
  let v351 : BitVec 32 := Scalar.remsi v350 c4_i32_250
  let c8_i32_251 : BitVec 32 := 8#32
  let v352 : BitVec 32 := Scalar.muli v351 c8_i32_251
  let c0_i32_256 : BitVec 32 := 0#32
  ![v352.toNat, 0]
def k0_dev21 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c1_i32_249 : BitVec 32 := 1#32
  let v350 : BitVec 32 := Scalar.addi v3 c1_i32_249
  let c4_i32_250 : BitVec 32 := 4#32
  let v351 : BitVec 32 := Scalar.remsi v350 c4_i32_250
  let c8_i32_252 : BitVec 32 := 8#32
  let v353 : BitVec 32 := Scalar.muli v351 c8_i32_252
  let c8_i32_0 : BitVec 32 := 8#32
  let v4 : BitVec 32 := Scalar.remsi v2 c8_i32_0
  let v354 : BitVec 32 := Scalar.addi v353 v4
  v354.toNat
def k0_dev22 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32_257 : BitVec 32 := 2#32
  let v362 : BitVec 32 := Scalar.addi v3 c2_i32_257
  let c4_i32_258 : BitVec 32 := 4#32
  let v363 : BitVec 32 := Scalar.remsi v362 c4_i32_258
  let c8_i32_260 : BitVec 32 := 8#32
  let v365 : BitVec 32 := Scalar.muli v363 c8_i32_260
  let c8_i32_0 : BitVec 32 := 8#32
  let v4 : BitVec 32 := Scalar.remsi v2 c8_i32_0
  let v366 : BitVec 32 := Scalar.addi v365 v4
  v366.toNat
def k0_dev23 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c3_i32_265 : BitVec 32 := 3#32
  let v374 : BitVec 32 := Scalar.addi v3 c3_i32_265
  let c4_i32_266 : BitVec 32 := 4#32
  let v375 : BitVec 32 := Scalar.remsi v374 c4_i32_266
  let c8_i32_268 : BitVec 32 := 8#32
  let v377 : BitVec 32 := Scalar.muli v375 c8_i32_268
  let c8_i32_0 : BitVec 32 := 8#32
  let v4 : BitVec 32 := Scalar.remsi v2 c8_i32_0
  let v378 : BitVec 32 := Scalar.addi v377 v4
  v378.toNat
def k0_off17 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c0_i32_278 : BitVec 32 := 0#32
  let c0_i32_279 : BitVec 32 := 0#32
  ![v4.toNat, 0, 0]
def k0_off18 (d0 : Dev nD) (c1_i32_273 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let v386 : BitVec 32 := Scalar.addi v4 c1_i32_273
  let c8_i32_274 : BitVec 32 := 8#32
  let v387 : BitVec 32 := Scalar.remsi v386 c8_i32_274
  let c8_i32_275 : BitVec 32 := 8#32
  let v388 : BitVec 32 := Scalar.muli v387 c8_i32_275
  let c0_i32_280 : BitVec 32 := 0#32
  ![v388.toNat, 0]
def k0_dev24 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_276 : BitVec 32 := 8#32
  let v389 : BitVec 32 := Scalar.muli v3 c8_i32_276
  let c8_i32_0 : BitVec 32 := 8#32
  let v4 : BitVec 32 := Scalar.remsi v2 c8_i32_0
  let c1_i32_273 : BitVec 32 := 1#32
  let v386 : BitVec 32 := Scalar.addi v4 c1_i32_273
  let c8_i32_274 : BitVec 32 := 8#32
  let v387 : BitVec 32 := Scalar.remsi v386 c8_i32_274
  let v390 : BitVec 32 := Scalar.addi v389 v387
  v390.toNat
def k0_dev25 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_284 : BitVec 32 := 8#32
  let v401 : BitVec 32 := Scalar.muli v3 c8_i32_284
  let c8_i32_0 : BitVec 32 := 8#32
  let v4 : BitVec 32 := Scalar.remsi v2 c8_i32_0
  let c2_i32_281 : BitVec 32 := 2#32
  let v398 : BitVec 32 := Scalar.addi v4 c2_i32_281
  let c8_i32_282 : BitVec 32 := 8#32
  let v399 : BitVec 32 := Scalar.remsi v398 c8_i32_282
  let v402 : BitVec 32 := Scalar.addi v401 v399
  v402.toNat
def k0_dev26 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_292 : BitVec 32 := 8#32
  let v413 : BitVec 32 := Scalar.muli v3 c8_i32_292
  let c8_i32_0 : BitVec 32 := 8#32
  let v4 : BitVec 32 := Scalar.remsi v2 c8_i32_0
  let c3_i32_289 : BitVec 32 := 3#32
  let v410 : BitVec 32 := Scalar.addi v4 c3_i32_289
  let c8_i32_290 : BitVec 32 := 8#32
  let v411 : BitVec 32 := Scalar.remsi v410 c8_i32_290
  let v414 : BitVec 32 := Scalar.addi v413 v411
  v414.toNat
def k0_dev27 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_300 : BitVec 32 := 8#32
  let v425 : BitVec 32 := Scalar.muli v3 c8_i32_300
  let c8_i32_0 : BitVec 32 := 8#32
  let v4 : BitVec 32 := Scalar.remsi v2 c8_i32_0
  let c4_i32_297 : BitVec 32 := 4#32
  let v422 : BitVec 32 := Scalar.addi v4 c4_i32_297
  let c8_i32_298 : BitVec 32 := 8#32
  let v423 : BitVec 32 := Scalar.remsi v422 c8_i32_298
  let v426 : BitVec 32 := Scalar.addi v425 v423
  v426.toNat
def k0_dev28 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_308 : BitVec 32 := 8#32
  let v437 : BitVec 32 := Scalar.muli v3 c8_i32_308
  let c8_i32_0 : BitVec 32 := 8#32
  let v4 : BitVec 32 := Scalar.remsi v2 c8_i32_0
  let c5_i32_305 : BitVec 32 := 5#32
  let v434 : BitVec 32 := Scalar.addi v4 c5_i32_305
  let c8_i32_306 : BitVec 32 := 8#32
  let v435 : BitVec 32 := Scalar.remsi v434 c8_i32_306
  let v438 : BitVec 32 := Scalar.addi v437 v435
  v438.toNat
def k0_dev29 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_316 : BitVec 32 := 8#32
  let v449 : BitVec 32 := Scalar.muli v3 c8_i32_316
  let c8_i32_0 : BitVec 32 := 8#32
  let v4 : BitVec 32 := Scalar.remsi v2 c8_i32_0
  let c6_i32_313 : BitVec 32 := 6#32
  let v446 : BitVec 32 := Scalar.addi v4 c6_i32_313
  let c8_i32_314 : BitVec 32 := 8#32
  let v447 : BitVec 32 := Scalar.remsi v446 c8_i32_314
  let v450 : BitVec 32 := Scalar.addi v449 v447
  v450.toNat
def k0_dev30 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_324 : BitVec 32 := 8#32
  let v461 : BitVec 32 := Scalar.muli v3 c8_i32_324
  let c8_i32_0 : BitVec 32 := 8#32
  let v4 : BitVec 32 := Scalar.remsi v2 c8_i32_0
  let c7_i32_321 : BitVec 32 := 7#32
  let v458 : BitVec 32 := Scalar.addi v4 c7_i32_321
  let c8_i32_322 : BitVec 32 := 8#32
  let v459 : BitVec 32 := Scalar.remsi v458 c8_i32_322
  let v462 : BitVec 32 := Scalar.addi v461 v459
  v462.toNat
def k0_off19 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_329 : BitVec 32 := 8#32
  let v470 : BitVec 32 := Scalar.muli v3 c8_i32_329
  let v471 : Index := Scalar.indexCast v470
  let c0_330 : Index := 0#32
  ![v471.toNat, 0]
def k0_off20 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let v474 : Index := Scalar.indexCast v3
  let c0_331 : Index := 0#32
  let c0_332 : Index := 0#32
  ![v474.toNat, 0, 0]
def k0_off21 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c8_i32_333 : BitVec 32 := 8#32
  let v478 : BitVec 32 := Scalar.muli v4 c8_i32_333
  let v479 : Index := Scalar.indexCast v478
  let c0_334 : Index := 0#32
  ![v479.toNat, 0]
def k0_off22 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let v482 : Index := Scalar.indexCast v4
  let c0_335 : Index := 0#32
  let c0_336 : Index := 0#32
  ![v482.toNat, 0, 0]
def k0_off23 (d0 : Dev nD) (c1_i32_337 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let v486 : BitVec 32 := Scalar.addi v3 c1_i32_337
  let c4_i32_338 : BitVec 32 := 4#32
  let v487 : BitVec 32 := Scalar.remsi v486 c4_i32_338
  let c0_i32_339 : BitVec 32 := 0#32
  let c0_i32_340 : BitVec 32 := 0#32
  ![v487.toNat, 0, 0]
def k0_off24 (d0 : Dev nD) (c1_i32_355 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let v510 : BitVec 32 := Scalar.addi v4 c1_i32_355
  let c8_i32_356 : BitVec 32 := 8#32
  let v511 : BitVec 32 := Scalar.remsi v510 c8_i32_356
  let c0_i32_357 : BitVec 32 := 0#32
  let c0_i32_358 : BitVec 32 := 0#32
  ![v511.toNat, 0, 0]
def k0_dev31 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c1_i32_409 : BitVec 32 := 1#32
  let v580 : BitVec 32 := Scalar.addi v3 c1_i32_409
  let c4_i32_410 : BitVec 32 := 4#32
  let v581 : BitVec 32 := Scalar.remsi v580 c4_i32_410
  let c8_i32_411 : BitVec 32 := 8#32
  let v582 : BitVec 32 := Scalar.muli v581 c8_i32_411
  let c8_i32_0 : BitVec 32 := 8#32
  let v4 : BitVec 32 := Scalar.remsi v2 c8_i32_0
  let v583 : BitVec 32 := Scalar.addi v582 v4
  v583.toNat
def k0_dev32 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32_417 : BitVec 32 := 2#32
  let v592 : BitVec 32 := Scalar.addi v3 c2_i32_417
  let c4_i32_418 : BitVec 32 := 4#32
  let v593 : BitVec 32 := Scalar.remsi v592 c4_i32_418
  let c8_i32_419 : BitVec 32 := 8#32
  let v594 : BitVec 32 := Scalar.muli v593 c8_i32_419
  let c8_i32_0 : BitVec 32 := 8#32
  let v4 : BitVec 32 := Scalar.remsi v2 c8_i32_0
  let v595 : BitVec 32 := Scalar.addi v594 v4
  v595.toNat
def k0_dev33 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c3_i32_425 : BitVec 32 := 3#32
  let v604 : BitVec 32 := Scalar.addi v3 c3_i32_425
  let c4_i32_426 : BitVec 32 := 4#32
  let v605 : BitVec 32 := Scalar.remsi v604 c4_i32_426
  let c8_i32_427 : BitVec 32 := 8#32
  let v606 : BitVec 32 := Scalar.muli v605 c8_i32_427
  let c8_i32_0 : BitVec 32 := 8#32
  let v4 : BitVec 32 := Scalar.remsi v2 c8_i32_0
  let v607 : BitVec 32 := Scalar.addi v606 v4
  v607.toNat
def k0_dev34 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_435 : BitVec 32 := 8#32
  let v618 : BitVec 32 := Scalar.muli v3 c8_i32_435
  let c8_i32_0 : BitVec 32 := 8#32
  let v4 : BitVec 32 := Scalar.remsi v2 c8_i32_0
  let c1_i32_433 : BitVec 32 := 1#32
  let v616 : BitVec 32 := Scalar.addi v4 c1_i32_433
  let c8_i32_434 : BitVec 32 := 8#32
  let v617 : BitVec 32 := Scalar.remsi v616 c8_i32_434
  let v619 : BitVec 32 := Scalar.addi v618 v617
  v619.toNat
def k0_dev35 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_443 : BitVec 32 := 8#32
  let v630 : BitVec 32 := Scalar.muli v3 c8_i32_443
  let c8_i32_0 : BitVec 32 := 8#32
  let v4 : BitVec 32 := Scalar.remsi v2 c8_i32_0
  let c2_i32_441 : BitVec 32 := 2#32
  let v628 : BitVec 32 := Scalar.addi v4 c2_i32_441
  let c8_i32_442 : BitVec 32 := 8#32
  let v629 : BitVec 32 := Scalar.remsi v628 c8_i32_442
  let v631 : BitVec 32 := Scalar.addi v630 v629
  v631.toNat
def k0_dev36 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_451 : BitVec 32 := 8#32
  let v642 : BitVec 32 := Scalar.muli v3 c8_i32_451
  let c8_i32_0 : BitVec 32 := 8#32
  let v4 : BitVec 32 := Scalar.remsi v2 c8_i32_0
  let c3_i32_449 : BitVec 32 := 3#32
  let v640 : BitVec 32 := Scalar.addi v4 c3_i32_449
  let c8_i32_450 : BitVec 32 := 8#32
  let v641 : BitVec 32 := Scalar.remsi v640 c8_i32_450
  let v643 : BitVec 32 := Scalar.addi v642 v641
  v643.toNat
def k0_dev37 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_459 : BitVec 32 := 8#32
  let v654 : BitVec 32 := Scalar.muli v3 c8_i32_459
  let c8_i32_0 : BitVec 32 := 8#32
  let v4 : BitVec 32 := Scalar.remsi v2 c8_i32_0
  let c4_i32_457 : BitVec 32 := 4#32
  let v652 : BitVec 32 := Scalar.addi v4 c4_i32_457
  let c8_i32_458 : BitVec 32 := 8#32
  let v653 : BitVec 32 := Scalar.remsi v652 c8_i32_458
  let v655 : BitVec 32 := Scalar.addi v654 v653
  v655.toNat
def k0_dev38 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_467 : BitVec 32 := 8#32
  let v666 : BitVec 32 := Scalar.muli v3 c8_i32_467
  let c8_i32_0 : BitVec 32 := 8#32
  let v4 : BitVec 32 := Scalar.remsi v2 c8_i32_0
  let c5_i32_465 : BitVec 32 := 5#32
  let v664 : BitVec 32 := Scalar.addi v4 c5_i32_465
  let c8_i32_466 : BitVec 32 := 8#32
  let v665 : BitVec 32 := Scalar.remsi v664 c8_i32_466
  let v667 : BitVec 32 := Scalar.addi v666 v665
  v667.toNat
def k0_dev39 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_475 : BitVec 32 := 8#32
  let v678 : BitVec 32 := Scalar.muli v3 c8_i32_475
  let c8_i32_0 : BitVec 32 := 8#32
  let v4 : BitVec 32 := Scalar.remsi v2 c8_i32_0
  let c6_i32_473 : BitVec 32 := 6#32
  let v676 : BitVec 32 := Scalar.addi v4 c6_i32_473
  let c8_i32_474 : BitVec 32 := 8#32
  let v677 : BitVec 32 := Scalar.remsi v676 c8_i32_474
  let v679 : BitVec 32 := Scalar.addi v678 v677
  v679.toNat
def k0_dev40 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_483 : BitVec 32 := 8#32
  let v690 : BitVec 32 := Scalar.muli v3 c8_i32_483
  let c8_i32_0 : BitVec 32 := 8#32
  let v4 : BitVec 32 := Scalar.remsi v2 c8_i32_0
  let c7_i32_481 : BitVec 32 := 7#32
  let v688 : BitVec 32 := Scalar.addi v4 c7_i32_481
  let c8_i32_482 : BitVec 32 := 8#32
  let v689 : BitVec 32 := Scalar.remsi v688 c8_i32_482
  let v691 : BitVec 32 := Scalar.addi v690 v689
  v691.toNat
def k0_off25 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c32_i32_563 : BitVec 32 := 32#32
  let v794 : BitVec 32 := Scalar.muli v4 c32_i32_563
  let c0_i32_566 : BitVec 32 := 0#32
  ![v794.toNat, 0]
def k0_dev41 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_564 : BitVec 32 := 8#32
  let v795 : BitVec 32 := Scalar.muli v3 c8_i32_564
  let c8_i32_0 : BitVec 32 := 8#32
  let v4 : BitVec 32 := Scalar.remsi v2 c8_i32_0
  let c1_i32_560 : BitVec 32 := 1#32
  let v791 : BitVec 32 := Scalar.addi v4 c1_i32_560
  let c8_i32_561 : BitVec 32 := 8#32
  let v792 : BitVec 32 := Scalar.remsi v791 c8_i32_561
  let v796 : BitVec 32 := Scalar.addi v795 v792
  v796.toNat
def k0_dev42 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_572 : BitVec 32 := 8#32
  let v807 : BitVec 32 := Scalar.muli v3 c8_i32_572
  let c8_i32_0 : BitVec 32 := 8#32
  let v4 : BitVec 32 := Scalar.remsi v2 c8_i32_0
  let c2_i32_568 : BitVec 32 := 2#32
  let v803 : BitVec 32 := Scalar.addi v4 c2_i32_568
  let c8_i32_569 : BitVec 32 := 8#32
  let v804 : BitVec 32 := Scalar.remsi v803 c8_i32_569
  let v808 : BitVec 32 := Scalar.addi v807 v804
  v808.toNat
def k0_dev43 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_580 : BitVec 32 := 8#32
  let v819 : BitVec 32 := Scalar.muli v3 c8_i32_580
  let c8_i32_0 : BitVec 32 := 8#32
  let v4 : BitVec 32 := Scalar.remsi v2 c8_i32_0
  let c3_i32_576 : BitVec 32 := 3#32
  let v815 : BitVec 32 := Scalar.addi v4 c3_i32_576
  let c8_i32_577 : BitVec 32 := 8#32
  let v816 : BitVec 32 := Scalar.remsi v815 c8_i32_577
  let v820 : BitVec 32 := Scalar.addi v819 v816
  v820.toNat
def k0_dev44 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_588 : BitVec 32 := 8#32
  let v831 : BitVec 32 := Scalar.muli v3 c8_i32_588
  let c8_i32_0 : BitVec 32 := 8#32
  let v4 : BitVec 32 := Scalar.remsi v2 c8_i32_0
  let c4_i32_584 : BitVec 32 := 4#32
  let v827 : BitVec 32 := Scalar.addi v4 c4_i32_584
  let c8_i32_585 : BitVec 32 := 8#32
  let v828 : BitVec 32 := Scalar.remsi v827 c8_i32_585
  let v832 : BitVec 32 := Scalar.addi v831 v828
  v832.toNat
def k0_dev45 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_596 : BitVec 32 := 8#32
  let v843 : BitVec 32 := Scalar.muli v3 c8_i32_596
  let c8_i32_0 : BitVec 32 := 8#32
  let v4 : BitVec 32 := Scalar.remsi v2 c8_i32_0
  let c5_i32_592 : BitVec 32 := 5#32
  let v839 : BitVec 32 := Scalar.addi v4 c5_i32_592
  let c8_i32_593 : BitVec 32 := 8#32
  let v840 : BitVec 32 := Scalar.remsi v839 c8_i32_593
  let v844 : BitVec 32 := Scalar.addi v843 v840
  v844.toNat
def k0_dev46 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_604 : BitVec 32 := 8#32
  let v855 : BitVec 32 := Scalar.muli v3 c8_i32_604
  let c8_i32_0 : BitVec 32 := 8#32
  let v4 : BitVec 32 := Scalar.remsi v2 c8_i32_0
  let c6_i32_600 : BitVec 32 := 6#32
  let v851 : BitVec 32 := Scalar.addi v4 c6_i32_600
  let c8_i32_601 : BitVec 32 := 8#32
  let v852 : BitVec 32 := Scalar.remsi v851 c8_i32_601
  let v856 : BitVec 32 := Scalar.addi v855 v852
  v856.toNat
def k0_dev47 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_612 : BitVec 32 := 8#32
  let v867 : BitVec 32 := Scalar.muli v3 c8_i32_612
  let c8_i32_0 : BitVec 32 := 8#32
  let v4 : BitVec 32 := Scalar.remsi v2 c8_i32_0
  let c7_i32_608 : BitVec 32 := 7#32
  let v863 : BitVec 32 := Scalar.addi v4 c7_i32_608
  let c8_i32_609 : BitVec 32 := 8#32
  let v864 : BitVec 32 := Scalar.remsi v863 c8_i32_609
  let v868 : BitVec 32 := Scalar.addi v867 v864
  v868.toNat
def k0_off26 (d0 : Dev nD) : Fin 2 → Nat :=
  let c256_i32_621 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c64_i32_620 : BitVec 32 := 64#32
  let v879 : BitVec 32 := Scalar.muli v3 c64_i32_620
  let v880 : BitVec 32 := Scalar.addi c256_i32_621 v879
  let c0_i32_624 : BitVec 32 := 0#32
  ![v880.toNat, 0]
def k0_dev48 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c1_i32_616 : BitVec 32 := 1#32
  let v875 : BitVec 32 := Scalar.addi v3 c1_i32_616
  let c4_i32_617 : BitVec 32 := 4#32
  let v876 : BitVec 32 := Scalar.remsi v875 c4_i32_617
  let c8_i32_622 : BitVec 32 := 8#32
  let v881 : BitVec 32 := Scalar.muli v876 c8_i32_622
  let c8_i32_0 : BitVec 32 := 8#32
  let v4 : BitVec 32 := Scalar.remsi v2 c8_i32_0
  let v882 : BitVec 32 := Scalar.addi v881 v4
  v882.toNat
def k0_dev49 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32_626 : BitVec 32 := 2#32
  let v889 : BitVec 32 := Scalar.addi v3 c2_i32_626
  let c4_i32_627 : BitVec 32 := 4#32
  let v890 : BitVec 32 := Scalar.remsi v889 c4_i32_627
  let c8_i32_632 : BitVec 32 := 8#32
  let v895 : BitVec 32 := Scalar.muli v890 c8_i32_632
  let c8_i32_0 : BitVec 32 := 8#32
  let v4 : BitVec 32 := Scalar.remsi v2 c8_i32_0
  let v896 : BitVec 32 := Scalar.addi v895 v4
  v896.toNat
def k0_dev50 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c3_i32_636 : BitVec 32 := 3#32
  let v903 : BitVec 32 := Scalar.addi v3 c3_i32_636
  let c4_i32_637 : BitVec 32 := 4#32
  let v904 : BitVec 32 := Scalar.remsi v903 c4_i32_637
  let c8_i32_642 : BitVec 32 := 8#32
  let v909 : BitVec 32 := Scalar.muli v904 c8_i32_642
  let c8_i32_0 : BitVec 32 := 8#32
  let v4 : BitVec 32 := Scalar.remsi v2 c8_i32_0
  let v910 : BitVec 32 := Scalar.addi v909 v4
  v910.toNat
abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S512x65536 : Shape := ⟨2, ![512, 65536]⟩
abbrev S65536x512 : Shape := ⟨2, ![65536, 512]⟩
abbrev S512x512 : Shape := ⟨2, ![512, 512]⟩

abbrev nBuf : Space → Nat
  | .hbm => 4
  | .vmem => 0
  | .smem => 0
  | _ => 0

abbrev bufTy : (tb : Table) → Fin (tcTables nBuf tb) → BufTy
  | .hbm, ⟨0, _⟩ => ⟨S512x65536, .f32⟩
  | .hbm, ⟨1, _⟩ => ⟨S512x65536, .f32⟩
  | .hbm, ⟨2, _⟩ => ⟨S65536x512, .f32⟩
  | .hbm, ⟨3, _⟩ => ⟨S512x512, .f32⟩
  | _, _ => ⟨S512x65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Mesh.lean ====
/-
The mesh, the eight families of copies and the buffers' slots.

The 32 devices form 4 groups of 8 ranks: device `c` is rank `c % 8` of group `c / 8`. The kernel sends in eight
families: half `A` of the product is reduced over the ranks and then over the groups, half `B` over the groups and
then over the ranks, and both are gathered back the same way (`A1 … A4`, `B1 … B4`, by phase). In a family a device
sends to every other member of its group (`A1 B2 B3 A4`) or to the devices of its rank in the other groups
(`B1 A2 A3 B4`), each named by its offset `o` from the sender.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.ShareLeaves
public import Idealize.ShloMosaic.Lib.ValueLayout
public import Idealize.ShloMosaic.Lib.Tactic

@[expose] public section

noncomputable section

namespace Cert.AllReduce

open Cert.KernelIdeal Cert.KernelIdeal.Gen
open Idealize.ShloMosaic Idealize.ShloMosaic.TcCoe Idealize.ShloMosaic.ValueIdx

/-! ## Families -/

/-- The eight families of copies. -/
inductive Fam | A1 | B1 | A2 | B2 | A3 | B3 | A4 | B4
deriving DecidableEq

open Fam

instance : Fintype Fam := ⟨{A1, B1, A2, B2, A3, B3, A4, B4}, fun X => by cases X <;> decide⟩

/-- Whether a family runs within a group (over the ranks); otherwise it runs over the groups. -/
def row : Fam → Bool
  | A1 | B2 | B3 | A4 => true
  | B1 | A2 | A3 | B4 => false

/-- How many members a family's ring has. -/
def sz (X : Fam) : ℕ := if row X then 8 else 4

/-- A device's number in its ring. -/
def me (X : Fam) (c : Dev nD) : ℕ := if row X then c.val % 8 else c.val / 8

/-- The device of group `g` and rank `r`. -/
def dev (g r : ℕ) : Dev nD := Fin.ofNat 32 (8 * g + r)

/-- The device at offset `o` from `c` in the family's ring. -/
def peer (X : Fam) (c : Dev nD) (o : ℕ) : Dev nD :=
  if row X then dev (c.val / 8) ((c.val % 8 + o) % 8) else dev ((c.val / 8 + o) % 4) (c.val % 8)

/-- The number in the ring of the device at offset `o`. -/
def pslot (X : Fam) (c : Dev nD) (o : ℕ) : ℕ := (me X c + o) % sz X

theorem dev_val (g r : ℕ) (hg : g < 4) (hr : r < 8) : (dev g r).val = 8 * g + r := by
  show (8 * g + r) % 32 = _; omega

theorem c_lt (c : Dev nD) : c.val < 32 := c.isLt

theorem peer_val_row {X : Fam} (h : row X = true) (c : Dev nD) (o : ℕ) :
    (peer X c o).val = 8 * (c.val / 8) + (c.val % 8 + o) % 8 := by
  have := c_lt c
  unfold peer; rw [if_pos h, dev_val _ _ (by omega) (by omega)]

theorem peer_val_col {X : Fam} (h : row X = false) (c : Dev nD) (o : ℕ) :
    (peer X c o).val = 8 * ((c.val / 8 + o) % 4) + c.val % 8 := by
  have := c_lt c
  unfold peer; rw [if_neg (by rw [h]; decide), dev_val _ _ (by omega) (by omega)]

theorem sz_row {X : Fam} (h : row X = true) : sz X = 8 := if_pos h
theorem sz_col {X : Fam} (h : row X = false) : sz X = 4 := if_neg (by rw [h]; decide)
theorem me_row {X : Fam} (h : row X = true) (c : Dev nD) : me X c = c.val % 8 := if_pos h
theorem me_col {X : Fam} (h : row X = false) (c : Dev nD) : me X c = c.val / 8 := if_neg (by rw [h]; decide)

theorem me_lt (X : Fam) (c : Dev nD) : me X c < sz X := by
  have := c_lt c
  cases h : row X
  · rw [me_col h, sz_col h]; omega
  · rw [me_row h, sz_row h]; omega

theorem pslot_lt (X : Fam) (c : Dev nD) (o : ℕ) : pslot X c o < sz X := by
  unfold pslot; exact Nat.mod_lt _ (by have := me_lt X c; omega)

/-- The receiver's number is the one its offset names. -/
theorem me_peer (X : Fam) (c : Dev nD) (o : ℕ) : me X (peer X c o) = pslot X c o := by
  have := c_lt c
  unfold pslot
  cases h : row X
  · rw [me_col h, me_col h, sz_col h, peer_val_col h]; omega
  · rw [me_row h, me_row h, sz_row h, peer_val_row h]; omega

/-- The sender is at the complementary offset from the receiver. -/
theorem peer_peer (X : Fam) (c : Dev nD) (o : ℕ) (ho : o ≤ sz X) : peer X (peer X c o) (sz X - o) = c := by
  have := c_lt c
  apply Fin.ext
  cases h : row X
  · rw [sz_col h] at ho ⊢; rw [peer_val_col h, peer_val_col h]; omega
  · rw [sz_row h] at ho ⊢; rw [peer_val_row h, peer_val_row h]; omega

theorem pslot_peer (X : Fam) (c : Dev nD) (o : ℕ) (ho : o ≤ sz X) : pslot X (peer X c o) (sz X - o) = me X c := by
  rw [← me_peer, peer_peer X c o ho]

theorem pslot_ne_me (X : Fam) (c : Dev nD) (o : ℕ) (h1 : 1 ≤ o) (h2 : o < sz X) : pslot X c o ≠ me X c := by
  have := me_lt X c
  unfold pslot
  intro h
  rcases Nat.lt_or_ge (me X c + o) (sz X) with hl | hl
  · rw [Nat.mod_eq_of_lt hl] at h; omega
  · rw [Nat.mod_eq_sub_mod hl, Nat.mod_eq_of_lt (by omega)] at h; omega

theorem me_ne_pslot_peer (X : Fam) (c : Dev nD) (o : ℕ) (h1 : 1 ≤ o) (h2 : o < sz X) : me X c ≠ me X (peer X c o) := by
  rw [me_peer]; exact fun h => pslot_ne_me X c o h1 h2 h.symm

/-! ## Semaphores -/

/-- Where the family's send semaphores start in the pool, and its receive semaphores. -/
def sbase : Fam → ℕ | A1 => 3 | B1 => 19 | A2 => 27 | B2 => 35 | A3 => 51 | B3 => 59 | A4 => 75 | B4 => 91
def rbase : Fam → ℕ | A1 => 11 | B1 => 23 | A2 => 31 | B2 => 43 | A3 => 55 | B3 => 67 | A4 => 83 | B4 => 95

/-- The send semaphore of offset `o`; the receive semaphore of slot `s`. -/
def sS (X : Fam) (o : ℕ) : DmaSem sig := Fin.ofNat 99 (sbase X + o)
def rS (X : Fam) (s : ℕ) : DmaSem sig := Fin.ofNat 99 (rbase X + s)

/-- Which semaphore a pool index is: its family, whether a send semaphore, and its index in the array. -/
def dec (q : ℕ) : Fam × Bool × ℕ :=
  if q < 11 then (A1, true, q - 3) else if q < 19 then (A1, false, q - 11)
  else if q < 23 then (B1, true, q - 19) else if q < 27 then (B1, false, q - 23)
  else if q < 31 then (A2, true, q - 27) else if q < 35 then (A2, false, q - 31)
  else if q < 43 then (B2, true, q - 35) else if q < 51 then (B2, false, q - 43)
  else if q < 55 then (A3, true, q - 51) else if q < 59 then (A3, false, q - 55)
  else if q < 67 then (B3, true, q - 59) else if q < 75 then (B3, false, q - 67)
  else if q < 83 then (A4, true, q - 75) else if q < 91 then (A4, false, q - 83)
  else if q < 95 then (B4, true, q - 91) else (B4, false, q - 95)

theorem sz_A1 : sz A1 = 8 := rfl
theorem sz_le (X : Fam) : sz X ≤ 8 := by cases X <;> decide

theorem sS_val (X : Fam) (o : ℕ) (h : o < sz X) : (sS X o).val = sbase X + o := by
  show (sbase X + o) % 99 = _
  cases X <;> simp only [sbase, sz, row] at h ⊢ <;> simp at h <;> omega
theorem rS_val (X : Fam) (s : ℕ) (h : s < sz X) : (rS X s).val = rbase X + s := by
  show (rbase X + s) % 99 = _
  cases X <;> simp only [rbase, sz, row] at h ⊢ <;> simp at h <;> omega

theorem dec_sS (X : Fam) (o : ℕ) (h : o < sz X) : dec (sS X o).val = (X, true, o) := by
  rw [sS_val X o h]
  have h8 := sz_le X
  cases X <;> simp only [sz, row] at h <;> (simp at h; interval_cases o <;> rfl)
theorem dec_rS (X : Fam) (s : ℕ) (h : s < sz X) : dec (rS X s).val = (X, false, s) := by
  rw [rS_val X s h]
  cases X <;> simp only [sz, row] at h <;> (simp at h; interval_cases s <;> rfl)

theorem three_le_sS (X : Fam) (o : ℕ) (h : o < sz X) : 3 ≤ (sS X o).val := by rw [sS_val X o h]; cases X <;> simp [sbase] <;> omega
theorem three_le_rS (X : Fam) (o : ℕ) (h : o < sz X) : 3 ≤ (rS X o).val := by rw [rS_val X o h]; cases X <;> simp [rbase] <;> omega

/-! ## Slots of a buffer -/

/-- The elements of a buffer that a numbering `φ` puts in slot `s`. -/
def fib {I : Type} [Fintype I] (φ : I → ℕ) (s : ℕ) : Finset I := Finset.univ.filter fun i => φ i = s

theorem mem_fib {I : Type} [Fintype I] {φ : I → ℕ} {s : ℕ} {i : I} : i ∈ fib φ s ↔ φ i = s := by
  unfold fib; rw [Finset.mem_filter]; exact ⟨fun h => h.2, fun h => ⟨Finset.mem_univ _, h⟩⟩

/-- The slot of an element of a slotted buffer: its leading coordinate. -/
def lead {n a b : ℕ} (i : (⟨3, ![n, a, b]⟩ : Shape).Idx) : ℕ := (i 0).val

/-- The slot of an element of a partial sum's buffer, in blocks of eight rows. -/
def blk8 {a b : ℕ} (i : (⟨2, ![a, b]⟩ : Shape).Idx) : ℕ := (i 0).val / 8

/-- The slot of an element of the product or the result: eight blocks of 32 rows, then four of 64. -/
def half (i : S512x512.Idx) : ℕ := if (i 0).val < 256 then (i 0).val / 32 else 8 + ((i 0).val - 256) / 64

theorem set_slot {n a b : ℕ} {off : Fin 3 → ℕ} {inb} (s : ℕ) (h : off = ![s, 0, 0]) :
    (Rect.unit (s := (⟨3, ![n, a, b]⟩ : Shape)) off ![1, a, b] inb).set = fib lead s := by
  subst h
  ext i
  rw [Rect.mem_set_unit, mem_fib, Fin.forall_fin_succ, Fin.forall_fin_two]
  have h1 : (i 1).val < a := (i 1).isLt
  have h2 : (i 2).val < b := (i 2).isLt
  show (s ≤ (i 0).val ∧ (i 0).val < s + 1) ∧ (0 ≤ (i 1).val ∧ (i 1).val < 0 + a) ∧ (0 ≤ (i 2).val ∧ (i 2).val < 0 + b) ↔ (i 0).val = s
  omega

theorem set_rows {N w o h : ℕ} {off : Fin 2 → ℕ} {inb} (hoff : off = ![o, 0]) (i : (⟨2, ![N, w]⟩ : Shape).Idx) :
    i ∈ (Rect.unit (s := (⟨2, ![N, w]⟩ : Shape)) off ![h, w] inb).set ↔ o ≤ (i 0).val ∧ (i 0).val < o + h := by
  subst hoff
  rw [Rect.mem_set_unit, Fin.forall_fin_two]
  have h1 : (i 1).val < w := (i 1).isLt
  show (o ≤ (i 0).val ∧ (i 0).val < o + h) ∧ (0 ≤ (i 1).val ∧ (i 1).val < 0 + w) ↔ _
  omega

theorem set_rows8 {N w : ℕ} {off : Fin 2 → ℕ} {inb} (s : ℕ) (hoff : off = ![8 * s, 0]) :
    (Rect.unit (s := (⟨2, ![N, w]⟩ : Shape)) off ![8, w] inb).set = fib blk8 s := by
  ext i
  rw [set_rows hoff, mem_fib]; unfold blk8; omega

theorem set_half32 {off : Fin 2 → ℕ} {inb} (s : ℕ) (hs : s < 8) (hoff : off = ![32 * s, 0]) :
    (Rect.unit (s := S512x512) off ![32, 512] inb).set = fib half s := by
  ext i
  have : (i 0).val < 512 := (i 0).isLt
  rw [set_rows hoff, mem_fib]; unfold half; split <;> omega

theorem set_half64 {off : Fin 2 → ℕ} {inb} (s : ℕ) (hs : s < 4) (hoff : off = ![64 * s + 256, 0]) :
    (Rect.unit (s := S512x512) off ![64, 512] inb).set = fib half (8 + s) := by
  ext i
  have : (i 0).val < 512 := (i 0).isLt
  rw [set_rows hoff, mem_fib]; unfold half; split <;> omega

/-- A unit-stride rectangle's element under `x` is `x` moved by the offsets. -/
theorem emb_unit_val {s : Shape} {off size : Fin s.rank → ℕ} {inb} (x : (Rect.unit (s := s) off size inb).shape.Idx) (a : Fin s.rank) :
    (((Rect.unit (s := s) off size inb).emb x) a).val = off a + (x a).val := by
  show off a + 1 * (x a).val = _
  rw [Nat.one_mul]

end Cert.AllReduce

end
-- ==== Proof.Contents.lean ====
/-
What every buffer holds at each stage, as functions of the devices' two inputs.

`pV` is a device's partial product. Slot `s` of a receive buffer holds what the ring's member `s` sent; a partial
sum is the device's own rows with the received ones added in the order in which the kernel waits for them.
-/
module

public import proofs.«01_k».proof.Proof.Mesh

@[expose] public section

noncomputable section

namespace Cert.AllReduce

open Cert.KernelIdeal Cert.KernelIdeal.Gen
open Idealize.ShloMosaic Idealize.ShloMosaic.TcCoe Idealize.ShloMosaic.ValueIdx
open Fam

variable {F : FTy → Type} [FloatOps F]

/-- An index of a 512 × 512 array from its row number. -/
def mk2 (r : ℕ) (j : Fin 512) : S512x512.Idx := ix2 (Fin.ofNat 512 r) j

section
variable (dyV wV : Dev nD → Vec F S512x2048 .f32)

/-- The device's partial product. -/
def pV (c : Dev nD) : Vec F S512x512 .f32 := k0_pay1 (dyV c) (wV c)

/-- First phase, half `A`: slot `s` holds the receiver's 32 rows of rank `s`'s partial product. -/
def rsA1V (c : Dev nD) : Vec F S8x32x512 .f32 := fun i =>
  pV dyV wV (dev (c.val / 8) (i 0).val) (mk2 (32 * (c.val % 8) + (i 1).val) (i 2))

/-- First phase, half `B`: slot `s` holds the receiver's 64 rows of group `s`'s partial product. -/
def rsB1V (c : Dev nD) : Vec F S4x64x512 .f32 := fun i =>
  pV dyV wV (dev (i 0).val (c.val % 8)) (mk2 (64 * (c.val / 8) + 256 + (i 1).val) (i 2))

/-- The device's own 32 rows of half `A` and 64 rows of half `B`. -/
def ownA (c : Dev nD) : Vec F S32x512 .f32 := fun i => pV dyV wV c (mk2 (32 * (c.val % 8) + (i 0).val) (i 1))
def ownB (c : Dev nD) : Vec F S64x512 .f32 := fun i => pV dyV wV c (mk2 (64 * (c.val / 8) + 256 + (i 0).val) (i 1))

/-- A slot of the first phase's buffers, as it is read. -/
def slotA1 (c : Dev nD) (s : ℕ) : Vec F S1x32x512 .f32 := fun i => rsA1V dyV wV c (ix3 (Fin.ofNat 8 s) (i 1) (i 2))
def slotB1 (c : Dev nD) (s : ℕ) : Vec F S1x64x512 .f32 := fun i => rsB1V dyV wV c (ix3 (Fin.ofNat 4 s) (i 1) (i 2))

/-- The running sum over the ranks, after `k` of the others. -/
def accA (c : Dev nD) : ℕ → Vec F S32x512 .f32
  | 0 => k0_pay2 (ownA dyV wV c)
  | k + 1 => k0_pay4 (accA c k) (slotA1 dyV wV c (pslot A1 c (k + 1)))

/-- The running sum over the groups, after `k` of the others. -/
def accB (c : Dev nD) : ℕ → Vec F S64x512 .f32
  | 0 => k0_pay3 (ownB dyV wV c)
  | k + 1 => k0_pay11 (accB c k) (slotB1 dyV wV c (pslot B1 c (k + 1)))

/-- The first phase's results. -/
def redAV (c : Dev nD) : Vec F S32x512 .f32 := accA dyV wV c 7
def redBV (c : Dev nD) : Vec F S64x512 .f32 := accB dyV wV c 3

/-- Second phase: slot `s` holds the receiver's 8 rows of the sum of group `s` (half `A`), of rank `s` (half `B`). -/
def rsA2V (c : Dev nD) : Vec F S4x8x512 .f32 := fun i =>
  redAV dyV wV (dev (i 0).val (c.val % 8)) (ix2 (Fin.ofNat 32 (8 * (c.val / 8) + (i 1).val)) (i 2))
def rsB2V (c : Dev nD) : Vec F S8x8x512 .f32 := fun i =>
  redBV dyV wV (dev (c.val / 8) (i 0).val) (ix2 (Fin.ofNat 64 (8 * (c.val % 8) + (i 1).val)) (i 2))

/-- The device's 8 finished rows of each half. -/
def sumAV (c : Dev nD) : Vec F S1x8x512 .f32 := k0_pay16 (rsA2V dyV wV c)
def sumBV (c : Dev nD) : Vec F S1x8x512 .f32 := k0_pay17 (rsB2V dyV wV c)

/-- Third phase: the finished rows gathered over the groups (half `A`) and over the ranks (half `B`). -/
def agA2V (c : Dev nD) : Vec F S4x8x512 .f32 := fun i =>
  sumAV dyV wV (dev (i 0).val (c.val % 8)) (ix3 (0 : Fin 1) (i 1) (i 2))
def agB2V (c : Dev nD) : Vec F S8x8x512 .f32 := fun i =>
  sumBV dyV wV (dev (c.val / 8) (i 0).val) (ix3 (0 : Fin 1) (i 1) (i 2))

/-- The result, the same on every device: rows `32 r + 8 g + i` of half `A` from device `(g, r)`, rows
`256 + 64 g + 8 r + i` of half `B` from device `(g, r)`. -/
def outV : Vec F S512x512 .f32 := fun i =>
  if (i 0).val < 256 then
    sumAV dyV wV (dev ((i 0).val % 32 / 8) ((i 0).val / 32)) (ix3 (0 : Fin 1) (Fin.ofNat 8 ((i 0).val % 8)) (i 1))
  else
    sumBV dyV wV (dev (((i 0).val - 256) / 64) (((i 0).val - 256) % 64 / 8)) (ix3 (0 : Fin 1) (Fin.ofNat 8 ((i 0).val % 8)) (i 1))

end

/-! ## What each family sends and receives, elementwise -/

section
variable (dyV wV : Dev nD → Vec F S512x2048 .f32)

omit [FloatOps F] in
theorem dev_me (c : Dev nD) : dev (c.val / 8) (c.val % 8) = c := by
  have := c_lt c
  apply Fin.ext; rw [dev_val _ _ (by omega) (by omega)]; omega

theorem peer_row_div {X : Fam} (h : row X = true) (c : Dev nD) (o : ℕ) : (peer X c o).val / 8 = c.val / 8 := by
  have := c_lt c
  rw [peer_val_row h]; omega
theorem peer_row_mod {X : Fam} (h : row X = true) (c : Dev nD) (o : ℕ) : (peer X c o).val % 8 = (c.val % 8 + o) % 8 := by
  have := c_lt c
  rw [peer_val_row h]; omega
theorem peer_col_div {X : Fam} (h : row X = false) (c : Dev nD) (o : ℕ) : (peer X c o).val / 8 = (c.val / 8 + o) % 4 := by
  have := c_lt c
  rw [peer_val_col h]; omega
theorem peer_col_mod {X : Fam} (h : row X = false) (c : Dev nD) (o : ℕ) : (peer X c o).val % 8 = c.val % 8 := by
  have := c_lt c
  rw [peer_val_col h]; omega

theorem ofNat_val {n : ℕ} [NeZero n] (a : Fin n) : Fin.ofNat n a.val = a := Fin.ext (Nat.mod_eq_of_lt a.isLt)

end

end Cert.AllReduce

end
-- ==== Proof.Schedule.lean ====
/-
The protocol: which semaphore is credited by whom, how much, and what each credit hands over.

A device's barrier semaphore gets one unit from each other member of its group and of its rank's ring: ten in all.
With its unit a device hands over its own landing places, one in the buffer of each of the four families that run in
that ring. A receive semaphore of slot `s` gets the one copy that the ring's member `s` sends there, and hands over
the slot with the contents. A send semaphore gets the credit of the one copy that names it, and hands the source back.
-/
module

public import proofs.«01_k».proof.Proof.Contents

@[expose] public section

noncomputable section

namespace Cert.AllReduce

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Fam

variable {F : FTy → Type} [FloatOps F]

/-- The protocol's ghost state: one token per duty, a barrier's duties numbered. -/
abbrev UB : Type := URounds (GSem nD τ sig) ℕ
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Big separating conjunctions over ranges -/

section BigSep
variable {M : Type} [URA M]

theorem bigSep_Ico_head {a b : ℕ} (h : a < b) (Φ : ℕ → sProp M) :
    bigSep (Finset.Ico a b) Φ = iprop(Φ a ∗ bigSep (Finset.Ico (a + 1) b) Φ) := by
  rw [show Finset.Ico a b = insert a (Finset.Ico (a + 1) b) from by ext x; simp only [Finset.mem_insert, Finset.mem_Ico]; omega]
  exact bigSep_insert (by simp)

theorem bigSep_Ico_last {a b : ℕ} (h : a ≤ b) (Φ : ℕ → sProp M) :
    bigSep (Finset.Ico a (b + 1)) Φ = iprop(Φ b ∗ bigSep (Finset.Ico a b) Φ) := by
  rw [show Finset.Ico a (b + 1) = insert b (Finset.Ico a b) from by ext x; simp only [Finset.mem_insert, Finset.mem_Ico]; omega]
  exact bigSep_insert (by simp)

theorem bigSep_Ico_self (a : ℕ) (Φ : ℕ → sProp M) : bigSep (Finset.Ico a a) Φ = iprop(emp) := by
  rw [Finset.Ico_self]; exact bigSep_empty

theorem bigSep_mapped {I J : Type} [DecidableEq I] [DecidableEq J] {s : Finset I} {f : I → J} {t : Finset J} (hf : Set.InjOn f s) (ht : s.image f = t) (Φ : J → sProp M) :
    bigSep t Φ = bigSep s fun i => Φ (f i) := by
  subst ht
  induction s using Finset.induction_on with
  | empty => rw [Finset.image_empty, bigSep_empty, bigSep_empty]
  | insert a s ha ih =>
    have hfs : Set.InjOn f s := hf.mono (by simp)
    have hn : f a ∉ s.image f := fun h => by
      obtain ⟨b, hb, e⟩ := Finset.mem_image.mp h
      exact ha ((hf (by simp [hb]) (by simp) e) ▸ hb)
    rw [Finset.image_insert, bigSep_insert hn, bigSep_insert ha, ih hfs]

/-- A ring's members, seen from one of them: itself, then by offset. -/
theorem bigSep_rotate {n c : ℕ} (h : c < n) (Φ : ℕ → sProp M) :
    bigSep (Finset.range n) Φ = iprop(Φ c ∗ bigSep (Finset.Ico 1 n) fun o => Φ ((c + o) % n)) := by
  rw [show bigSep (Finset.range n) Φ = bigSep (Finset.Ico 0 n) fun o => Φ ((c + o) % n) from
    bigSep_mapped (f := fun o => (c + o) % n)
      (fun a ha b hb e => by
        simp only [Finset.coe_Ico, Set.mem_Ico] at ha hb
        have e : (c + a) % n = (c + b) % n := e
        rcases Nat.lt_or_ge (c + a) n with h1 | h1 <;> rcases Nat.lt_or_ge (c + b) n with h2 | h2
        · rw [Nat.mod_eq_of_lt h1, Nat.mod_eq_of_lt h2] at e; omega
        · rw [Nat.mod_eq_of_lt h1, Nat.mod_eq_sub_mod h2, Nat.mod_eq_of_lt (by omega)] at e; omega
        · rw [Nat.mod_eq_sub_mod h1, Nat.mod_eq_of_lt (by omega), Nat.mod_eq_of_lt h2] at e; omega
        · rw [Nat.mod_eq_sub_mod h1, Nat.mod_eq_of_lt (by omega), Nat.mod_eq_sub_mod h2, Nat.mod_eq_of_lt (by omega)] at e; omega)
      (by
        ext x
        simp only [Finset.mem_image, Finset.mem_Ico, Finset.mem_range]
        constructor
        · rintro ⟨a, -, rfl⟩; exact Nat.mod_lt _ (by omega)
        · intro hx
          rcases Nat.lt_or_ge x c with h1 | h1
          · exact ⟨x + n - c, by omega, by rw [show c + (x + n - c) = x + n by omega, Nat.add_mod_right, Nat.mod_eq_of_lt hx]⟩
          · exact ⟨x - c, by omega, by rw [show c + (x - c) = x by omega, Nat.mod_eq_of_lt hx]⟩)
      Φ, bigSep_Ico_head (by omega)]
  rw [Nat.add_zero, Nat.mod_eq_of_lt h]

theorem bigSep_fin_range (n : ℕ) (Φ : ℕ → sProp M) :
    bigSep (Finset.univ : Finset (Fin n)) (fun k => Φ k.val) = bigSep (Finset.range n) Φ :=
  (bigSep_mapped (s := (Finset.univ : Finset (Fin n))) (f := fun k : Fin n => k.val) (fun a _ b _ e => Fin.ext e)
    (by ext x; simp only [Finset.mem_image, Finset.mem_univ, true_and, Finset.mem_range]; exact ⟨fun ⟨a, e⟩ => e ▸ a.isLt, fun h => ⟨⟨x, h⟩, rfl⟩⟩) Φ).symm

/-- The whole of a buffer, by slots. -/
theorem pts_fibs {ℓ : Loc nD τ sig} (φ : Idx ℓ → ℕ) (n : ℕ) (h : ∀ i, φ i < n) (q : PosShare TreeShare) (f : Buf (Elt F) ℓ) :
    (ℓ ↦{q} f : sProp 𝕄) = bigSep (Finset.range n) fun s => ℓ ↦[fib φ s]{q} f := by
  rw [← pointsTo_biUnion (Finset.range n) (fun s => fib φ s) (fun s _ t _ hst => Finset.disjoint_left.mpr fun i h1 h2 => hst ((mem_fib.mp h1).symm.trans (mem_fib.mp h2)))]
  congr 1
  ext i
  simp only [Finset.mem_univ, Finset.mem_biUnion, Finset.mem_range, true_iff]
  exact ⟨φ i, h i, mem_fib.mpr rfl⟩

end BigSep

/-! ## Cells -/

abbrev barS : Sem sig := (SemArray.scalar (sig.barrier 0 rfl) : Sems sig S_).sem

abbrev barCell (c : Dev nD) : GSem nD τ sig := ((c : Thread nD τ), .reg barS)
abbrev sCell (X : Fam) (c : Dev nD) (o : ℕ) : GSem nD τ sig := ((c : Thread nD τ), .dma (sS X o))
abbrev rCell (X : Fam) (c : Dev nD) (s : ℕ) : GSem nD τ sig := ((c : Thread nD τ), .dma (rS X s))

/-- The kernel's own semaphores: a family's send and receive semaphores. -/
abbrev KX : Type := (X : Fam) × Bool × Fin (sz X)
abbrev osem : KX → SemLoc sig := fun k => if k.2.1 then .dma (sS k.1 k.2.2.val) else .dma (rS k.1 k.2.2.val)
/-- With the barrier semaphore. -/
abbrev csem : Option KX → SemLoc sig := fun | none => .reg barS | some k => osem k
abbrev kcell (ck : Dev nD × Option KX) : GSem nD τ sig := ((ck.1 : Thread nD τ), csem ck.2)

set_option backward.proofsInPublic true in
/-- The index of a send and of a receive semaphore. -/
abbrev kS (X : Fam) (o : ℕ) (h : o < sz X) : Option KX := some ⟨X, true, ⟨o, h⟩⟩
set_option backward.proofsInPublic true in
abbrev kR (X : Fam) (s : ℕ) (h : s < sz X) : Option KX := some ⟨X, false, ⟨s, h⟩⟩

/-- The units of a family's copy: those of its tile. -/
def cr : Fam → ℕ
  | A1 | A4 => RefSig.tileCredit S32x512 .f32
  | B1 | B4 => RefSig.tileCredit S64x512 .f32
  | A2 | B2 | A3 | B3 => RefSig.tileCredit S8x512 .f32

/-- The share that the copy at offset `o` borrows of a source that several copies read at once. -/
def lf (n o : ℕ) : PosShare TreeShare := ShareLeaves.leaf n fullShare.right ⟨o % 2 ^ n, Nat.mod_lt _ (Nat.two_pow_pos n)⟩

/-- The lent half of a source, cut into the copies' shares. -/
theorem pts_lf {ℓ : Loc nD τ sig} (I : Finset (Idx ℓ)) (f : Buf (Elt F) ℓ) (n : ℕ) :
    (ℓ ↦[I]{fullShare.right} f : sProp 𝕄) = bigSep (Finset.range (2 ^ n)) fun o => ℓ ↦[I]{lf n o} f := by
  rw [ShareLeaves.pointsTo_leaves I f n fullShare.right, ← bigSep_fin_range]
  refine bigSep_congr fun i _ => ?_
  unfold lf
  rw [show (⟨i.val % 2 ^ n, Nat.mod_lt _ (Nat.two_pow_pos n)⟩ : Fin (2 ^ n)) = i from Fin.ext (Nat.mod_eq_of_lt i.isLt)]

theorem cr_pos (X : Fam) : 0 < cr X := by cases X <;> decide

/-! ## What the credits hand over -/

section Pts
variable (dyV wV : Dev nD → Vec F S512x2048 .f32)

/-- The source of device `c`'s copy at offset `o`, at the share that is lent to the copy. -/
def sendPts (X : Fam) (c : Dev nD) (o : ℕ) : sProp 𝕄 := match X with
  | A1 => ((c : Thread nD τ).loc cc0_scratch0) ↦[fib half (pslot A1 c o)]{fullShare} pV dyV wV c
  | B1 => ((c : Thread nD τ).loc cc0_scratch0) ↦[fib half (8 + pslot B1 c o)]{fullShare} pV dyV wV c
  | A2 => ((c : Thread nD τ).loc cc0_scratch3) ↦[fib blk8 (pslot A2 c o)]{fullShare} redAV dyV wV c
  | B2 => ((c : Thread nD τ).loc cc0_scratch4) ↦[fib blk8 (pslot B2 c o)]{fullShare} redBV dyV wV c
  | A3 => ((c : Thread nD τ).loc cc0_scratch7) ↦[fib lead (me A3 c)]{lf 2 o} agA2V dyV wV c
  | B3 => ((c : Thread nD τ).loc cc0_scratch8) ↦[fib lead (me B3 c)]{lf 3 o} agB2V dyV wV c
  | A4 => ((c : Thread nD τ).loc cc0_stg2_0) ↦[fib half (me A4 c)]{lf 3 o} outV dyV wV
  | B4 => ((c : Thread nD τ).loc cc0_stg2_0) ↦[fib half (8 + me B4 c)]{lf 2 o} outV dyV wV

/-- Slot `s` of device `c`'s receive buffer with what the ring's member `s` sent. -/
def recvPts (X : Fam) (c : Dev nD) (s : ℕ) : sProp 𝕄 := match X with
  | A1 => ((c : Thread nD τ).loc cc0_scratch1) ↦[fib lead s]{fullShare} rsA1V dyV wV c
  | B1 => ((c : Thread nD τ).loc cc0_scratch2) ↦[fib lead s]{fullShare} rsB1V dyV wV c
  | A2 => ((c : Thread nD τ).loc cc0_scratch5) ↦[fib lead s]{fullShare} rsA2V dyV wV c
  | B2 => ((c : Thread nD τ).loc cc0_scratch6) ↦[fib lead s]{fullShare} rsB2V dyV wV c
  | A3 => ((c : Thread nD τ).loc cc0_scratch7) ↦[fib lead s]{fullShare} agA2V dyV wV c
  | B3 => ((c : Thread nD τ).loc cc0_scratch8) ↦[fib lead s]{fullShare} agB2V dyV wV c
  | A4 => ((c : Thread nD τ).loc cc0_stg2_0) ↦[fib half s]{fullShare} outV dyV wV
  | B4 => ((c : Thread nD τ).loc cc0_stg2_0) ↦[fib half (8 + s)]{fullShare} outV dyV wV

/-- The same slot with any contents: a landing place. -/
def dstPts (X : Fam) (c : Dev nD) (s : ℕ) : sProp 𝕄 := match X with
  | A1 => iprop(∃ f, ((c : Thread nD τ).loc cc0_scratch1) ↦[fib lead s]{fullShare} f)
  | B1 => iprop(∃ f, ((c : Thread nD τ).loc cc0_scratch2) ↦[fib lead s]{fullShare} f)
  | A2 => iprop(∃ f, ((c : Thread nD τ).loc cc0_scratch5) ↦[fib lead s]{fullShare} f)
  | B2 => iprop(∃ f, ((c : Thread nD τ).loc cc0_scratch6) ↦[fib lead s]{fullShare} f)
  | A3 => iprop(∃ f, ((c : Thread nD τ).loc cc0_scratch7) ↦[fib lead s]{fullShare} f)
  | B3 => iprop(∃ f, ((c : Thread nD τ).loc cc0_scratch8) ↦[fib lead s]{fullShare} f)
  | A4 => iprop(∃ f, ((c : Thread nD τ).loc cc0_stg2_0) ↦[fib half s]{fullShare} f)
  | B4 => iprop(∃ f, ((c : Thread nD τ).loc cc0_stg2_0) ↦[fib half (8 + s)]{fullShare} f)

omit [FloatOps F] in
instance dstPts_storable (X : Fam) (c : Dev nD) (s : ℕ) : BI.Storable (upEmb : UEmb _ 𝕄) (dstPts (F := F) X c s) := by
  cases X <;> (unfold dstPts; infer_instance)
instance recvPts_storable (X : Fam) (c : Dev nD) (s : ℕ) : BI.Storable (upEmb : UEmb _ 𝕄) (recvPts dyV wV X c s) := by
  cases X <;> (unfold recvPts; infer_instance)
instance sendPts_storable (X : Fam) (c : Dev nD) (o : ℕ) : BI.Storable (upEmb : UEmb _ 𝕄) (sendPts dyV wV X c o) := by
  cases X <;> (unfold sendPts; infer_instance)

/-- What a member of the group at offset `o` hands device `c`: its landing places for `c`'s copies. -/
def rowPay (c : Dev nD) (s : ℕ) : sProp 𝕄 := iprop(dstPts A1 c s ∗ dstPts B2 c s ∗ dstPts B3 c s ∗ dstPts A4 c s)
/-- What a device of the same rank at offset `o` hands device `c`. -/
def colPay (c : Dev nD) (s : ℕ) : sProp 𝕄 := iprop(dstPts B1 c s ∗ dstPts A2 c s ∗ dstPts A3 c s ∗ dstPts B4 c s)

/-- The payload of duty `k` of device `c`'s barrier: the first seven from its group, at offset `k + 1`, the last three
    from its rank's ring, at offset `k - 6`. -/
def barPay (c : Dev nD) (k : ℕ) : sProp 𝕄 :=
  if k < 7 then rowPay (peer A1 c (k + 1)) (me A1 c) else colPay (peer B1 c (k - 6)) (me B1 c)

omit [FloatOps F] in
instance barPay_storable (c : Dev nD) (k : ℕ) : BI.Storable (upEmb : UEmb _ 𝕄) (barPay (F := F) c k) := by
  unfold barPay rowPay colPay; split <;> infer_instance

/-- Whether the protocol uses a DMA semaphore on device `c`: not the staging ones, not the send semaphore of offset 0,
    not the receive semaphore of the device's own slot. -/
def used (c : Dev nD) (q : ℕ) : Bool :=
  decide (3 ≤ q) && (if (dec q).2.1 then decide ((dec q).2.2 ≠ 0) else decide ((dec q).2.2 ≠ me (dec q).1 c))

/-- One round. -/
def Rd : Rounds.Schedule (GSem nD τ sig) ℕ 𝕄 where
  duties g r := if r = 0 ∧ g.1.2 = .tc then (match g.2 with
    | .reg _ => Finset.range 10
    | .dma q => if used g.1.1 q.val then {0} else ∅) else ∅
  unitless _ := False
  amount g _ _ := match g.2 with
    | .reg _ => 1
    | .dma q => cr (dec q.val).1
  payload g _ d := match g.2 with
    | .reg _ => barPay g.1.1 d
    | .dma q => if (dec q.val).2.1 then sendPts dyV wV (dec q.val).1 g.1.1 (dec q.val).2.2 else recvPts dyV wV (dec q.val).1 g.1.1 (dec q.val).2.2
  amount_pos g _ _ _ := by
    rcases g with ⟨t, sm⟩
    cases sm with
    | reg _ => exact Nat.one_pos
    | dma q => exact cr_pos _

instance Rd_payload_storable (g : GSem nD τ sig) (r : ℕ) (d : ℕ) :
    BI.Storable (upEmb : UEmb _ 𝕄) ((Rd dyV wV).payload g r d) := by
  rcases g with ⟨t, sm⟩
  cases sm with
  | reg _ => show BI.Storable upEmb (barPay t.1 d); infer_instance
  | dma q => show BI.Storable upEmb (if (dec q.val).2.1 then sendPts dyV wV (dec q.val).1 t.1 (dec q.val).2.2 else recvPts dyV wV (dec q.val).1 t.1 (dec q.val).2.2); split <;> infer_instance

theorem duties_bar (c : Dev nD) : (Rd dyV wV).duties (barCell c) 0 = Finset.range 10 := by
  dsimp only [Rd]; exact if_pos ⟨rfl, rfl⟩
theorem duties_s (X : Fam) (c : Dev nD) (o : ℕ) (h1 : 1 ≤ o) (h2 : o < sz X) : (Rd dyV wV).duties (sCell X c o) 0 = {0} := by
  dsimp only [Rd]; rw [if_pos ⟨rfl, rfl⟩]
  refine if_pos ?_
  unfold used; rw [dec_sS X o h2]
  simp only [Bool.and_eq_true, decide_eq_true_eq, if_true]
  exact ⟨three_le_sS X o h2, by omega⟩
theorem duties_r (X : Fam) (c : Dev nD) (s : ℕ) (h1 : s ≠ me X c) (h2 : s < sz X) : (Rd dyV wV).duties (rCell X c s) 0 = {0} := by
  dsimp only [Rd]; rw [if_pos ⟨rfl, rfl⟩]
  refine if_pos ?_
  unfold used; rw [dec_rS X s h2]
  simp only [Bool.and_eq_true, decide_eq_true_eq, Bool.false_eq_true, if_false]
  exact ⟨three_le_rS X s h2, h1⟩
theorem duties_later (g : GSem nD τ sig) : ∀ r, 1 ≤ r → (Rd dyV wV).duties g r = ∅ :=
  fun r hr => by dsimp only [Rd]; rw [if_neg fun h => by omega]
/-- The two semaphores of a family that a device does not use have no duty at all. -/
theorem duties_s0 (X : Fam) (c : Dev nD) : ∀ r, 0 ≤ r → (Rd dyV wV).duties (sCell X c 0) r = ∅ := fun r _ => by
  have h : 0 < sz X := by cases X <;> decide
  dsimp only [Rd]
  split
  · refine if_neg ?_
    unfold used; rw [dec_sS X 0 h]; simp
  · rfl
theorem duties_rme (X : Fam) (c : Dev nD) : ∀ r, 0 ≤ r → (Rd dyV wV).duties (rCell X c (me X c)) r = ∅ := fun r _ => by
  dsimp only [Rd]
  split
  · refine if_neg ?_
    unfold used; rw [dec_rS X _ (me_lt X c)]; simp
  · rfl

theorem amount_bar (c : Dev nD) (d : ℕ) : (Rd dyV wV).amount (barCell c) 0 d = 1 := rfl
theorem amount_s (X : Fam) (c : Dev nD) (o d : ℕ) (h : o < sz X) : (Rd dyV wV).amount (sCell X c o) 0 d = cr X := by
  show cr (dec (sS X o).val).1 = _; rw [dec_sS X o h]
theorem amount_r (X : Fam) (c : Dev nD) (s d : ℕ) (h : s < sz X) : (Rd dyV wV).amount (rCell X c s) 0 d = cr X := by
  show cr (dec (rS X s).val).1 = _; rw [dec_rS X s h]

theorem payload_bar (c : Dev nD) (d : ℕ) : (Rd dyV wV).payload (barCell c) 0 d = barPay c d := rfl
theorem payload_s (X : Fam) (c : Dev nD) (o d : ℕ) (h : o < sz X) : (Rd dyV wV).payload (sCell X c o) 0 d = sendPts dyV wV X c o := by
  show (if (dec (sS X o).val).2.1 then sendPts dyV wV (dec (sS X o).val).1 c (dec (sS X o).val).2.2 else recvPts dyV wV (dec (sS X o).val).1 c (dec (sS X o).val).2.2) = _
  rw [dec_sS X o h]; rfl
theorem payload_r (X : Fam) (c : Dev nD) (s d : ℕ) (h : s < sz X) : (Rd dyV wV).payload (rCell X c s) 0 d = recvPts dyV wV X c s := by
  show (if (dec (rS X s).val).2.1 then sendPts dyV wV (dec (rS X s).val).1 c (dec (rS X s).val).2.2 else recvPts dyV wV (dec (rS X s).val).1 c (dec (rS X s).val).2.2) = _
  rw [dec_rS X s h]; rfl

theorem expect_bar (c : Dev nD) : (Rd dyV wV).expect (barCell c) 0 = 10 := by
  unfold Schedule.expect Schedule.amountOf
  rw [duties_bar, Finset.sum_congr rfl fun d _ => amount_bar dyV wV c d, Finset.sum_const, Finset.card_range, smul_eq_mul]
theorem expect_s (X : Fam) (c : Dev nD) (o : ℕ) (h1 : 1 ≤ o) (h2 : o < sz X) : (Rd dyV wV).expect (sCell X c o) 0 = cr X := by
  unfold Schedule.expect Schedule.amountOf; rw [duties_s dyV wV X c o h1 h2, Finset.sum_singleton, amount_s dyV wV X c o 0 h2]
theorem expect_r (X : Fam) (c : Dev nD) (s : ℕ) (h1 : s ≠ me X c) (h2 : s < sz X) : (Rd dyV wV).expect (rCell X c s) 0 = cr X := by
  unfold Schedule.expect Schedule.amountOf; rw [duties_r dyV wV X c s h1 h2, Finset.sum_singleton, amount_r dyV wV X c s 0 h2]

theorem rest_s (X : Fam) (c : Dev nD) (o : ℕ) (h1 : 1 ≤ o) (h2 : o < sz X) :
    bigSep ((Rd dyV wV).duties (sCell X c o) 0 \ ∅) (fun d => (Rd dyV wV).payload (sCell X c o) 0 d) = sendPts dyV wV X c o := by
  rw [Finset.sdiff_empty, duties_s dyV wV X c o h1 h2, bigSep_singleton, payload_s dyV wV X c o 0 h2]
theorem rest_r (X : Fam) (c : Dev nD) (s : ℕ) (h1 : s ≠ me X c) (h2 : s < sz X) :
    bigSep ((Rd dyV wV).duties (rCell X c s) 0 \ ∅) (fun d => (Rd dyV wV).payload (rCell X c s) 0 d) = recvPts dyV wV X c s := by
  rw [Finset.sdiff_empty, duties_r dyV wV X c s h1 h2, bigSep_singleton, payload_r dyV wV X c s 0 h2]

omit [FloatOps F] in
/-- The ten duties, by ring and offset. -/
theorem bigSep_ten (Φ : ℕ → sProp 𝕄) :
    bigSep (Finset.range 10) Φ = iprop((bigSep (Finset.Ico 1 8) fun o => Φ (o - 1)) ∗ bigSep (Finset.Ico 1 4) fun o => Φ (o + 6)) := by
  rw [show Finset.range 10 = Finset.range 7 ∪ Finset.Ico 7 10 from by decide, bigSep_union (by decide),
    bigSep_mapped (s := Finset.Ico 1 8) (f := fun o => o - 1) (t := Finset.range 7)
      (fun a ha b hb e => by simp only [Finset.coe_Ico, Set.mem_Ico] at ha hb; have e : a - 1 = b - 1 := e; omega) (by decide),
    bigSep_mapped (s := Finset.Ico 1 4) (f := fun o => o + 6) (t := Finset.Ico 7 10) (fun a _ b _ e => by have e : a + 6 = b + 6 := e; omega) (by decide)]
  rfl

theorem rest_bar (c : Dev nD) :
    bigSep ((Rd dyV wV).duties (barCell c) 0 \ ∅) (fun d => (Rd dyV wV).payload (barCell c) 0 d)
      = iprop((bigSep (Finset.Ico 1 8) fun o => rowPay (peer A1 c o) (me A1 c)) ∗ bigSep (Finset.Ico 1 4) fun o => colPay (peer B1 c o) (me B1 c)) := by
  rw [Finset.sdiff_empty, duties_bar, bigSep_ten]
  refine congrArg₂ BI.sep ?_ ?_
  · refine bigSep_congr fun o ho => ?_
    have := Finset.mem_Ico.mp ho
    rw [payload_bar]; unfold barPay; rw [if_pos (by omega), Nat.sub_add_cancel (by omega)]
  · refine bigSep_congr fun o ho => ?_
    have := Finset.mem_Ico.mp ho
    rw [payload_bar]; unfold barPay; rw [if_neg (by omega), Nat.add_sub_cancel]

/-- What device `c` hands the member of its group at offset `o`, paying that device's duty `7 - o`. -/
theorem payload_row (c : Dev nD) (o : ℕ) (h1 : 1 ≤ o) (h2 : o < 8) :
    (Rd dyV wV).payload (barCell (peer A1 c o)) 0 (7 - o) = rowPay c (pslot A1 c o) := by
  rw [payload_bar]; unfold barPay
  rw [if_pos (by omega), show 7 - o + 1 = sz A1 - o from by rw [sz_A1]; omega, peer_peer A1 c o (by rw [sz_A1]; omega), me_peer]
/-- What it hands the device of its rank at offset `o`, paying that device's duty `10 - o`. -/
theorem payload_col (c : Dev nD) (o : ℕ) (h1 : 1 ≤ o) (h2 : o < 4) :
    (Rd dyV wV).payload (barCell (peer B1 c o)) 0 (10 - o) = colPay c (pslot B1 c o) := by
  rw [payload_bar]; unfold barPay
  rw [if_neg (by omega), show 10 - o - 6 = sz B1 - o from by rw [show sz B1 = 4 from rfl]; omega,
    peer_peer B1 c o (by rw [show sz B1 = 4 from rfl]; omega), me_peer]

end Pts

end Cert.AllReduce

end
-- ==== Proof.Dues.lean ====
/-
What a device owes, in the order in which it pays, and the levels that let it wait.

A device pays ten units to the others' barriers and then the credits of its copies to the receivers, phase by phase.
A barrier is at level 1, a receive semaphore of phase `n` at level `n + 1`: whenever a device waits on one, all it
still owes is at higher levels. It waits on its send semaphores when it owes nothing.
-/
module

public import proofs.«01_k».proof.Proof.Schedule

@[expose] public section

noncomputable section

namespace Cert.AllReduce

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Fam

variable {F : FTy → Type} [FloatOps F]

local notation "𝕄" => MT nD τ sig Unit (Elt F) ℕ UU ℕ

/-! ## Levels -/

/-- A family's phase. -/
def phase : Fam → ℕ
  | A1 | B1 => 1
  | A2 | B2 => 2
  | A3 | B3 => 3
  | A4 | B4 => 4

def L (g : GSem nD τ sig) : Finset Unit := if g.1.2 = .tc then {()} else ∅

/-- A DMA semaphore's level: its phase's if it is a receive semaphore, else 0. -/
def lvq (q : ℕ) : ℕ := if q < 3 then 0 else if (dec q).2.1 then 0 else phase (dec q).1 + 1

/-- Barriers at 1, the receive semaphores of phase `n` at `n + 1`, everything else at 0. -/
def lv (g : GSem nD τ sig) (_ : Unit) : ℕ := match g.2 with
  | .reg _ => 1
  | .dma q => lvq q.val

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := rfl
theorem lv_r (X : Fam) (c : Dev nD) (s : ℕ) (h : s < sz X) (u : Unit) : lv (rCell X c s) u = phase X + 1 := by
  show lvq (rS X s).val = _
  unfold lvq
  rw [if_neg (by have := three_le_rS X s h; omega), dec_rS X s h]; rfl

/-! ## Dues -/

/-- One payment. -/
abbrev Pay : Type := GSem nD τ sig × ℕ

/-- The receive cell that device `c`'s copy at offset `o` credits. -/
abbrev outCell (X : Fam) (c : Dev nD) (o : ℕ) : GSem nD τ sig := rCell X (peer X c o) (me X c)

/-- The payments of a family's copies. -/
def famDue (X : Fam) (c : Dev nD) : List Pay := (List.range (sz X - 1)).map fun i => (outCell X c (i + 1), cr X)

/-- All of a device's payments, in order. -/
def dueL (c : Dev nD) : List Pay :=
  ((List.range 7).map fun i => (barCell (peer A1 c (i + 1)), 1)) ++ ((List.range 3).map fun i => (barCell (peer B1 c (i + 1)), 1))
    ++ famDue A1 c ++ famDue B1 c ++ famDue A2 c ++ famDue B2 c ++ famDue A3 c ++ famDue B3 c ++ famDue A4 c ++ famDue B4 c

/-! ## Which payment comes when -/

theorem fam_get (X : Fam) (c : Dev nD) (o : ℕ) (h1 : 1 ≤ o) (h2 : o < sz X) : (famDue X c)[o - 1]? = some (outCell X c o, cr X) := by
  unfold famDue
  rw [List.getElem?_map, List.getElem?_range (by omega), Option.map_some, Nat.sub_add_cancel h1]

theorem fam_len (X : Fam) (c : Dev nD) : (famDue X c).length = sz X - 1 := by
  unfold famDue; rw [List.length_map, List.length_range]

theorem sz_all : sz A1 = 8 ∧ sz B1 = 4 ∧ sz A2 = 4 ∧ sz B2 = 8 ∧ sz A3 = 4 ∧ sz B3 = 8 ∧ sz A4 = 8 ∧ sz B4 = 4 := by decide

theorem get_row (c : Dev nD) (o : ℕ) (h1 : 1 ≤ o) (h2 : o < 8) : (dueL c)[o - 1]? = some (barCell (peer A1 c o), 1) := by
  have ⟨e1, e2, e3, e4, e5, e6, e7, e8⟩ := sz_all
  unfold dueL
  repeat rw [List.getElem?_append_left (by simp only [List.length_append, List.length_map, List.length_range, fam_len]; omega)]
  rw [List.getElem?_map, List.getElem?_range (by omega), Option.map_some, Nat.sub_add_cancel h1]

theorem get_col (c : Dev nD) (o : ℕ) (h1 : 1 ≤ o) (h2 : o < 4) : (dueL c)[7 + (o - 1)]? = some (barCell (peer B1 c o), 1) := by
  have ⟨e1, e2, e3, e4, e5, e6, e7, e8⟩ := sz_all
  unfold dueL
  rw [List.getElem?_append_left (by simp only [List.length_append, List.length_map, List.length_range, fam_len]; omega)]
  rw [List.getElem?_append_left (by simp only [List.length_append, List.length_map, List.length_range, fam_len]; omega)]
  rw [List.getElem?_append_left (by simp only [List.length_append, List.length_map, List.length_range, fam_len]; omega)]
  rw [List.getElem?_append_left (by simp only [List.length_append, List.length_map, List.length_range, fam_len]; omega)]
  rw [List.getElem?_append_left (by simp only [List.length_append, List.length_map, List.length_range, fam_len]; omega)]
  rw [List.getElem?_append_left (by simp only [List.length_append, List.length_map, List.length_range, fam_len]; omega)]
  rw [List.getElem?_append_left (by simp only [List.length_append, List.length_map, List.length_range, fam_len]; omega)]
  rw [List.getElem?_append_left (by simp only [List.length_append, List.length_map, List.length_range, fam_len]; omega)]
  rw [List.getElem?_append_right (by simp only [List.length_append, List.length_map, List.length_range, fam_len]; omega)]
  simp only [List.length_map, List.length_range, Nat.add_sub_cancel_left]
  rw [List.getElem?_map, List.getElem?_range (by omega), Option.map_some, Nat.sub_add_cancel h1]

theorem get_A1 (c : Dev nD) (o : ℕ) (h1 : 1 ≤ o) (h2 : o < sz A1) : (dueL c)[10 + (o - 1)]? = some (outCell A1 c o, cr A1) := by
  have h2' : o < 8 := h2
  have ⟨e1, e2, e3, e4, e5, e6, e7, e8⟩ := sz_all
  unfold dueL
  rw [List.getElem?_append_left (by simp only [List.length_append, List.length_map, List.length_range, fam_len]; omega)]
  rw [List.getElem?_append_left (by simp only [List.length_append, List.length_map, List.length_range, fam_len]; omega)]
  rw [List.getElem?_append_left (by simp only [List.length_append, List.length_map, List.length_range, fam_len]; omega)]
  rw [List.getElem?_append_left (by simp only [List.length_append, List.length_map, List.length_range, fam_len]; omega)]
  rw [List.getElem?_append_left (by simp only [List.length_append, List.length_map, List.length_range, fam_len]; omega)]
  rw [List.getElem?_append_left (by simp only [List.length_append, List.length_map, List.length_range, fam_len]; omega)]
  rw [List.getElem?_append_left (by simp only [List.length_append, List.length_map, List.length_range, fam_len]; omega)]
  rw [List.getElem?_append_right (by simp only [List.length_append, List.length_map, List.length_range, fam_len]; omega)]
  rw [← fam_get _ c o h1 h2]
  congr 1
  simp only [List.length_append, List.length_map, List.length_range, fam_len]
  omega

theorem get_B1 (c : Dev nD) (o : ℕ) (h1 : 1 ≤ o) (h2 : o < sz B1) : (dueL c)[17 + (o - 1)]? = some (outCell B1 c o, cr B1) := by
  have h2' : o < 4 := h2
  have ⟨e1, e2, e3, e4, e5, e6, e7, e8⟩ := sz_all
  unfold dueL
  rw [List.getElem?_append_left (by simp only [List.length_append, List.length_map, List.length_range, fam_len]; omega)]
  rw [List.getElem?_append_left (by simp only [List.length_append, List.length_map, List.length_range, fam_len]; omega)]
  rw [List.getElem?_append_left (by simp only [List.length_append, List.length_map, List.length_range, fam_len]; omega)]
  rw [List.getElem?_append_left (by simp only [List.length_append, List.length_map, List.length_range, fam_len]; omega)]
  rw [List.getElem?_append_left (by simp only [List.length_append, List.length_map, List.length_range, fam_len]; omega)]
  rw [List.getElem?_append_left (by simp only [List.length_append, List.length_map, List.length_range, fam_len]; omega)]
  rw [List.getElem?_append_right (by simp only [List.length_append, List.length_map, List.length_range, fam_len]; omega)]
  rw [← fam_get _ c o h1 h2]
  congr 1
  simp only [List.length_append, List.length_map, List.length_range, fam_len]
  omega

theorem get_A2 (c : Dev nD) (o : ℕ) (h1 : 1 ≤ o) (h2 : o < sz A2) : (dueL c)[20 + (o - 1)]? = some (outCell A2 c o, cr A2) := by
  have h2' : o < 4 := h2
  have ⟨e1, e2, e3, e4, e5, e6, e7, e8⟩ := sz_all
  unfold dueL
  rw [List.getElem?_append_left (by simp only [List.length_append, List.length_map, List.length_range, fam_len]; omega)]
  rw [List.getElem?_append_left (by simp only [List.length_append, List.length_map, List.length_range, fam_len]; omega)]
  rw [List.getElem?_append_left (by simp only [List.length_append, List.length_map, List.length_range, fam_len]; omega)]
  rw [List.getElem?_append_left (by simp only [List.length_append, List.length_map, List.length_range, fam_len]; omega)]
  rw [List.getElem?_append_left (by simp only [List.length_append, List.length_map, List.length_range, fam_len]; omega)]
  rw [List.getElem?_append_right (by simp only [List.length_append, List.length_map, List.length_range, fam_len]; omega)]
  rw [← fam_get _ c o h1 h2]
  congr 1
  simp only [List.length_append, List.length_map, List.length_range, fam_len]
  omega

theorem get_B2 (c : Dev nD) (o : ℕ) (h1 : 1 ≤ o) (h2 : o < sz B2) : (dueL c)[23 + (o - 1)]? = some (outCell B2 c o, cr B2) := by
  have h2' : o < 8 := h2
  have ⟨e1, e2, e3, e4, e5, e6, e7, e8⟩ := sz_all
  unfold dueL
  rw [List.getElem?_append_left (by simp only [List.length_append, List.length_map, List.length_range, fam_len]; omega)]
  rw [List.getElem?_append_left (by simp only [List.length_append, List.length_map, List.length_range, fam_len]; omega)]
  rw [List.getElem?_append_left (by simp only [List.length_append, List.length_map, List.length_range, fam_len]; omega)]
  rw [List.getElem?_append_left (by simp only [List.length_append, List.length_map, List.length_range, fam_len]; omega)]
  rw [List.getElem?_append_right (by simp only [List.length_append, List.length_map, List.length_range, fam_len]; omega)]
  rw [← fam_get _ c o h1 h2]
  congr 1
  simp only [List.length_append, List.length_map, List.length_range, fam_len]
  omega

theorem get_A3 (c : Dev nD) (o : ℕ) (h1 : 1 ≤ o) (h2 : o < sz A3) : (dueL c)[30 + (o - 1)]? = some (outCell A3 c o, cr A3) := by
  have h2' : o < 4 := h2
  have ⟨e1, e2, e3, e4, e5, e6, e7, e8⟩ := sz_all
  unfold dueL
  rw [List.getElem?_append_left (by simp only [List.length_append, List.length_map, List.length_range, fam_len]; omega)]
  rw [List.getElem?_append_left (by simp only [List.length_append, List.length_map, List.length_range, fam_len]; omega)]
  rw [List.getElem?_append_left (by simp only [List.length_append, List.length_map, List.length_range, fam_len]; omega)]
  rw [List.getElem?_append_right (by simp only [List.length_append, List.length_map, List.length_range, fam_len]; omega)]
  rw [← fam_get _ c o h1 h2]
  congr 1
  simp only [List.length_append, List.length_map, List.length_range, fam_len]
  omega

theorem get_B3 (c : Dev nD) (o : ℕ) (h1 : 1 ≤ o) (h2 : o < sz B3) : (dueL c)[33 + (o - 1)]? = some (outCell B3 c o, cr B3) := by
  have h2' : o < 8 := h2
  have ⟨e1, e2, e3, e4, e5, e6, e7, e8⟩ := sz_all
  unfold dueL
  rw [List.getElem?_append_left (by simp only [List.length_append, List.length_map, List.length_range, fam_len]; omega)]
  rw [List.getElem?_append_left (by simp only [List.length_append, List.length_map, List.length_range, fam_len]; omega)]
  rw [List.getElem?_append_right (by simp only [List.length_append, List.length_map, List.length_range, fam_len]; omega)]
  rw [← fam_get _ c o h1 h2]
  congr 1
  simp only [List.length_append, List.length_map, List.length_range, fam_len]
  omega

theorem get_A4 (c : Dev nD) (o : ℕ) (h1 : 1 ≤ o) (h2 : o < sz A4) : (dueL c)[40 + (o - 1)]? = some (outCell A4 c o, cr A4) := by
  have h2' : o < 8 := h2
  have ⟨e1, e2, e3, e4, e5, e6, e7, e8⟩ := sz_all
  unfold dueL
  rw [List.getElem?_append_left (by simp only [List.length_append, List.length_map, List.length_range, fam_len]; omega)]
  rw [List.getElem?_append_right (by simp only [List.length_append, List.length_map, List.length_range, fam_len]; omega)]
  rw [← fam_get _ c o h1 h2]
  congr 1
  simp only [List.length_append, List.length_map, List.length_range, fam_len]
  omega

theorem get_B4 (c : Dev nD) (o : ℕ) (h1 : 1 ≤ o) (h2 : o < sz B4) : (dueL c)[47 + (o - 1)]? = some (outCell B4 c o, cr B4) := by
  have h2' : o < 4 := h2
  have ⟨e1, e2, e3, e4, e5, e6, e7, e8⟩ := sz_all
  unfold dueL
  rw [List.getElem?_append_right (by simp only [List.length_append, List.length_map, List.length_range, fam_len]; omega)]
  rw [← fam_get _ c o h1 h2]
  congr 1
  simp only [List.length_append, List.length_map, List.length_range, fam_len]
  omega

/-- The tally of a list of payments, the first one outermost. -/
def tally : List Pay → CellTallies nD τ sig Unit
  | [] => 0
  | p :: l => tally l + tallyAt p.1 () p.2

/-- What device `c` still owes after `n` payments. -/
def due (c : Dev nD) (n : ℕ) : CellTallies nD τ sig Unit := tally ((dueL c).drop n)

theorem due_step (c : Dev nD) (n : ℕ) (p : Pay) (h : (dueL c)[n]? = some p) : due c n = due c (n + 1) + tallyAt p.1 () p.2 := by
  unfold due
  obtain ⟨hn, hp⟩ := List.getElem?_eq_some_iff.mp h
  rw [List.drop_eq_getElem_cons hn, hp]; rfl

theorem due_end (c : Dev nD) : due c 50 = 0 := rfl

/-- Where a device owes something, one of its payments goes. -/
theorem tally_pos {l : List Pay} {g : GSem nD τ sig} {u : Unit} (h : 0 < tally l g u) : ∃ p ∈ l, g = p.1 := by
  induction l with
  | nil => exact absurd h (Nat.lt_irrefl 0)
  | cons x l ih =>
    rw [tally, Pi.add_apply, Finsupp.add_apply] at h
    rcases Nat.add_pos_iff_pos_or_pos.mp h with h | h
    · obtain ⟨y, hy, e⟩ := ih h; exact ⟨y, List.mem_cons_of_mem _ hy, e⟩
    · exact ⟨x, List.mem_cons_self, (Pipeline.tallyAt_pos h).1⟩

/-- The levels of the payments, in order. -/
def levels : List ℕ := List.replicate 10 1 ++ List.replicate 10 2 ++ List.replicate 10 3 ++ List.replicate 10 4 ++ List.replicate 10 5

theorem fam_levels (X : Fam) (c : Dev nD) : (famDue X c).map (fun p => lv p.1 ()) = List.replicate (sz X - 1) (phase X + 1) := by
  unfold famDue
  rw [List.map_map, List.eq_replicate_iff]
  refine ⟨by rw [List.length_map, List.length_range], fun x hx => ?_⟩
  obtain ⟨i, -, rfl⟩ := List.mem_map.mp hx
  exact lv_r X (peer X c (i + 1)) _ (me_lt X c) ()

theorem due_levels (c : Dev nD) : (dueL c).map (fun p => lv p.1 ()) = levels := by
  unfold dueL
  simp only [List.map_append, fam_levels]
  rfl

theorem due_tc (c : Dev nD) : ∀ p ∈ dueL c, p.1.1.2 = .tc := by
  intro p hp
  unfold dueL famDue at hp
  simp only [List.mem_append, List.mem_map] at hp
  rcases hp with ((((((((⟨_, -, rfl⟩ | ⟨_, -, rfl⟩) | ⟨_, -, rfl⟩) | ⟨_, -, rfl⟩) | ⟨_, -, rfl⟩) | ⟨_, -, rfl⟩) | ⟨_, -, rfl⟩) | ⟨_, -, rfl⟩) | ⟨_, -, rfl⟩) | ⟨_, -, rfl⟩ <;> rfl

omit [FloatOps F] in
/-- A device may wait at level `k` once every payment it still owes is above. -/
theorem mayWait (c : Dev nD) (sm : SemLoc sig) (n k : ℕ) (hk : lv ((c : Thread nD τ), sm) () ≤ k) (h : ∀ x ∈ levels.drop n, k < x) :
    (levAts L lv : sProp 𝕄) ⊢ MayWait (c : Thread nD τ) sm () (due c n) := by
  have key : ∀ g u, 0 < due c n g u → g.1.2 = .tc ∧ k < lv g () := fun g u hg => by
    obtain ⟨p, hp, rfl⟩ := tally_pos hg
    refine ⟨due_tc c p (List.mem_of_mem_drop hp), h _ ?_⟩
    rw [← due_levels c, ← List.map_drop]
    exact List.mem_map_of_mem (f := fun p : Pay => lv p.1 ()) hp
  refine MayOwe.of_cut (L := L) (lev := lv) k (fun p hp => by rw [Finset.mem_singleton.mp hp, L_tc]; exact Finset.mem_singleton_self _)
    (fun g u hg => by unfold L; rw [if_pos (key g u hg).1]; exact Finset.mem_singleton_self _)
    (fun p hp => by rw [Finset.mem_singleton.mp hp]; exact hk)
    (fun g u hg => (key g u hg).2)

/-- What device `c` owes after `n` payments, whatever it has waited for. -/
def ow (c : Dev nD) (n : ℕ) : sProp 𝕄 := iprop(∃ W, owes (c : Thread nD τ) (due c n) W)

end Cert.AllReduce

end
-- ==== Proof.Steps.lean ====
/-
The kernel's protocol steps, one lemma each for a signal, the barrier wait, a send, a receive wait and a send wait.

A family's part in a device's state is counted by how many of its sends and waits are done: each lemma moves one
count by one. A wait also closes its semaphore, whose counter is zero from then on.
-/
module

public import proofs.«01_k».proof.Proof.Dues

@[expose] public section

noncomputable section

namespace Cert.AllReduce

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Fam

variable {F : FTy → Type} [FloatOps F]

local notation "𝕄" => MT nD τ sig Unit (Elt F) ℕ UU ℕ

abbrev 𝒱₀ : Variants := Variants.none

section
variable (dyV wV : Dev nD → Vec F S512x2048 .f32) (K : Dev nD × Option KX → ℕ)

/-- The records every device holds: each cell's invariant, and that its round 0 is reached. -/
def records : sProp 𝕄 :=
  iprop((bigSep Finset.univ fun ck => cellInv ER (Rd dyV wV) (K ck) (kcell ck)) ∗ bigSep Finset.univ fun ck => reached ER (kcell ck) 0)

instance records_persistent : BI.Persistent (records dyV wV K) := by unfold records; infer_instance

theorem rec_at (ck : Dev nD × Option KX) : records dyV wV K ⊢ iprop(cellInv ER (Rd dyV wV) (K ck) (kcell ck) ∗ reached ER (kcell ck) 0) := by
  unfold records
  exact BIClass.sep_mono (bigSep_elim (Finset.mem_univ ck)) (bigSep_elim (Finset.mem_univ ck))
theorem rec_bar (c : Dev nD) : records dyV wV K ⊢ iprop(cellInv ER (Rd dyV wV) (K (c, none)) (barCell c) ∗ reached ER (barCell c) 0) := rec_at dyV wV K (c, none)
theorem rec_s (X : Fam) (c : Dev nD) (o : ℕ) (h : o < sz X) :
    records dyV wV K ⊢ iprop(cellInv ER (Rd dyV wV) (K (c, kS X o h)) (sCell X c o) ∗ reached ER (sCell X c o) 0) := rec_at dyV wV K (c, kS X o h)
theorem rec_r (X : Fam) (c : Dev nD) (s : ℕ) (h : s < sz X) :
    records dyV wV K ⊢ iprop(cellInv ER (Rd dyV wV) (K (c, kR X s h)) (rCell X c s) ∗ reached ER (rCell X c s) 0) := rec_at dyV wV K (c, kR X s h)

/-! ## Closing a cell -/

theorem close_bar (c : Dev nD) : iprop(records dyV wV K ∗ atPos ER (barCell c) (0 + 1) ∅ 0) ⊢ iprop(|={Set.univ}=> semVal (barCell c) 0) := by
  iintro ⟨#HR, Hat⟩
  ihave H := (rec_bar dyV wV K c) $$ HR
  icases H with ⟨#HI, -⟩
  iapply (Rounds.cell_close ER (Rd dyV wV) (Set.mem_univ (K (c, none))) (fun h => h) (R := 0 + 1) (duties_later dyV wV (barCell c)))
  isplitr; · iexact HI
  iexact Hat
theorem close_s (X : Fam) (c : Dev nD) (o : ℕ) (h : o < sz X) : iprop(records dyV wV K ∗ atPos ER (sCell X c o) (0 + 1) ∅ 0) ⊢ iprop(|={Set.univ}=> semVal (sCell X c o) 0) := by
  iintro ⟨#HR, Hat⟩
  ihave H := (rec_s dyV wV K X c o h) $$ HR
  icases H with ⟨#HI, -⟩
  iapply (Rounds.cell_close ER (Rd dyV wV) (Set.mem_univ (K (c, kS X o h))) (fun h => h) (R := 0 + 1) (duties_later dyV wV (sCell X c o)))
  isplitr; · iexact HI
  iexact Hat
theorem close_r (X : Fam) (c : Dev nD) (s : ℕ) (h : s < sz X) : iprop(records dyV wV K ∗ atPos ER (rCell X c s) (0 + 1) ∅ 0) ⊢ iprop(|={Set.univ}=> semVal (rCell X c s) 0) := by
  iintro ⟨#HR, Hat⟩
  ihave H := (rec_r dyV wV K X c s h) $$ HR
  icases H with ⟨#HI, -⟩
  iapply (Rounds.cell_close ER (Rd dyV wV) (Set.mem_univ (K (c, kR X s h))) (fun h => h) (R := 0 + 1) (duties_later dyV wV (rCell X c s)))
  isplitr; · iexact HI
  iexact Hat
/-- The two unused semaphores of a family close at once. -/
theorem close_s0 (X : Fam) (c : Dev nD) : iprop(records dyV wV K ∗ atPos ER (sCell X c 0) 0 ∅ 0) ⊢ iprop(|={Set.univ}=> semVal (sCell X c 0) 0) := by
  have h : 0 < sz X := by cases X <;> decide
  iintro ⟨#HR, Hat⟩
  ihave H := (rec_s dyV wV K X c 0 h) $$ HR
  icases H with ⟨#HI, -⟩
  iapply (Rounds.cell_close ER (Rd dyV wV) (Set.mem_univ (K (c, kS X 0 h))) (fun h => h) (R := 0) (duties_s0 dyV wV X c))
  isplitr; · iexact HI
  iexact Hat
theorem close_rme (X : Fam) (c : Dev nD) : iprop(records dyV wV K ∗ atPos ER (rCell X c (me X c)) 0 ∅ 0) ⊢ iprop(|={Set.univ}=> semVal (rCell X c (me X c)) 0) := by
  have h := me_lt X c
  iintro ⟨#HR, Hat⟩
  ihave H := (rec_r dyV wV K X c (me X c) h) $$ HR
  icases H with ⟨#HI, -⟩
  iapply (Rounds.cell_close ER (Rd dyV wV) (Set.mem_univ (K (c, kR X (me X c) h))) (fun h => h) (R := 0) (duties_rme dyV wV X c))
  isplitr; · iexact HI
  iexact Hat

/-! ## The counted states -/

/-- The signals to the group from offset `k` on: each one's token and what it hands over. -/
def rowSig (c : Dev nD) (k : ℕ) : sProp 𝕄 := bigSep (Finset.Ico k 8) fun o => iprop(dutyTok ER (barCell (peer A1 c o)) 0 (7 - o) ∗ rowPay c (pslot A1 c o))
/-- The signals to the devices of the same rank. -/
def colSig (c : Dev nD) (k : ℕ) : sProp 𝕄 := bigSep (Finset.Ico k 4) fun o => iprop(dutyTok ER (barCell (peer B1 c o)) 0 (10 - o) ∗ colPay c (pslot B1 c o))

/-- A family's sends from offset `k` on: the tokens of both credits, the source and the landing place. -/
def toSend (X : Fam) (c : Dev nD) (k : ℕ) : sProp 𝕄 :=
  bigSep (Finset.Ico k (sz X)) fun o => iprop(dutyTok ER (sCell X c o) 0 0 ∗ dutyTok ER (outCell X c o) 0 0 ∗ sendPts dyV wV X c o ∗ dstPts X (peer X c o) (me X c))
/-- The send credits earned below offset `k`. -/
def sent (X : Fam) (c : Dev nD) (k : ℕ) : sProp 𝕄 := bigSep (Finset.Ico 1 k) fun o => cred (tallyAt (sCell X c o) () (cr X))
/-- The receive waits from offset `k` on. -/
def toRecv (X : Fam) (c : Dev nD) (k : ℕ) : sProp 𝕄 :=
  bigSep (Finset.Ico k (sz X)) fun o => iprop(cred (tallyAt (rCell X c (pslot X c o)) () (cr X)) ∗ atPos ER (rCell X c (pslot X c o)) 0 ∅ 0)
/-- What the receive waits below offset `k` handed over, and their closed semaphores. -/
def gotPts (X : Fam) (c : Dev nD) (k : ℕ) : sProp 𝕄 := bigSep (Finset.Ico 1 k) fun o => recvPts dyV wV X c (pslot X c o)
def gotSem (X : Fam) (c : Dev nD) (k : ℕ) : sProp 𝕄 := bigSep (Finset.Ico 1 k) fun o => semVal (rCell X c (pslot X c o)) 0
/-- The send waits from offset `k` on, but for their credits. -/
def toDone (X : Fam) (c : Dev nD) (k : ℕ) : sProp 𝕄 := bigSep (Finset.Ico k (sz X)) fun o => atPos ER (sCell X c o) 0 ∅ 0
/-- The credits for them. -/
def doneCr (X : Fam) (c : Dev nD) (k : ℕ) : sProp 𝕄 := bigSep (Finset.Ico k (sz X)) fun o => cred (tallyAt (sCell X c o) () (cr X))
/-- The sources handed back below offset `k`, and the closed semaphores. -/
def backPts (X : Fam) (c : Dev nD) (k : ℕ) : sProp 𝕄 := bigSep (Finset.Ico 1 k) fun o => sendPts dyV wV X c o
def backSem (X : Fam) (c : Dev nD) (k : ℕ) : sProp 𝕄 := bigSep (Finset.Ico 1 k) fun o => semVal (sCell X c o) 0

theorem sent_all (X : Fam) (c : Dev nD) : (sent X c (sz X) : sProp 𝕄) = doneCr X c 1 := rfl

/-! ## The steps -/

section Wp

/-- A signal to the member of the group at offset `o`. -/
theorem step_row {α : Type} {Q : α → sProp 𝕄} (c : Dev nD) (o : ℕ) (h1 : 1 ≤ o) (h2 : o < 8) (n : ℕ) (hn : (dueL c)[n]? = some (barCell (peer A1 c o), 1))
    {c' : Dev nD} (hc : c' = peer A1 c o) {k' : ℕ} (hk : k' = 1) {k : PUnit → Prog (TpuEff nD τ sig (Elt F) Λ₀ .tc) α} :
    iprop(records dyV wV K ∗ rowSig c o ∗ ow c n)
      ⊢ iprop(((rowSig c (o + 1) ∗ ow c (n + 1)) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc c' : Thread nD τ) barS k') k) Q) := by
  subst hc; subst hk
  unfold rowSig ow
  rw [bigSep_Ico_head h2]
  iintro ⟨#HR, ⟨⟨Htok, Hpay⟩, Hrest⟩, ⟨%W, HO⟩⟩ Hk
  ihave H := (rec_bar dyV wV K (peer A1 c o)) $$ HR
  icases H with ⟨#HI, #Hr⟩
  iapply (Rounds.wp_signal 𝒱₀ ER (Rd dyV wV) (c : Thread nD τ) none (dst := (peer A1 c o : Thread nD τ)) (κ := K (peer A1 c o, none))
      (d := 7 - o) (by rw [duties_bar]; exact Finset.mem_range.mpr (by omega)) (amount_bar dyV wV (peer A1 c o) (7 - o)) () (due c (n + 1)) (due_step c n _ hn))
    $$ [HO Htok Hpay]
  · isplitr; · iexact HI
    isplitl [HO]; · iexact HO
    isplitl [Htok]; · iexact Htok
    isplitl [Hpay]; · rw [payload_row dyV wV c o h1 h2]; iexact Hpay
    iexact Hr
  iintro HO
  iapply Hk
  isplitl [Hrest]; · iexact Hrest
  iexists W; iexact HO

/-- A signal to the device of the same rank at offset `o`. -/
theorem step_col {α : Type} {Q : α → sProp 𝕄} (c : Dev nD) (o : ℕ) (h1 : 1 ≤ o) (h2 : o < 4) (n : ℕ) (hn : (dueL c)[n]? = some (barCell (peer B1 c o), 1))
    {c' : Dev nD} (hc : c' = peer B1 c o) {k' : ℕ} (hk : k' = 1) {k : PUnit → Prog (TpuEff nD τ sig (Elt F) Λ₀ .tc) α} :
    iprop(records dyV wV K ∗ colSig c o ∗ ow c n)
      ⊢ iprop(((colSig c (o + 1) ∗ ow c (n + 1)) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc c' : Thread nD τ) barS k') k) Q) := by
  subst hc; subst hk
  unfold colSig ow
  rw [bigSep_Ico_head h2]
  iintro ⟨#HR, ⟨⟨Htok, Hpay⟩, Hrest⟩, ⟨%W, HO⟩⟩ Hk
  ihave H := (rec_bar dyV wV K (peer B1 c o)) $$ HR
  icases H with ⟨#HI, #Hr⟩
  iapply (Rounds.wp_signal 𝒱₀ ER (Rd dyV wV) (c : Thread nD τ) none (dst := (peer B1 c o : Thread nD τ)) (κ := K (peer B1 c o, none))
      (d := 10 - o) (by rw [duties_bar]; exact Finset.mem_range.mpr (by omega)) (amount_bar dyV wV (peer B1 c o) (10 - o)) () (due c (n + 1)) (due_step c n _ hn))
    $$ [HO Htok Hpay]
  · isplitr; · iexact HI
    isplitl [HO]; · iexact HO
    isplitl [Htok]; · iexact Htok
    isplitl [Hpay]; · rw [payload_col dyV wV c o h1 h2]; iexact Hpay
    iexact Hr
  iintro HO
  iapply Hk
  isplitl [Hrest]; · iexact Hrest
  iexists W; iexact HO

/-- The barrier wait: the others' landing places. -/
theorem step_bar {α : Type} {Q : α → sProp 𝕄} (c : Dev nD) (n : ℕ) (hlev : ∀ x ∈ levels.drop n, 1 < x) {k' : ℕ} (hk : k' = 10) {k : PUnit → Prog (TpuEff nD τ sig (Elt F) Λ₀ .tc) α} :
    iprop(records dyV wV K ∗ levAts L lv ∗ cred (tallyAt (barCell c) () 10) ∗ atPos ER (barCell c) 0 ∅ 0 ∗ ow c n)
      ⊢ iprop((((bigSep (Finset.Ico 1 8) fun o => rowPay (peer A1 c o) (me A1 c)) ∗ (bigSep (Finset.Ico 1 4) fun o => colPay (peer B1 c o) (me B1 c)) ∗ semVal (barCell c) 0 ∗ ow c n)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS k') k) Q) := by
  subst hk
  unfold ow
  iintro ⟨#HR, #Hlev, Hcr, Hat, ⟨%W, HO⟩⟩ Hk
  ihave H := (rec_bar dyV wV K c) $$ HR
  icases H with ⟨#HI, -⟩
  iapply (Rounds.wp_wait_rest_token 𝒱₀ ER (Rd dyV wV) (c : Thread nD τ) none (κ := K (c, none))
      (wpE_semWait_eq 𝒱₀ (c : Thread nD τ) none Set.univ) (Set.mem_univ _) () (O := due c n) (W := W) (R := 0) (m := 0) (T := ∅)
      (by rw [expect_bar])) $$ [Hcr HO Hat]
  · isplitr; · iexact HI
    isplitl [Hcr]; · iexact Hcr
    isplitl [HO]; · iexact HO
    isplitr; · iapply (mayWait c (.reg barS) n 1 (le_of_eq (lv_bar c ())) hlev); iexact Hlev
    iexact Hat
  iintro ⟨HO, Hat, -, Hpay⟩
  ihave Hp := (Entails.of_eq (rest_bar dyV wV c)) $$ Hpay
  icases Hp with ⟨H1, H2⟩
  imod (close_bar dyV wV K c) $$ [Hat] with Hz
  · isplitr; · iexact HR
    iexact Hat
  iapply Hk
  isplitl [H1]; · iexact H1
  isplitl [H2]; · iexact H2
  isplitl [Hz]; · iexact Hz
  iexists _; iexact HO

/-- A send at offset `o` of family `X`, given what its operands are. -/
theorem step_send {α : Type} {Q : α → sProp 𝕄} (c : Dev nD) (X : Fam) (o : ℕ) (h1 : 1 ≤ o) (h2 : o < sz X) (n : ℕ) (hn : (dueL c)[n]? = some (outCell X c o, cr X))
    {c' : Dev nD} (hc : c' = peer X c o) {s : Shape} {e : EltTy} {src : Memref sig .tc .vmem s e} {dst : Memref sig (Dev.tc c' : Thread nD τ).2.kind .vmem s e}
    {hsc : dst.view.ref.isScScratch = false} {ss rs : DmaSem sig} (hss : ss = sS X o) (hrs : rs = rS X (me X c))
    {hsrc : src.view.WordExact} {hdst : dst.view.WordExact} {hsem : DmaTarget.Typed .vmem (.dma rs) (.remote (Dev.tc c' : Thread nD τ) dst (.dma ss) hsc)}
    (hN : dst.view.dmaCredit = cr X)
    {q : PosShare TreeShare} (fs : Buf (Elt F) (src.view.loc (c : Thread nD τ)))
    (hS : sendPts dyV wV X c o = (src.view.loc (c : Thread nD τ) ↦[src.view.set]{q} fs))
    (hD : (dstPts X c' (me X c) : sProp 𝕄) ⊢ iprop(∃ fd, dst.view.loc (c' : Thread nD τ) ↦[dst.view.set]{fullShare} fd))
    (hL : ∀ fd : Buf (Elt F) (dst.view.loc (c' : Thread nD τ)), (dst.view.loc (c' : Thread nD τ) ↦[dst.view.set]{fullShare} (dst.view.write (Elt F) fd (src.view.read (Elt F) fs) Finset.univ))
      ⊢ recvPts dyV wV X c' (me X c))
    {k : PUnit → Prog (TpuEff nD τ sig (Elt F) Λ₀ .tc) α} :
    iprop(records dyV wV K ∗ toSend dyV wV X c o ∗ sent X c o ∗ ow c n)
      ⊢ iprop(((toSend dyV wV X c (o + 1) ∗ sent X c (o + 1) ∗ ow c (n + 1)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc c' : Thread nD τ) dst (.dma ss) hsc) (.dma rs) hsrc hdst hsem) k) Q) := by
  subst hc; subst hss; subst hrs
  unfold toSend sent ow
  rw [bigSep_Ico_head h2, bigSep_Ico_last h1]
  iintro ⟨#HR, ⟨⟨Hts, Htr, Hsrc, Hdst⟩, Hrest⟩, Hsent, ⟨%W, HO⟩⟩ Hk
  ihave H := (rec_s dyV wV K X c o h2) $$ HR
  icases H with ⟨#HIs, #Hrs⟩
  ihave H := (rec_r dyV wV K X (peer X c o) (me X c) (me_lt X c)) $$ HR
  icases H with ⟨#HIr, #Hrr⟩
  ihave Hsrc := (Entails.of_eq hS) $$ Hsrc
  ihave Hdst := hD $$ Hdst
  icases Hdst with ⟨%fd, Hdst⟩
  iapply (Rounds.wp_send_pointsTo 𝒱₀ ER (Rd dyV wV) (c : Thread nD τ) none (κ₁ := K (c, kS X o h2)) (κ₂ := K (peer X c o, kR X (me X c) (me_lt X c)))
      (r₁ := 0) (r₂ := 0) (d₁ := 0) (d₂ := 0) (fd := fd)
      (by rw [duties_s dyV wV X c o h1 h2]; exact Finset.mem_singleton_self _)
      (by rw [duties_r dyV wV X (peer X c o) (me X c) (me_ne_pslot_peer X c o h1 h2) (me_lt X c)]; exact Finset.mem_singleton_self _)
      () () (cr X) (show dst.view.amount (.dma (rS X (me X c))) = cr X from hN) (amount_s dyV wV X c o 0 h2) (amount_r dyV wV X (peer X c o) (me X c) 0 (me_lt X c)) (due c (n + 1)) (due_step c n _ hn) (W := W)
      (by rw [payload_s dyV wV X c o 0 h2, hS])
      (by rw [payload_r dyV wV X (peer X c o) (me X c) 0 (me_lt X c)]; exact hL fd)) $$ [Hsrc Hdst HO Hts Htr]
  · isplitr; · iexact HIs
    isplitr; · iexact HIr
    isplitl [Hsrc]; · iexact Hsrc
    isplitl [Hdst]; · iexact Hdst
    isplitl [HO]; · iexact HO
    isplitl [Hts]; · iexact Hts
    isplitr; · iexact Hrs
    isplitl [Htr]; · iexact Htr
    iexact Hrr
  iintro ⟨Hcr, HO⟩
  iapply Hk
  isplitl [Hrest]; · iexact Hrest
  isplitl [Hcr Hsent]
  · isplitl [Hcr]; · iexact Hcr
    iexact Hsent
  iexists W; iexact HO

/-- A wait on the receive semaphore of the slot at offset `o`. -/
theorem step_recv {α : Type} {Q : α → sProp 𝕄} (c : Dev nD) (X : Fam) (o : ℕ) (h1 : 1 ≤ o) (h2 : o < sz X) (n : ℕ) (hlev : ∀ x ∈ levels.drop n, phase X + 1 < x)
    {sp sp' : Space} {s s' : Shape} {e e' : EltTy} {src : Memref sig .tc sp s e} {dst : Memref sig .tc sp' s' e'} {rs : DmaSem sig} (hrs : rs = rS X (pslot X c o))
    {hsrc : src.view.WordExact} {hdst : dst.view.WordExact} (hN : dst.view.dmaCredit = cr X)
    {k : PUnit → Prog (TpuEff nD τ sig (Elt F) Λ₀ .tc) α} :
    iprop(records dyV wV K ∗ levAts L lv ∗ toRecv X c o ∗ gotPts dyV wV X c o ∗ gotSem X c o ∗ ow c n)
      ⊢ iprop(((toRecv X c (o + 1) ∗ gotPts dyV wV X c (o + 1) ∗ gotSem X c (o + 1) ∗ ow c n) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 rs src dst hsrc hdst) k) Q) := by
  subst hrs
  unfold toRecv gotPts gotSem ow
  rw [bigSep_Ico_head h2, bigSep_Ico_last h1, bigSep_Ico_last h1]
  iintro ⟨#HR, #Hlev, ⟨⟨Hcr, Hat⟩, Hrest⟩, Hpts, Hsem, ⟨%W, HO⟩⟩ Hk
  ihave H := (rec_r dyV wV K X c (pslot X c o) (pslot_lt X c o)) $$ HR
  icases H with ⟨#HI, -⟩
  iapply (Rounds.wp_wait_rest_token 𝒱₀ ER (Rd dyV wV) (c : Thread nD τ) none (κ := K (c, kR X (pslot X c o) (pslot_lt X c o)))
      (wpE_waitDma2_eq 𝒱₀ (c : Thread nD τ) none Set.univ) (Set.mem_univ _) () (O := due c n) (W := W) (R := 0) (m := 0) (T := ∅)
      (by rw [Nat.zero_add, hN, expect_r dyV wV X c _ (pslot_ne_me X c o h1 h2) (pslot_lt X c o)])) $$ [Hcr HO Hat]
  · isplitr; · iexact HI
    isplitl [Hcr]; · rw [hN]; iexact Hcr
    isplitl [HO]; · iexact HO
    isplitr; · iapply (mayWait c (.dma (rS X (pslot X c o))) n (phase X + 1) (le_of_eq (lv_r X c _ (pslot_lt X c o) ())) hlev); iexact Hlev
    iexact Hat
  iintro ⟨HO, Hat, -, Hpay⟩
  ihave Hp := (Entails.of_eq (rest_r dyV wV X c (pslot X c o) (pslot_ne_me X c o h1 h2) (pslot_lt X c o))) $$ Hpay
  imod (close_r dyV wV K X c (pslot X c o) (pslot_lt X c o)) $$ [Hat] with Hz
  · isplitr; · iexact HR
    iexact Hat
  iapply Hk
  isplitl [Hrest]; · iexact Hrest
  isplitl [Hp Hpts]
  · isplitl [Hp]; · iexact Hp
    iexact Hpts
  isplitl [Hz Hsem]
  · isplitl [Hz]; · iexact Hz
    iexact Hsem
  iexists _; iexact HO

/-- A wait on the send semaphore of offset `o`, once all is paid. -/
theorem step_done {α : Type} {Q : α → sProp 𝕄} (c : Dev nD) (X : Fam) (o : ℕ) (h1 : 1 ≤ o) (h2 : o < sz X)
    {sp sp' : Space} {s s' : Shape} {e e' : EltTy} {src : Memref sig .tc sp s e} {dst : Memref sig .tc sp' s' e'} {ss : DmaSem sig} (hss : ss = sS X o)
    {hsrc : src.view.WordExact} {hdst : dst.view.WordExact} (hN : dst.view.dmaCredit = cr X)
    {k : PUnit → Prog (TpuEff nD τ sig (Elt F) Λ₀ .tc) α} :
    iprop(records dyV wV K ∗ toDone X c o ∗ doneCr X c o ∗ backPts dyV wV X c o ∗ backSem X c o ∗ ow c 50)
      ⊢ iprop(((toDone X c (o + 1) ∗ doneCr X c (o + 1) ∗ backPts dyV wV X c (o + 1) ∗ backSem X c (o + 1) ∗ ow c 50) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 ss src dst hsrc hdst) k) Q) := by
  subst hss
  unfold toDone doneCr backPts backSem ow
  rw [bigSep_Ico_head h2, bigSep_Ico_head h2, bigSep_Ico_last h1, bigSep_Ico_last h1, due_end]
  iintro ⟨#HR, ⟨Hat, Hrest⟩, ⟨Hcr, Hcrs⟩, Hpts, Hsem, ⟨%W, HO⟩⟩ Hk
  ihave H := (rec_s dyV wV K X c o h2) $$ HR
  icases H with ⟨#HI, -⟩
  iapply (Rounds.wp_wait_rest_token 𝒱₀ ER (Rd dyV wV) (c : Thread nD τ) none (κ := K (c, kS X o h2))
      (wpE_waitDma2_eq 𝒱₀ (c : Thread nD τ) none Set.univ) (Set.mem_univ _) () (O := 0) (W := W) (R := 0) (m := 0) (T := ∅)
      (by rw [Nat.zero_add, hN, expect_s dyV wV X c o h1 h2])) $$ [Hcr HO Hat]
  · isplitr; · iexact HI
    isplitl [Hcr]; · rw [hN]; iexact Hcr
    isplitl [HO]; · iexact HO
    isplitr; · rw [MayWait_zero]; iempintro
    iexact Hat
  iintro ⟨HO, Hat, -, Hpay⟩
  ihave Hp := (Entails.of_eq (rest_s dyV wV X c o h1 h2)) $$ Hpay
  imod (close_s dyV wV K X c o h2) $$ [Hat] with Hz
  · isplitr; · iexact HR
    iexact Hat
  iapply Hk
  isplitl [Hrest]; · iexact Hrest
  isplitl [Hcrs]; · iexact Hcrs
  isplitl [Hp Hpts]
  · isplitl [Hp]; · iexact Hp
    iexact Hpts
  isplitl [Hz Hsem]
  · isplitl [Hz]; · iexact Hz
    iexact Hsem
  iexists _; iexact HO

/-! ## The steps over bundles -/

/-- What every step reads: the records and the levels. -/
def env : sProp 𝕄 := iprop(records dyV wV K ∗ levAts L lv)
instance env_persistent : BI.Persistent (env dyV wV K) := by unfold env; infer_instance
/-- A family's sends, from offset `k` on. -/
def snd (X : Fam) (c : Dev nD) (k : ℕ) : sProp 𝕄 := iprop(toSend dyV wV X c k ∗ sent X c k)
/-- A family's receive waits, from offset `k` on, and what those below brought. -/
def rcv (X : Fam) (c : Dev nD) (k : ℕ) : sProp 𝕄 := iprop(toRecv X c k ∗ gotPts dyV wV X c k ∗ gotSem X c k)
/-- A family's send waits, from offset `k` on, and what those below brought. -/
def dn (X : Fam) (c : Dev nD) (k : ℕ) : sProp 𝕄 := iprop(toDone X c k ∗ doneCr X c k ∗ backPts dyV wV X c k ∗ backSem X c k)

theorem run_row {α : Type} {Q : α → sProp 𝕄} (c : Dev nD) (o : ℕ) (h1 : 1 ≤ o) (h2 : o < 8) (n : ℕ) (hn : (dueL c)[n]? = some (barCell (peer A1 c o), 1))
    {c' : Dev nD} (hc : c' = peer A1 c o) {k' : ℕ} (hk : k' = 1) {k : PUnit → Prog (TpuEff nD τ sig (Elt F) Λ₀ .tc) α} :
    iprop(env dyV wV K ∗ rowSig c o ∗ ow c n)
      ⊢ iprop(((rowSig c (o + 1) ∗ ow c (n + 1)) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc c' : Thread nD τ) barS k') k) Q) := by
  unfold env
  iintro ⟨⟨#HR, #Hl⟩, H⟩
  iapply (step_row dyV wV K c o h1 h2 n hn hc hk)
  isplitr; · iexact HR
  iexact H

theorem run_col {α : Type} {Q : α → sProp 𝕄} (c : Dev nD) (o : ℕ) (h1 : 1 ≤ o) (h2 : o < 4) (n : ℕ) (hn : (dueL c)[n]? = some (barCell (peer B1 c o), 1))
    {c' : Dev nD} (hc : c' = peer B1 c o) {k' : ℕ} (hk : k' = 1) {k : PUnit → Prog (TpuEff nD τ sig (Elt F) Λ₀ .tc) α} :
    iprop(env dyV wV K ∗ colSig c o ∗ ow c n)
      ⊢ iprop(((colSig c (o + 1) ∗ ow c (n + 1)) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc c' : Thread nD τ) barS k') k) Q) := by
  unfold env
  iintro ⟨⟨#HR, #Hl⟩, H⟩
  iapply (step_col dyV wV K c o h1 h2 n hn hc hk)
  isplitr; · iexact HR
  iexact H

theorem run_bar {α : Type} {Q : α → sProp 𝕄} (c : Dev nD) (n : ℕ) (hlev : ∀ x ∈ levels.drop n, 1 < x) {k' : ℕ} (hk : k' = 10) {k : PUnit → Prog (TpuEff nD τ sig (Elt F) Λ₀ .tc) α} :
    iprop(env dyV wV K ∗ (cred (tallyAt (barCell c) () 10) ∗ atPos ER (barCell c) 0 ∅ 0) ∗ ow c n)
      ⊢ iprop((((bigSep (Finset.Ico 1 8) fun o => rowPay (peer A1 c o) (me A1 c)) ∗ (bigSep (Finset.Ico 1 4) fun o => colPay (peer B1 c o) (me B1 c)) ∗ semVal (barCell c) 0 ∗ ow c n)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS k') k) Q) := by
  unfold env
  iintro ⟨⟨#HR, #Hl⟩, ⟨H1, H2⟩, H3⟩
  iapply (step_bar dyV wV K c n hlev hk)
  isplitr; · iexact HR
  isplitr; · iexact Hl
  isplitl [H1]; · iexact H1
  isplitl [H2]; · iexact H2
  iexact H3

theorem run_send {α : Type} {Q : α → sProp 𝕄} (c : Dev nD) (X : Fam) (o : ℕ) (h1 : 1 ≤ o) (h2 : o < sz X) (n : ℕ) (hn : (dueL c)[n]? = some (outCell X c o, cr X))
    {c' : Dev nD} (hc : c' = peer X c o) {s : Shape} {e : EltTy} {src : Memref sig .tc .vmem s e} {dst : Memref sig (Dev.tc c' : Thread nD τ).2.kind .vmem s e}
    {hsc : dst.view.ref.isScScratch = false} {ss rs : DmaSem sig} (hss : ss = sS X o) (hrs : rs = rS X (me X c))
    {hsrc : src.view.WordExact} {hdst : dst.view.WordExact} {hsem : DmaTarget.Typed .vmem (.dma rs) (.remote (Dev.tc c' : Thread nD τ) dst (.dma ss) hsc)}
    (hN : dst.view.dmaCredit = cr X)
    {q : PosShare TreeShare} (fs : Buf (Elt F) (src.view.loc (c : Thread nD τ)))
    (hS : sendPts dyV wV X c o = (src.view.loc (c : Thread nD τ) ↦[src.view.set]{q} fs))
    (hD : (dstPts X c' (me X c) : sProp 𝕄) ⊢ iprop(∃ fd, dst.view.loc (c' : Thread nD τ) ↦[dst.view.set]{fullShare} fd))
    (hL : ∀ fd : Buf (Elt F) (dst.view.loc (c' : Thread nD τ)), (dst.view.loc (c' : Thread nD τ) ↦[dst.view.set]{fullShare} (dst.view.write (Elt F) fd (src.view.read (Elt F) fs) Finset.univ))
      ⊢ recvPts dyV wV X c' (me X c))
    {k : PUnit → Prog (TpuEff nD τ sig (Elt F) Λ₀ .tc) α} :
    iprop(env dyV wV K ∗ snd dyV wV X c o ∗ ow c n)
      ⊢ iprop(((snd dyV wV X c (o + 1) ∗ ow c (n + 1)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc c' : Thread nD τ) dst (.dma ss) hsc) (.dma rs) hsrc hdst hsem) k) Q) := by
  unfold env snd
  iintro ⟨⟨#HR, #Hl⟩, ⟨H1, H2⟩, H3⟩ Hk
  iapply (step_send dyV wV K c X o h1 h2 n hn hc hss hrs hN fs hS hD hL) $$ [H1 H2 H3]
  · isplitr; · iexact HR
    isplitl [H1]; · iexact H1
    isplitl [H2]; · iexact H2
    iexact H3
  iintro ⟨H1, H2, H3⟩
  iapply Hk
  isplitl [H1 H2]
  · isplitl [H1]; · iexact H1
    iexact H2
  iexact H3

theorem run_recv {α : Type} {Q : α → sProp 𝕄} (c : Dev nD) (X : Fam) (o : ℕ) (h1 : 1 ≤ o) (h2 : o < sz X) (n : ℕ) (hlev : ∀ x ∈ levels.drop n, phase X + 1 < x)
    {sp sp' : Space} {s s' : Shape} {e e' : EltTy} {src : Memref sig .tc sp s e} {dst : Memref sig .tc sp' s' e'} {rs : DmaSem sig} (hrs : rs = rS X (pslot X c o))
    {hsrc : src.view.WordExact} {hdst : dst.view.WordExact} (hN : dst.view.dmaCredit = cr X)
    {k : PUnit → Prog (TpuEff nD τ sig (Elt F) Λ₀ .tc) α} :
    iprop(env dyV wV K ∗ rcv dyV wV X c o ∗ ow c n)
      ⊢ iprop(((rcv dyV wV X c (o + 1) ∗ ow c n) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 rs src dst hsrc hdst) k) Q) := by
  unfold env rcv
  iintro ⟨⟨#HR, #Hl⟩, ⟨H1, H2, H3⟩, H4⟩ Hk
  iapply (step_recv dyV wV K c X o h1 h2 n hlev hrs hN) $$ [H1 H2 H3 H4]
  · isplitr; · iexact HR
    isplitr; · iexact Hl
    isplitl [H1]; · iexact H1
    isplitl [H2]; · iexact H2
    isplitl [H3]; · iexact H3
    iexact H4
  iintro ⟨H1, H2, H3, H4⟩
  iapply Hk
  isplitl [H1 H2 H3]
  · isplitl [H1]; · iexact H1
    isplitl [H2]; · iexact H2
    iexact H3
  iexact H4

theorem run_done {α : Type} {Q : α → sProp 𝕄} (c : Dev nD) (X : Fam) (o : ℕ) (h1 : 1 ≤ o) (h2 : o < sz X)
    {sp sp' : Space} {s s' : Shape} {e e' : EltTy} {src : Memref sig .tc sp s e} {dst : Memref sig .tc sp' s' e'} {ss : DmaSem sig} (hss : ss = sS X o)
    {hsrc : src.view.WordExact} {hdst : dst.view.WordExact} (hN : dst.view.dmaCredit = cr X)
    {k : PUnit → Prog (TpuEff nD τ sig (Elt F) Λ₀ .tc) α} :
    iprop(env dyV wV K ∗ dn dyV wV X c o ∗ ow c 50)
      ⊢ iprop(((dn dyV wV X c (o + 1) ∗ ow c 50) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 ss src dst hsrc hdst) k) Q) := by
  unfold env dn
  iintro ⟨⟨#HR, #Hl⟩, ⟨H1, H2, H3, H4⟩, H5⟩ Hk
  iapply (step_done dyV wV K c X o h1 h2 hss hN) $$ [H1 H2 H3 H4 H5]
  · isplitr; · iexact HR
    isplitl [H1]; · iexact H1
    isplitl [H2]; · iexact H2
    isplitl [H3]; · iexact H3
    isplitl [H4]; · iexact H4
    iexact H5
  iintro ⟨H1, H2, H3, H4, H5⟩
  iapply Hk
  isplitl [H1 H2 H3 H4]
  · isplitl [H1]; · iexact H1
    isplitl [H2]; · iexact H2
    isplitl [H3]; · iexact H3
    iexact H4
  iexact H5

end Wp
end

end Cert.AllReduce

end
-- ==== Proof.Sends.lean ====
/-
The sends, family by family: what the operands are, and that the landing makes the receiver's slot what the schedule
says it is.
-/
module

public import proofs.«01_k».proof.Proof.Steps

@[expose] public section

noncomputable section

namespace Cert.AllReduce

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Fam

variable {F : FTy → Type} [FloatOps F]

local notation "𝕄" => MT nD τ sig Unit (Elt F) ℕ UU ℕ

/-! ## Semaphores by name -/

/-- The one semaphore of a slice at offset `k` of an array of consecutive semaphores. -/
theorem sem_val {N n b k : ℕ} {hc : b + (⟨1, ![n]⟩ : Shape).numel ≤ N} {off : Fin 1 → ℕ} (hoff : off = ![k]) {inb} {hq} :
    (((SemArray.consecutive b (⟨1, ![n]⟩ : Shape) hc).slice (Rect.unit (s := (⟨1, ![n]⟩ : Shape)) off S1.size inb)).squeeze S_ hq).sem.val = b + k := by
  subst hoff
  show b + ((⟨1, ![n]⟩ : Shape).rowMajor _).val = _
  rw [Shape.rowMajor_val_one, emb_unit_val]
  congr 1
  show k + (_ : Fin 1).val = k
  omega

theorem semS_A1 {k : ℕ} (hk : k < sz A1) {off : Fin 1 → ℕ} (hoff : off = ![k]) {inb} :
    ((cc0_scratch9.slice (Rect.unit (s := S8) off S1.size inb)).squeeze S_ squeezes_S1_S_).sem = sS A1 k :=
  Fin.ext ((sem_val hoff).trans (sS_val A1 k hk).symm)
theorem semR_A1 {k : ℕ} (hk : k < sz A1) {off : Fin 1 → ℕ} (hoff : off = ![k]) {inb} :
    ((cc0_scratch10.slice (Rect.unit (s := S8) off S1.size inb)).squeeze S_ squeezes_S1_S_).sem = rS A1 k :=
  Fin.ext ((sem_val hoff).trans (rS_val A1 k hk).symm)
theorem semS_B1 {k : ℕ} (hk : k < sz B1) {off : Fin 1 → ℕ} (hoff : off = ![k]) {inb} :
    ((cc0_scratch11.slice (Rect.unit (s := S4) off S1.size inb)).squeeze S_ squeezes_S1_S_).sem = sS B1 k :=
  Fin.ext ((sem_val hoff).trans (sS_val B1 k hk).symm)
theorem semR_B1 {k : ℕ} (hk : k < sz B1) {off : Fin 1 → ℕ} (hoff : off = ![k]) {inb} :
    ((cc0_scratch12.slice (Rect.unit (s := S4) off S1.size inb)).squeeze S_ squeezes_S1_S_).sem = rS B1 k :=
  Fin.ext ((sem_val hoff).trans (rS_val B1 k hk).symm)
theorem semS_A2 {k : ℕ} (hk : k < sz A2) {off : Fin 1 → ℕ} (hoff : off = ![k]) {inb} :
    ((cc0_scratch13.slice (Rect.unit (s := S4) off S1.size inb)).squeeze S_ squeezes_S1_S_).sem = sS A2 k :=
  Fin.ext ((sem_val hoff).trans (sS_val A2 k hk).symm)
theorem semR_A2 {k : ℕ} (hk : k < sz A2) {off : Fin 1 → ℕ} (hoff : off = ![k]) {inb} :
    ((cc0_scratch14.slice (Rect.unit (s := S4) off S1.size inb)).squeeze S_ squeezes_S1_S_).sem = rS A2 k :=
  Fin.ext ((sem_val hoff).trans (rS_val A2 k hk).symm)
theorem semS_B2 {k : ℕ} (hk : k < sz B2) {off : Fin 1 → ℕ} (hoff : off = ![k]) {inb} :
    ((cc0_scratch15.slice (Rect.unit (s := S8) off S1.size inb)).squeeze S_ squeezes_S1_S_).sem = sS B2 k :=
  Fin.ext ((sem_val hoff).trans (sS_val B2 k hk).symm)
theorem semR_B2 {k : ℕ} (hk : k < sz B2) {off : Fin 1 → ℕ} (hoff : off = ![k]) {inb} :
    ((cc0_scratch16.slice (Rect.unit (s := S8) off S1.size inb)).squeeze S_ squeezes_S1_S_).sem = rS B2 k :=
  Fin.ext ((sem_val hoff).trans (rS_val B2 k hk).symm)
theorem semS_A3 {k : ℕ} (hk : k < sz A3) {off : Fin 1 → ℕ} (hoff : off = ![k]) {inb} :
    ((cc0_scratch17.slice (Rect.unit (s := S4) off S1.size inb)).squeeze S_ squeezes_S1_S_).sem = sS A3 k :=
  Fin.ext ((sem_val hoff).trans (sS_val A3 k hk).symm)
theorem semR_A3 {k : ℕ} (hk : k < sz A3) {off : Fin 1 → ℕ} (hoff : off = ![k]) {inb} :
    ((cc0_scratch18.slice (Rect.unit (s := S4) off S1.size inb)).squeeze S_ squeezes_S1_S_).sem = rS A3 k :=
  Fin.ext ((sem_val hoff).trans (rS_val A3 k hk).symm)
theorem semS_B3 {k : ℕ} (hk : k < sz B3) {off : Fin 1 → ℕ} (hoff : off = ![k]) {inb} :
    ((cc0_scratch19.slice (Rect.unit (s := S8) off S1.size inb)).squeeze S_ squeezes_S1_S_).sem = sS B3 k :=
  Fin.ext ((sem_val hoff).trans (sS_val B3 k hk).symm)
theorem semR_B3 {k : ℕ} (hk : k < sz B3) {off : Fin 1 → ℕ} (hoff : off = ![k]) {inb} :
    ((cc0_scratch20.slice (Rect.unit (s := S8) off S1.size inb)).squeeze S_ squeezes_S1_S_).sem = rS B3 k :=
  Fin.ext ((sem_val hoff).trans (rS_val B3 k hk).symm)
theorem semS_A4 {k : ℕ} (hk : k < sz A4) {off : Fin 1 → ℕ} (hoff : off = ![k]) {inb} :
    ((cc0_scratch21.slice (Rect.unit (s := S8) off S1.size inb)).squeeze S_ squeezes_S1_S_).sem = sS A4 k :=
  Fin.ext ((sem_val hoff).trans (sS_val A4 k hk).symm)
theorem semR_A4 {k : ℕ} (hk : k < sz A4) {off : Fin 1 → ℕ} (hoff : off = ![k]) {inb} :
    ((cc0_scratch22.slice (Rect.unit (s := S8) off S1.size inb)).squeeze S_ squeezes_S1_S_).sem = rS A4 k :=
  Fin.ext ((sem_val hoff).trans (rS_val A4 k hk).symm)
theorem semS_B4 {k : ℕ} (hk : k < sz B4) {off : Fin 1 → ℕ} (hoff : off = ![k]) {inb} :
    ((cc0_scratch23.slice (Rect.unit (s := S4) off S1.size inb)).squeeze S_ squeezes_S1_S_).sem = sS B4 k :=
  Fin.ext ((sem_val hoff).trans (sS_val B4 k hk).symm)
theorem semR_B4 {k : ℕ} (hk : k < sz B4) {off : Fin 1 → ℕ} (hoff : off = ![k]) {inb} :
    ((cc0_scratch24.slice (Rect.unit (s := S4) off S1.size inb)).squeeze S_ squeezes_S1_S_).sem = rS B4 k :=
  Fin.ext ((sem_val hoff).trans (rS_val B4 k hk).symm)

/-! ## Landings -/

/-- The elements of a slot read without its leading coordinate. -/
theorem slot_emb {n a b s : ℕ} {off : Fin 3 → ℕ} (h : off = ![s, 0, 0]) {inb} {he : (⟨2, ![a, b]⟩ : Shape).numel = (⟨3, ![1, a, b]⟩ : Shape).numel}
    (j : (⟨2, ![a, b]⟩ : Shape).Idx) :
    (((Rect.unit (s := (⟨3, ![n, a, b]⟩ : Shape)) off ![1, a, b] inb).emb (Shape.reshapeEquiv he j)) 0).val = s
      ∧ (((Rect.unit (s := (⟨3, ![n, a, b]⟩ : Shape)) off ![1, a, b] inb).emb (Shape.reshapeEquiv he j)) 1).val = (j 0).val
      ∧ (((Rect.unit (s := (⟨3, ![n, a, b]⟩ : Shape)) off ![1, a, b] inb).emb (Shape.reshapeEquiv he j)) 2).val = (j 1).val := by
  subst h
  obtain ⟨x, y, rfl⟩ : ∃ x y, j = ix2 x y := ⟨j 0, j 1, eq_ix2 j⟩
  rw [reshapeEquiv_ix2_1ab, emb_unit_val, emb_unit_val, emb_unit_val]
  exact ⟨Nat.add_zero _, Nat.zero_add _, Nat.zero_add _⟩

/-- The elements of a block of rows. -/
theorem rows_emb {N w o h : ℕ} {off : Fin 2 → ℕ} (hoff : off = ![o, 0]) {inb} (j : (⟨2, ![h, w]⟩ : Shape).Idx) :
    (((Rect.unit (s := (⟨2, ![N, w]⟩ : Shape)) off ![h, w] inb).emb j) 0).val = o + (j 0).val
      ∧ (((Rect.unit (s := (⟨2, ![N, w]⟩ : Shape)) off ![h, w] inb).emb j) 1).val = (j 1).val := by
  subst hoff
  rw [emb_unit_val, emb_unit_val]
  exact ⟨rfl, Nat.zero_add _⟩

/-- What is written through the whole of a view is, under it, the contents that agree there. -/
theorem landing {s : Shape} {e : EltTy} (c' : Dev nD) {dst : View sig .tc .vmem s e} (fd V : Buf (Elt F) (dst.loc (c' : Thread nD τ))) (w : s.Idx → Elt F e)
    (I : Finset (Idx (dst.loc (c' : Thread nD τ)))) (hI : dst.set = I)
    (h : ∀ j, cast (congrArg (Elt F) dst.elt_eq.symm) (w j) = V (dst.emb j)) :
    (dst.loc (c' : Thread nD τ) ↦[dst.set]{fullShare} (dst.write (Elt F) fd w Finset.univ) : sProp 𝕄) = (dst.loc (c' : Thread nD τ) ↦[I]{fullShare} V) := by
  subst hI
  refine pointsTo_congr fun i hi => ?_
  obtain ⟨j, -, rfl⟩ := Finset.mem_map.mp hi
  rw [View.write_emb_of_mem _ _ (Finset.mem_univ j)]
  exact h j

theorem idx3_ext {n a b : ℕ} {i j : (⟨3, ![n, a, b]⟩ : Shape).Idx} (h0 : (i 0).val = (j 0).val) (h1 : (i 1).val = (j 1).val) (h2 : (i 2).val = (j 2).val) : i = j := by
  funext x; fin_cases x
  · exact Fin.ext h0
  · exact Fin.ext h1
  · exact Fin.ext h2
theorem idx2_ext {a b : ℕ} {i j : (⟨2, ![a, b]⟩ : Shape).Idx} (h0 : (i 0).val = (j 0).val) (h1 : (i 1).val = (j 1).val) : i = j := by
  funext x; fin_cases x
  · exact Fin.ext h0
  · exact Fin.ext h1

section
variable (dyV wV : Dev nD → Vec F S512x2048 .f32)

theorem land_A1 (c : Dev nD) (o : ℕ) (i : S8x32x512.Idx) (x : S512x512.Idx) (j0 j1 : ℕ) (hj : j0 < 32) (h0 : (i 0).val = me A1 c) (h1 : (i 1).val = j0) (h2 : (i 2).val = j1)
    (x0 : (x 0).val = 32 * pslot A1 c o + j0) (x1 : (x 1).val = j1) : pV dyV wV c x = rsA1V dyV wV (peer A1 c o) i := by
  have hp := pslot_lt A1 c o
  unfold rsA1V
  rw [show dev ((peer A1 c o).val / 8) (i 0).val = c from by rw [h0, peer_row_div rfl, me_row rfl, dev_me]]
  refine congrArg _ (idx2_ext ?_ ?_)
  · show (x 0).val = (32 * ((peer A1 c o).val % 8) + (i 1).val) % 512
    rw [x0, h1, peer_row_mod rfl]
    have : pslot A1 c o = (c.val % 8 + o) % 8 := rfl
    omega
  · show (x 1).val = (i 2).val
    rw [x1, h2]

theorem land_B1 (c : Dev nD) (o : ℕ) (i : S4x64x512.Idx) (x : S512x512.Idx) (j0 j1 : ℕ) (hj : j0 < 64) (h0 : (i 0).val = me B1 c) (h1 : (i 1).val = j0) (h2 : (i 2).val = j1)
    (x0 : (x 0).val = 64 * pslot B1 c o + 256 + j0) (x1 : (x 1).val = j1) : pV dyV wV c x = rsB1V dyV wV (peer B1 c o) i := by
  unfold rsB1V
  rw [show dev (i 0).val ((peer B1 c o).val % 8) = c from by rw [h0, peer_col_mod rfl, me_col rfl, dev_me]]
  refine congrArg _ (idx2_ext ?_ ?_)
  · show (x 0).val = (64 * ((peer B1 c o).val / 8) + 256 + (i 1).val) % 512
    rw [x0, h1, peer_col_div rfl]
    have : pslot B1 c o = (c.val / 8 + o) % 4 := rfl
    omega
  · show (x 1).val = (i 2).val
    rw [x1, h2]

theorem land_A2 (c : Dev nD) (o : ℕ) (i : S4x8x512.Idx) (x : S32x512.Idx) (j0 j1 : ℕ) (hj : j0 < 8) (h0 : (i 0).val = me A2 c) (h1 : (i 1).val = j0) (h2 : (i 2).val = j1)
    (x0 : (x 0).val = 8 * pslot A2 c o + j0) (x1 : (x 1).val = j1) : redAV dyV wV c x = rsA2V dyV wV (peer A2 c o) i := by
  unfold rsA2V
  rw [show dev (i 0).val ((peer A2 c o).val % 8) = c from by rw [h0, peer_col_mod rfl, me_col rfl, dev_me]]
  refine congrArg _ (idx2_ext ?_ ?_)
  · show (x 0).val = (8 * ((peer A2 c o).val / 8) + (i 1).val) % 32
    rw [x0, h1, peer_col_div rfl]
    have : pslot A2 c o = (c.val / 8 + o) % 4 := rfl
    omega
  · show (x 1).val = (i 2).val
    rw [x1, h2]

theorem land_B2 (c : Dev nD) (o : ℕ) (i : S8x8x512.Idx) (x : S64x512.Idx) (j0 j1 : ℕ) (hj : j0 < 8) (h0 : (i 0).val = me B2 c) (h1 : (i 1).val = j0) (h2 : (i 2).val = j1)
    (x0 : (x 0).val = 8 * pslot B2 c o + j0) (x1 : (x 1).val = j1) : redBV dyV wV c x = rsB2V dyV wV (peer B2 c o) i := by
  unfold rsB2V
  rw [show dev ((peer B2 c o).val / 8) (i 0).val = c from by rw [h0, peer_row_div rfl, me_row rfl, dev_me]]
  refine congrArg _ (idx2_ext ?_ ?_)
  · show (x 0).val = (8 * ((peer B2 c o).val % 8) + (i 1).val) % 64
    rw [x0, h1, peer_row_mod rfl]
    have : pslot B2 c o = (c.val % 8 + o) % 8 := rfl
    omega
  · show (x 1).val = (i 2).val
    rw [x1, h2]

theorem land_A3 (c : Dev nD) (o : ℕ) (i : S4x8x512.Idx) : agA2V dyV wV c i = agA2V dyV wV (peer A3 c o) i := by
  unfold agA2V; rw [peer_col_mod rfl]
theorem land_B3 (c : Dev nD) (o : ℕ) (i : S8x8x512.Idx) : agB2V dyV wV c i = agB2V dyV wV (peer B3 c o) i := by
  unfold agB2V; rw [peer_row_div rfl]

end

/-! ## The sends -/

section
variable (dyV wV : Dev nD → Vec F S512x2048 .f32) (K : Dev nD × Option KX → ℕ)

/-- A send of family `A1` at offset `o`. -/
theorem send_A1 {α : Type} {Q : α → sProp 𝕄} (c : Dev nD) (o : ℕ) (h1 : 1 ≤ o) (h2 : o < sz A1) (n : ℕ) (hn : (dueL c)[n]? = some (outCell A1 c o, cr A1))
    {c' : Dev nD} (hc : c' = peer A1 c o) {sof : Fin 2 → ℕ} (hsrc : sof = ![32 * pslot A1 c o, 0]) {isrc hsu} {dof : Fin 3 → ℕ} (hdst : dof = ![me A1 c, 0, 0]) {idst hdu}
    {sso rso : Fin 1 → ℕ} (hss : sso = ![o]) (hrs : rso = ![me A1 c]) {iss irs}
    {hsc hx1 hx2 hx3} {k : PUnit → Prog (TpuEff nD τ sig (Elt F) Λ₀ .tc) α} :
    iprop(env dyV wV K ∗ snd dyV wV A1 c o ∗ ow c n)
      ⊢ iprop(((snd dyV wV A1 c (o + 1) ∗ ow c (n + 1)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((Memref.whole cc0_scratch0).slice (Rect.unit (s := S512x512) sof S32x512.size isrc) hsu)
                (.remote (Dev.tc c' : Thread nD τ) (((Memref.whole cc0_scratch1).slice (Rect.unit (s := S8x32x512) dof S1x32x512.size idst) hdu).squeeze S32x512 squeezes_S1x32x512_S32x512)
                  (.dma ((cc0_scratch9.slice (Rect.unit (s := S8) sso S1.size iss)).squeeze S_ squeezes_S1_S_).sem) hsc)
                (.dma ((cc0_scratch10.slice (Rect.unit (s := S8) rso S1.size irs)).squeeze S_ squeezes_S1_S_).sem) hx1 hx2 hx3) k) Q) := by
  subst hc
  have hN : ((((Memref.whole cc0_scratch1).slice (Rect.unit (s := S8x32x512) dof S1x32x512.size idst) hdu).squeeze S32x512 squeezes_S1x32x512_S32x512) : Memref sig .tc .vmem S32x512 .f32).view.dmaCredit = cr A1 := rfl
  have hI : (((Memref.whole cc0_scratch0).slice (Rect.unit (s := S512x512) sof S32x512.size isrc) hsu) : Memref sig .tc .vmem S32x512 .f32).view.set = fib half (pslot A1 c o) := by rw [View.set_slice_whole]; exact (set_half32 (pslot A1 c o) (pslot_lt A1 c o) hsrc)
  have hJ : ((((Memref.whole cc0_scratch1).slice (Rect.unit (s := S8x32x512) dof S1x32x512.size idst) hdu).squeeze S32x512 squeezes_S1x32x512_S32x512) : Memref sig .tc .vmem S32x512 .f32).view.set = fib lead (me A1 c) := by rw [View.set_reshape, View.set_slice_whole]; exact (set_slot _ hdst)
  have hs := semS_A1 h2 hss (inb := iss)
  have hr := semR_A1 (me_lt A1 c) hrs (inb := irs)
  refine run_send (Q := Q) (k := k) (src := ((Memref.whole cc0_scratch0).slice (Rect.unit (s := S512x512) sof S32x512.size isrc) hsu)) (hsc := hsc) (hsrc := hx1) (hdst := hx2) (hsem := hx3)
    dyV wV K c A1 o h1 h2 n hn rfl hs hr hN (pV dyV wV c) (q := fullShare) ?_ ?_ fun fd => ?_
  · exact congrArg (fun I : Finset (Idx ((c : Thread nD τ).loc cc0_scratch0)) => (((c : Thread nD τ).loc cc0_scratch0) ↦[I]{fullShare} pV dyV wV c : sProp 𝕄)) hI.symm
  · exact BI.Laws.exists_mono fun fd => Entails.of_eq (congrArg (fun I : Finset (Idx ((peer A1 c o : Thread nD τ).loc cc0_scratch1)) => (((peer A1 c o : Thread nD τ).loc cc0_scratch1) ↦[I]{fullShare} fd : sProp 𝕄)) hJ.symm)
  · refine Entails.of_eq (landing (F := F) (peer A1 c o) _ _ _ _ hJ fun j => ?_)
    exact (by
        obtain ⟨h0, h1, h2⟩ := slot_emb hdst (inb := idst) (he := (squeezes_S1x32x512_S32x512).numel_eq) j
        obtain ⟨x0, x1⟩ := rows_emb hsrc (inb := isrc) j
        exact land_A1 dyV wV c o _ _ (j 0).val (j 1).val (j 0).isLt h0 h1 h2 x0 x1)

/-- A send of family `B1` at offset `o`. -/
theorem send_B1 {α : Type} {Q : α → sProp 𝕄} (c : Dev nD) (o : ℕ) (h1 : 1 ≤ o) (h2 : o < sz B1) (n : ℕ) (hn : (dueL c)[n]? = some (outCell B1 c o, cr B1))
    {c' : Dev nD} (hc : c' = peer B1 c o) {sof : Fin 2 → ℕ} (hsrc : sof = ![64 * pslot B1 c o + 256, 0]) {isrc hsu} {dof : Fin 3 → ℕ} (hdst : dof = ![me B1 c, 0, 0]) {idst hdu}
    {sso rso : Fin 1 → ℕ} (hss : sso = ![o]) (hrs : rso = ![me B1 c]) {iss irs}
    {hsc hx1 hx2 hx3} {k : PUnit → Prog (TpuEff nD τ sig (Elt F) Λ₀ .tc) α} :
    iprop(env dyV wV K ∗ snd dyV wV B1 c o ∗ ow c n)
      ⊢ iprop(((snd dyV wV B1 c (o + 1) ∗ ow c (n + 1)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((Memref.whole cc0_scratch0).slice (Rect.unit (s := S512x512) sof S64x512.size isrc) hsu)
                (.remote (Dev.tc c' : Thread nD τ) (((Memref.whole cc0_scratch2).slice (Rect.unit (s := S4x64x512) dof S1x64x512.size idst) hdu).squeeze S64x512 squeezes_S1x64x512_S64x512)
                  (.dma ((cc0_scratch11.slice (Rect.unit (s := S4) sso S1.size iss)).squeeze S_ squeezes_S1_S_).sem) hsc)
                (.dma ((cc0_scratch12.slice (Rect.unit (s := S4) rso S1.size irs)).squeeze S_ squeezes_S1_S_).sem) hx1 hx2 hx3) k) Q) := by
  subst hc
  have hN : ((((Memref.whole cc0_scratch2).slice (Rect.unit (s := S4x64x512) dof S1x64x512.size idst) hdu).squeeze S64x512 squeezes_S1x64x512_S64x512) : Memref sig .tc .vmem S64x512 .f32).view.dmaCredit = cr B1 := rfl
  have hI : (((Memref.whole cc0_scratch0).slice (Rect.unit (s := S512x512) sof S64x512.size isrc) hsu) : Memref sig .tc .vmem S64x512 .f32).view.set = fib half (8 + pslot B1 c o) := by rw [View.set_slice_whole]; exact (set_half64 (pslot B1 c o) (pslot_lt B1 c o) hsrc)
  have hJ : ((((Memref.whole cc0_scratch2).slice (Rect.unit (s := S4x64x512) dof S1x64x512.size idst) hdu).squeeze S64x512 squeezes_S1x64x512_S64x512) : Memref sig .tc .vmem S64x512 .f32).view.set = fib lead (me B1 c) := by rw [View.set_reshape, View.set_slice_whole]; exact (set_slot _ hdst)
  have hs := semS_B1 h2 hss (inb := iss)
  have hr := semR_B1 (me_lt B1 c) hrs (inb := irs)
  refine run_send (Q := Q) (k := k) (src := ((Memref.whole cc0_scratch0).slice (Rect.unit (s := S512x512) sof S64x512.size isrc) hsu)) (hsc := hsc) (hsrc := hx1) (hdst := hx2) (hsem := hx3)
    dyV wV K c B1 o h1 h2 n hn rfl hs hr hN (pV dyV wV c) (q := fullShare) ?_ ?_ fun fd => ?_
  · exact congrArg (fun I : Finset (Idx ((c : Thread nD τ).loc cc0_scratch0)) => (((c : Thread nD τ).loc cc0_scratch0) ↦[I]{fullShare} pV dyV wV c : sProp 𝕄)) hI.symm
  · exact BI.Laws.exists_mono fun fd => Entails.of_eq (congrArg (fun I : Finset (Idx ((peer B1 c o : Thread nD τ).loc cc0_scratch2)) => (((peer B1 c o : Thread nD τ).loc cc0_scratch2) ↦[I]{fullShare} fd : sProp 𝕄)) hJ.symm)
  · refine Entails.of_eq (landing (F := F) (peer B1 c o) _ _ _ _ hJ fun j => ?_)
    exact (by
        obtain ⟨h0, h1, h2⟩ := slot_emb hdst (inb := idst) (he := (squeezes_S1x64x512_S64x512).numel_eq) j
        obtain ⟨x0, x1⟩ := rows_emb hsrc (inb := isrc) j
        exact land_B1 dyV wV c o _ _ (j 0).val (j 1).val (j 0).isLt h0 h1 h2 x0 x1)

/-- A send of family `A2` at offset `o`. -/
theorem send_A2 {α : Type} {Q : α → sProp 𝕄} (c : Dev nD) (o : ℕ) (h1 : 1 ≤ o) (h2 : o < sz A2) (n : ℕ) (hn : (dueL c)[n]? = some (outCell A2 c o, cr A2))
    {c' : Dev nD} (hc : c' = peer A2 c o) {sof : Fin 2 → ℕ} (hsrc : sof = ![8 * pslot A2 c o, 0]) {isrc hsu} {dof : Fin 3 → ℕ} (hdst : dof = ![me A2 c, 0, 0]) {idst hdu}
    {sso rso : Fin 1 → ℕ} (hss : sso = ![o]) (hrs : rso = ![me A2 c]) {iss irs}
    {hsc hx1 hx2 hx3} {k : PUnit → Prog (TpuEff nD τ sig (Elt F) Λ₀ .tc) α} :
    iprop(env dyV wV K ∗ snd dyV wV A2 c o ∗ ow c n)
      ⊢ iprop(((snd dyV wV A2 c (o + 1) ∗ ow c (n + 1)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((Memref.whole cc0_scratch3).slice (Rect.unit (s := S32x512) sof S8x512.size isrc) hsu)
                (.remote (Dev.tc c' : Thread nD τ) (((Memref.whole cc0_scratch5).slice (Rect.unit (s := S4x8x512) dof S1x8x512.size idst) hdu).squeeze S8x512 squeezes_S1x8x512_S8x512)
                  (.dma ((cc0_scratch13.slice (Rect.unit (s := S4) sso S1.size iss)).squeeze S_ squeezes_S1_S_).sem) hsc)
                (.dma ((cc0_scratch14.slice (Rect.unit (s := S4) rso S1.size irs)).squeeze S_ squeezes_S1_S_).sem) hx1 hx2 hx3) k) Q) := by
  subst hc
  have hN : ((((Memref.whole cc0_scratch5).slice (Rect.unit (s := S4x8x512) dof S1x8x512.size idst) hdu).squeeze S8x512 squeezes_S1x8x512_S8x512) : Memref sig .tc .vmem S8x512 .f32).view.dmaCredit = cr A2 := rfl
  have hI : (((Memref.whole cc0_scratch3).slice (Rect.unit (s := S32x512) sof S8x512.size isrc) hsu) : Memref sig .tc .vmem S8x512 .f32).view.set = fib blk8 (pslot A2 c o) := by rw [View.set_slice_whole]; exact (set_rows8 (pslot A2 c o) hsrc)
  have hJ : ((((Memref.whole cc0_scratch5).slice (Rect.unit (s := S4x8x512) dof S1x8x512.size idst) hdu).squeeze S8x512 squeezes_S1x8x512_S8x512) : Memref sig .tc .vmem S8x512 .f32).view.set = fib lead (me A2 c) := by rw [View.set_reshape, View.set_slice_whole]; exact (set_slot _ hdst)
  have hs := semS_A2 h2 hss (inb := iss)
  have hr := semR_A2 (me_lt A2 c) hrs (inb := irs)
  refine run_send (Q := Q) (k := k) (src := ((Memref.whole cc0_scratch3).slice (Rect.unit (s := S32x512) sof S8x512.size isrc) hsu)) (hsc := hsc) (hsrc := hx1) (hdst := hx2) (hsem := hx3)
    dyV wV K c A2 o h1 h2 n hn rfl hs hr hN (redAV dyV wV c) (q := fullShare) ?_ ?_ fun fd => ?_
  · exact congrArg (fun I : Finset (Idx ((c : Thread nD τ).loc cc0_scratch3)) => (((c : Thread nD τ).loc cc0_scratch3) ↦[I]{fullShare} redAV dyV wV c : sProp 𝕄)) hI.symm
  · exact BI.Laws.exists_mono fun fd => Entails.of_eq (congrArg (fun I : Finset (Idx ((peer A2 c o : Thread nD τ).loc cc0_scratch5)) => (((peer A2 c o : Thread nD τ).loc cc0_scratch5) ↦[I]{fullShare} fd : sProp 𝕄)) hJ.symm)
  · refine Entails.of_eq (landing (F := F) (peer A2 c o) _ _ _ _ hJ fun j => ?_)
    exact (by
        obtain ⟨h0, h1, h2⟩ := slot_emb hdst (inb := idst) (he := (squeezes_S1x8x512_S8x512).numel_eq) j
        obtain ⟨x0, x1⟩ := rows_emb hsrc (inb := isrc) j
        exact land_A2 dyV wV c o _ _ (j 0).val (j 1).val (j 0).isLt h0 h1 h2 x0 x1)

/-- A send of family `B2` at offset `o`. -/
theorem send_B2 {α : Type} {Q : α → sProp 𝕄} (c : Dev nD) (o : ℕ) (h1 : 1 ≤ o) (h2 : o < sz B2) (n : ℕ) (hn : (dueL c)[n]? = some (outCell B2 c o, cr B2))
    {c' : Dev nD} (hc : c' = peer B2 c o) {sof : Fin 2 → ℕ} (hsrc : sof = ![8 * pslot B2 c o, 0]) {isrc hsu} {dof : Fin 3 → ℕ} (hdst : dof = ![me B2 c, 0, 0]) {idst hdu}
    {sso rso : Fin 1 → ℕ} (hss : sso = ![o]) (hrs : rso = ![me B2 c]) {iss irs}
    {hsc hx1 hx2 hx3} {k : PUnit → Prog (TpuEff nD τ sig (Elt F) Λ₀ .tc) α} :
    iprop(env dyV wV K ∗ snd dyV wV B2 c o ∗ ow c n)
      ⊢ iprop(((snd dyV wV B2 c (o + 1) ∗ ow c (n + 1)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((Memref.whole cc0_scratch4).slice (Rect.unit (s := S64x512) sof S8x512.size isrc) hsu)
                (.remote (Dev.tc c' : Thread nD τ) (((Memref.whole cc0_scratch6).slice (Rect.unit (s := S8x8x512) dof S1x8x512.size idst) hdu).squeeze S8x512 squeezes_S1x8x512_S8x512)
                  (.dma ((cc0_scratch15.slice (Rect.unit (s := S8) sso S1.size iss)).squeeze S_ squeezes_S1_S_).sem) hsc)
                (.dma ((cc0_scratch16.slice (Rect.unit (s := S8) rso S1.size irs)).squeeze S_ squeezes_S1_S_).sem) hx1 hx2 hx3) k) Q) := by
  subst hc
  have hN : ((((Memref.whole cc0_scratch6).slice (Rect.unit (s := S8x8x512) dof S1x8x512.size idst) hdu).squeeze S8x512 squeezes_S1x8x512_S8x512) : Memref sig .tc .vmem S8x512 .f32).view.dmaCredit = cr B2 := rfl
  have hI : (((Memref.whole cc0_scratch4).slice (Rect.unit (s := S64x512) sof S8x512.size isrc) hsu) : Memref sig .tc .vmem S8x512 .f32).view.set = fib blk8 (pslot B2 c o) := by rw [View.set_slice_whole]; exact (set_rows8 (pslot B2 c o) hsrc)
  have hJ : ((((Memref.whole cc0_scratch6).slice (Rect.unit (s := S8x8x512) dof S1x8x512.size idst) hdu).squeeze S8x512 squeezes_S1x8x512_S8x512) : Memref sig .tc .vmem S8x512 .f32).view.set = fib lead (me B2 c) := by rw [View.set_reshape, View.set_slice_whole]; exact (set_slot _ hdst)
  have hs := semS_B2 h2 hss (inb := iss)
  have hr := semR_B2 (me_lt B2 c) hrs (inb := irs)
  refine run_send (Q := Q) (k := k) (src := ((Memref.whole cc0_scratch4).slice (Rect.unit (s := S64x512) sof S8x512.size isrc) hsu)) (hsc := hsc) (hsrc := hx1) (hdst := hx2) (hsem := hx3)
    dyV wV K c B2 o h1 h2 n hn rfl hs hr hN (redBV dyV wV c) (q := fullShare) ?_ ?_ fun fd => ?_
  · exact congrArg (fun I : Finset (Idx ((c : Thread nD τ).loc cc0_scratch4)) => (((c : Thread nD τ).loc cc0_scratch4) ↦[I]{fullShare} redBV dyV wV c : sProp 𝕄)) hI.symm
  · exact BI.Laws.exists_mono fun fd => Entails.of_eq (congrArg (fun I : Finset (Idx ((peer B2 c o : Thread nD τ).loc cc0_scratch6)) => (((peer B2 c o : Thread nD τ).loc cc0_scratch6) ↦[I]{fullShare} fd : sProp 𝕄)) hJ.symm)
  · refine Entails.of_eq (landing (F := F) (peer B2 c o) _ _ _ _ hJ fun j => ?_)
    exact (by
        obtain ⟨h0, h1, h2⟩ := slot_emb hdst (inb := idst) (he := (squeezes_S1x8x512_S8x512).numel_eq) j
        obtain ⟨x0, x1⟩ := rows_emb hsrc (inb := isrc) j
        exact land_B2 dyV wV c o _ _ (j 0).val (j 1).val (j 0).isLt h0 h1 h2 x0 x1)

/-- A send of family `A3` at offset `o`. -/
theorem send_A3 {α : Type} {Q : α → sProp 𝕄} (c : Dev nD) (o : ℕ) (h1 : 1 ≤ o) (h2 : o < sz A3) (n : ℕ) (hn : (dueL c)[n]? = some (outCell A3 c o, cr A3))
    {c' : Dev nD} (hc : c' = peer A3 c o) {dof : Fin 3 → ℕ} (hdst : dof = ![me A3 c, 0, 0]) {isrc hsu idst hdu}
    {sso rso : Fin 1 → ℕ} (hss : sso = ![o]) (hrs : rso = ![me A3 c]) {iss irs}
    {hsc hx1 hx2 hx3} {k : PUnit → Prog (TpuEff nD τ sig (Elt F) Λ₀ .tc) α} :
    iprop(env dyV wV K ∗ snd dyV wV A3 c o ∗ ow c n)
      ⊢ iprop(((snd dyV wV A3 c (o + 1) ∗ ow c (n + 1)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (((Memref.whole cc0_scratch7).slice (Rect.unit (s := S4x8x512) dof S1x8x512.size isrc) hsu).squeeze S8x512 squeezes_S1x8x512_S8x512)
                (.remote (Dev.tc c' : Thread nD τ) (((Memref.whole cc0_scratch7).slice (Rect.unit (s := S4x8x512) dof S1x8x512.size idst) hdu).squeeze S8x512 squeezes_S1x8x512_S8x512)
                  (.dma ((cc0_scratch17.slice (Rect.unit (s := S4) sso S1.size iss)).squeeze S_ squeezes_S1_S_).sem) hsc)
                (.dma ((cc0_scratch18.slice (Rect.unit (s := S4) rso S1.size irs)).squeeze S_ squeezes_S1_S_).sem) hx1 hx2 hx3) k) Q) := by
  subst hc
  have hN : ((((Memref.whole cc0_scratch7).slice (Rect.unit (s := S4x8x512) dof S1x8x512.size idst) hdu).squeeze S8x512 squeezes_S1x8x512_S8x512) : Memref sig .tc .vmem S8x512 .f32).view.dmaCredit = cr A3 := rfl
  have hI : ((((Memref.whole cc0_scratch7).slice (Rect.unit (s := S4x8x512) dof S1x8x512.size isrc) hsu).squeeze S8x512 squeezes_S1x8x512_S8x512) : Memref sig .tc .vmem S8x512 .f32).view.set = fib lead (me A3 c) := by rw [View.set_reshape, View.set_slice_whole]; exact (set_slot _ hdst)
  have hJ : ((((Memref.whole cc0_scratch7).slice (Rect.unit (s := S4x8x512) dof S1x8x512.size idst) hdu).squeeze S8x512 squeezes_S1x8x512_S8x512) : Memref sig .tc .vmem S8x512 .f32).view.set = fib lead (me A3 c) := by rw [View.set_reshape, View.set_slice_whole]; exact (set_slot _ hdst)
  have hs := semS_A3 h2 hss (inb := iss)
  have hr := semR_A3 (me_lt A3 c) hrs (inb := irs)
  refine run_send (Q := Q) (k := k) (src := (((Memref.whole cc0_scratch7).slice (Rect.unit (s := S4x8x512) dof S1x8x512.size isrc) hsu).squeeze S8x512 squeezes_S1x8x512_S8x512)) (hsc := hsc) (hsrc := hx1) (hdst := hx2) (hsem := hx3)
    dyV wV K c A3 o h1 h2 n hn rfl hs hr hN (agA2V dyV wV c) (q := lf 2 o) ?_ ?_ fun fd => ?_
  · exact congrArg (fun I : Finset (Idx ((c : Thread nD τ).loc cc0_scratch7)) => (((c : Thread nD τ).loc cc0_scratch7) ↦[I]{lf 2 o} agA2V dyV wV c : sProp 𝕄)) hI.symm
  · exact BI.Laws.exists_mono fun fd => Entails.of_eq (congrArg (fun I : Finset (Idx ((peer A3 c o : Thread nD τ).loc cc0_scratch7)) => (((peer A3 c o : Thread nD τ).loc cc0_scratch7) ↦[I]{fullShare} fd : sProp 𝕄)) hJ.symm)
  · refine Entails.of_eq (landing (F := F) (peer A3 c o) _ _ _ _ hJ fun j => ?_)
    exact (land_A3 dyV wV c o _)

/-- A send of family `B3` at offset `o`. -/
theorem send_B3 {α : Type} {Q : α → sProp 𝕄} (c : Dev nD) (o : ℕ) (h1 : 1 ≤ o) (h2 : o < sz B3) (n : ℕ) (hn : (dueL c)[n]? = some (outCell B3 c o, cr B3))
    {c' : Dev nD} (hc : c' = peer B3 c o) {dof : Fin 3 → ℕ} (hdst : dof = ![me B3 c, 0, 0]) {isrc hsu idst hdu}
    {sso rso : Fin 1 → ℕ} (hss : sso = ![o]) (hrs : rso = ![me B3 c]) {iss irs}
    {hsc hx1 hx2 hx3} {k : PUnit → Prog (TpuEff nD τ sig (Elt F) Λ₀ .tc) α} :
    iprop(env dyV wV K ∗ snd dyV wV B3 c o ∗ ow c n)
      ⊢ iprop(((snd dyV wV B3 c (o + 1) ∗ ow c (n + 1)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (((Memref.whole cc0_scratch8).slice (Rect.unit (s := S8x8x512) dof S1x8x512.size isrc) hsu).squeeze S8x512 squeezes_S1x8x512_S8x512)
                (.remote (Dev.tc c' : Thread nD τ) (((Memref.whole cc0_scratch8).slice (Rect.unit (s := S8x8x512) dof S1x8x512.size idst) hdu).squeeze S8x512 squeezes_S1x8x512_S8x512)
                  (.dma ((cc0_scratch19.slice (Rect.unit (s := S8) sso S1.size iss)).squeeze S_ squeezes_S1_S_).sem) hsc)
                (.dma ((cc0_scratch20.slice (Rect.unit (s := S8) rso S1.size irs)).squeeze S_ squeezes_S1_S_).sem) hx1 hx2 hx3) k) Q) := by
  subst hc
  have hN : ((((Memref.whole cc0_scratch8).slice (Rect.unit (s := S8x8x512) dof S1x8x512.size idst) hdu).squeeze S8x512 squeezes_S1x8x512_S8x512) : Memref sig .tc .vmem S8x512 .f32).view.dmaCredit = cr B3 := rfl
  have hI : ((((Memref.whole cc0_scratch8).slice (Rect.unit (s := S8x8x512) dof S1x8x512.size isrc) hsu).squeeze S8x512 squeezes_S1x8x512_S8x512) : Memref sig .tc .vmem S8x512 .f32).view.set = fib lead (me B3 c) := by rw [View.set_reshape, View.set_slice_whole]; exact (set_slot _ hdst)
  have hJ : ((((Memref.whole cc0_scratch8).slice (Rect.unit (s := S8x8x512) dof S1x8x512.size idst) hdu).squeeze S8x512 squeezes_S1x8x512_S8x512) : Memref sig .tc .vmem S8x512 .f32).view.set = fib lead (me B3 c) := by rw [View.set_reshape, View.set_slice_whole]; exact (set_slot _ hdst)
  have hs := semS_B3 h2 hss (inb := iss)
  have hr := semR_B3 (me_lt B3 c) hrs (inb := irs)
  refine run_send (Q := Q) (k := k) (src := (((Memref.whole cc0_scratch8).slice (Rect.unit (s := S8x8x512) dof S1x8x512.size isrc) hsu).squeeze S8x512 squeezes_S1x8x512_S8x512)) (hsc := hsc) (hsrc := hx1) (hdst := hx2) (hsem := hx3)
    dyV wV K c B3 o h1 h2 n hn rfl hs hr hN (agB2V dyV wV c) (q := lf 3 o) ?_ ?_ fun fd => ?_
  · exact congrArg (fun I : Finset (Idx ((c : Thread nD τ).loc cc0_scratch8)) => (((c : Thread nD τ).loc cc0_scratch8) ↦[I]{lf 3 o} agB2V dyV wV c : sProp 𝕄)) hI.symm
  · exact BI.Laws.exists_mono fun fd => Entails.of_eq (congrArg (fun I : Finset (Idx ((peer B3 c o : Thread nD τ).loc cc0_scratch8)) => (((peer B3 c o : Thread nD τ).loc cc0_scratch8) ↦[I]{fullShare} fd : sProp 𝕄)) hJ.symm)
  · refine Entails.of_eq (landing (F := F) (peer B3 c o) _ _ _ _ hJ fun j => ?_)
    exact (land_B3 dyV wV c o _)

/-- A send of family `A4` at offset `o`. -/
theorem send_A4 {α : Type} {Q : α → sProp 𝕄} (c : Dev nD) (o : ℕ) (h1 : 1 ≤ o) (h2 : o < sz A4) (n : ℕ) (hn : (dueL c)[n]? = some (outCell A4 c o, cr A4))
    {c' : Dev nD} (hc : c' = peer A4 c o) {sof : Fin 2 → ℕ} (hsrc : sof = ![32 * me A4 c, 0]) {isrc hsu idst hdu}
    {sso rso : Fin 1 → ℕ} (hss : sso = ![o]) (hrs : rso = ![me A4 c]) {iss irs}
    {hsc hx1 hx2 hx3} {k : PUnit → Prog (TpuEff nD τ sig (Elt F) Λ₀ .tc) α} :
    iprop(env dyV wV K ∗ snd dyV wV A4 c o ∗ ow c n)
      ⊢ iprop(((snd dyV wV A4 c (o + 1) ∗ ow c (n + 1)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((Memref.whole cc0_stg2_0).slice (Rect.unit (s := S512x512) sof S32x512.size isrc) hsu)
                (.remote (Dev.tc c' : Thread nD τ) ((Memref.whole cc0_stg2_0).slice (Rect.unit (s := S512x512) sof S32x512.size idst) hdu)
                  (.dma ((cc0_scratch21.slice (Rect.unit (s := S8) sso S1.size iss)).squeeze S_ squeezes_S1_S_).sem) hsc)
                (.dma ((cc0_scratch22.slice (Rect.unit (s := S8) rso S1.size irs)).squeeze S_ squeezes_S1_S_).sem) hx1 hx2 hx3) k) Q) := by
  subst hc
  have hN : (((Memref.whole cc0_stg2_0).slice (Rect.unit (s := S512x512) sof S32x512.size idst) hdu) : Memref sig .tc .vmem S32x512 .f32).view.dmaCredit = cr A4 := rfl
  have hI : (((Memref.whole cc0_stg2_0).slice (Rect.unit (s := S512x512) sof S32x512.size isrc) hsu) : Memref sig .tc .vmem S32x512 .f32).view.set = fib half (me A4 c) := by rw [View.set_slice_whole]; exact (set_half32 (me A4 c) (me_lt A4 c) hsrc)
  have hJ : (((Memref.whole cc0_stg2_0).slice (Rect.unit (s := S512x512) sof S32x512.size idst) hdu) : Memref sig .tc .vmem S32x512 .f32).view.set = fib half (me A4 c) := by rw [View.set_slice_whole]; exact (set_half32 (me A4 c) (me_lt A4 c) hsrc)
  have hs := semS_A4 h2 hss (inb := iss)
  have hr := semR_A4 (me_lt A4 c) hrs (inb := irs)
  refine run_send (Q := Q) (k := k) (src := ((Memref.whole cc0_stg2_0).slice (Rect.unit (s := S512x512) sof S32x512.size isrc) hsu)) (hsc := hsc) (hsrc := hx1) (hdst := hx2) (hsem := hx3)
    dyV wV K c A4 o h1 h2 n hn rfl hs hr hN (outV dyV wV) (q := lf 3 o) ?_ ?_ fun fd => ?_
  · exact congrArg (fun I : Finset (Idx ((c : Thread nD τ).loc cc0_stg2_0)) => (((c : Thread nD τ).loc cc0_stg2_0) ↦[I]{lf 3 o} outV dyV wV : sProp 𝕄)) hI.symm
  · exact BI.Laws.exists_mono fun fd => Entails.of_eq (congrArg (fun I : Finset (Idx ((peer A4 c o : Thread nD τ).loc cc0_stg2_0)) => (((peer A4 c o : Thread nD τ).loc cc0_stg2_0) ↦[I]{fullShare} fd : sProp 𝕄)) hJ.symm)
  · refine Entails.of_eq (landing (F := F) (peer A4 c o) _ _ _ _ hJ fun j => ?_)
    exact rfl

/-- A send of family `B4` at offset `o`. -/
theorem send_B4 {α : Type} {Q : α → sProp 𝕄} (c : Dev nD) (o : ℕ) (h1 : 1 ≤ o) (h2 : o < sz B4) (n : ℕ) (hn : (dueL c)[n]? = some (outCell B4 c o, cr B4))
    {c' : Dev nD} (hc : c' = peer B4 c o) {sof : Fin 2 → ℕ} (hsrc : sof = ![64 * me B4 c + 256, 0]) {isrc hsu idst hdu}
    {sso rso : Fin 1 → ℕ} (hss : sso = ![o]) (hrs : rso = ![me B4 c]) {iss irs}
    {hsc hx1 hx2 hx3} {k : PUnit → Prog (TpuEff nD τ sig (Elt F) Λ₀ .tc) α} :
    iprop(env dyV wV K ∗ snd dyV wV B4 c o ∗ ow c n)
      ⊢ iprop(((snd dyV wV B4 c (o + 1) ∗ ow c (n + 1)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((Memref.whole cc0_stg2_0).slice (Rect.unit (s := S512x512) sof S64x512.size isrc) hsu)
                (.remote (Dev.tc c' : Thread nD τ) ((Memref.whole cc0_stg2_0).slice (Rect.unit (s := S512x512) sof S64x512.size idst) hdu)
                  (.dma ((cc0_scratch23.slice (Rect.unit (s := S4) sso S1.size iss)).squeeze S_ squeezes_S1_S_).sem) hsc)
                (.dma ((cc0_scratch24.slice (Rect.unit (s := S4) rso S1.size irs)).squeeze S_ squeezes_S1_S_).sem) hx1 hx2 hx3) k) Q) := by
  subst hc
  have hN : (((Memref.whole cc0_stg2_0).slice (Rect.unit (s := S512x512) sof S64x512.size idst) hdu) : Memref sig .tc .vmem S64x512 .f32).view.dmaCredit = cr B4 := rfl
  have hI : (((Memref.whole cc0_stg2_0).slice (Rect.unit (s := S512x512) sof S64x512.size isrc) hsu) : Memref sig .tc .vmem S64x512 .f32).view.set = fib half (8 + me B4 c) := by rw [View.set_slice_whole]; exact (set_half64 (me B4 c) (me_lt B4 c) hsrc)
  have hJ : (((Memref.whole cc0_stg2_0).slice (Rect.unit (s := S512x512) sof S64x512.size idst) hdu) : Memref sig .tc .vmem S64x512 .f32).view.set = fib half (8 + me B4 c) := by rw [View.set_slice_whole]; exact (set_half64 (me B4 c) (me_lt B4 c) hsrc)
  have hs := semS_B4 h2 hss (inb := iss)
  have hr := semR_B4 (me_lt B4 c) hrs (inb := irs)
  refine run_send (Q := Q) (k := k) (src := ((Memref.whole cc0_stg2_0).slice (Rect.unit (s := S512x512) sof S64x512.size isrc) hsu)) (hsc := hsc) (hsrc := hx1) (hdst := hx2) (hsem := hx3)
    dyV wV K c B4 o h1 h2 n hn rfl hs hr hN (outV dyV wV) (q := lf 2 o) ?_ ?_ fun fd => ?_
  · exact congrArg (fun I : Finset (Idx ((c : Thread nD τ).loc cc0_stg2_0)) => (((c : Thread nD τ).loc cc0_stg2_0) ↦[I]{lf 2 o} outV dyV wV : sProp 𝕄)) hI.symm
  · exact BI.Laws.exists_mono fun fd => Entails.of_eq (congrArg (fun I : Finset (Idx ((peer B4 c o : Thread nD τ).loc cc0_stg2_0)) => (((peer B4 c o : Thread nD τ).loc cc0_stg2_0) ↦[I]{fullShare} fd : sProp 𝕄)) hJ.symm)
  · refine Entails.of_eq (landing (F := F) (peer B4 c o) _ _ _ _ hJ fun j => ?_)
    exact rfl

end

end Cert.AllReduce

end
-- ==== Proof.Offsets.lean ====
/-
The program's offsets and devices in the mesh's terms.
-/
module

public import proofs.«01_k».proof.Proof.Sends

@[expose] public section

noncomputable section

namespace Cert.AllReduce

open Cert.KernelIdeal Cert.KernelIdeal.Gen
open Idealize.ShloMosaic Idealize.ShloMosaic.TcCoe
open Fam

theorem of_row {α : Type} {f : Dev nD → BitVec 32 → α} {g : ℕ → α} (c : Dev nD) (h : ∀ r : Fin 7, f c (BitVec.ofNat 32 (1 + r.val)) = g ((c.val % 8 + r.val + 1) % 8))
    (o : ℕ) (h1 : 1 ≤ o) (h2 : o < 8) : f c (BitVec.ofNat 32 o) = g ((c.val % 8 + o) % 8) := by
  obtain ⟨r, rfl⟩ : ∃ r, o = 1 + r := ⟨o - 1, by omega⟩
  rw [h ⟨r, by omega⟩]; congr 2; show _ + r + 1 = _; omega
theorem of_col {α : Type} {f : Dev nD → BitVec 32 → α} {g : ℕ → α} (c : Dev nD) (h : ∀ r : Fin 3, f c (BitVec.ofNat 32 (1 + r.val)) = g ((c.val / 8 + r.val + 1) % 4))
    (o : ℕ) (h1 : 1 ≤ o) (h2 : o < 4) : f c (BitVec.ofNat 32 o) = g ((c.val / 8 + o) % 4) := by
  obtain ⟨r, rfl⟩ : ∃ r, o = 1 + r := ⟨o - 1, by omega⟩
  rw [h ⟨r, by omega⟩]; congr 2; show _ + r + 1 = _; omega

theorem o3 (c : Dev nD) (o : ℕ) (h1 : 1 ≤ o) (h2 : o < 8) : k0_off3 c (BitVec.ofNat 32 o) = ![32 * pslot A1 c o, 0] := of_row (g := fun s => ![32 * s, 0]) c (k0_off3_eq c) o h1 h2
theorem o9 (c : Dev nD) (o : ℕ) (h1 : 1 ≤ o) (h2 : o < 8) : k0_off9 c (BitVec.ofNat 32 o) = ![pslot A1 c o] := of_row (g := fun s => ![s]) c (k0_off9_eq c) o h1 h2
theorem o11 (c : Dev nD) (o : ℕ) (h1 : 1 ≤ o) (h2 : o < 8) : k0_off11 c (BitVec.ofNat 32 o) = ![pslot A1 c o, 0, 0] := of_row (g := fun s => ![s, 0, 0]) c (k0_off11_eq c) o h1 h2
theorem o18 (c : Dev nD) (o : ℕ) (h1 : 1 ≤ o) (h2 : o < 8) : k0_off18 c (BitVec.ofNat 32 o) = ![8 * pslot A1 c o, 0] := of_row (g := fun s => ![8 * s, 0]) c (k0_off18_eq c) o h1 h2
theorem o6 (c : Dev nD) (o : ℕ) (h1 : 1 ≤ o) (h2 : o < 4) : k0_off6 c (BitVec.ofNat 32 o) = ![64 * pslot B1 c o + 256, 0] := of_col (g := fun s => ![64 * s + 256, 0]) c (k0_off6_eq c) o h1 h2
theorem o12 (c : Dev nD) (o : ℕ) (h1 : 1 ≤ o) (h2 : o < 4) : k0_off12 c (BitVec.ofNat 32 o) = ![pslot B1 c o] := of_col (g := fun s => ![s]) c (k0_off12_eq c) o h1 h2
theorem o14 (c : Dev nD) (o : ℕ) (h1 : 1 ≤ o) (h2 : o < 4) : k0_off14 c (BitVec.ofNat 32 o) = ![pslot B1 c o, 0, 0] := of_col (g := fun s => ![s, 0, 0]) c (k0_off14_eq c) o h1 h2
theorem o16 (c : Dev nD) (o : ℕ) (h1 : 1 ≤ o) (h2 : o < 4) : k0_off16 c (BitVec.ofNat 32 o) = ![8 * pslot B1 c o, 0] := of_col (g := fun s => ![8 * s, 0]) c (k0_off16_eq c) o h1 h2

theorem d1 (c : Dev nD) : (⟨k0_dev1 c, k0_dev1_lt c⟩ : Dev nD) = peer A1 c 1 := Fin.ext ((k0_dev1_eq c).trans (peer_val_row rfl c 1).symm)
theorem d2 (c : Dev nD) : (⟨k0_dev2 c, k0_dev2_lt c⟩ : Dev nD) = peer A1 c 2 := Fin.ext ((k0_dev2_eq c).trans (peer_val_row rfl c 2).symm)
theorem d3 (c : Dev nD) : (⟨k0_dev3 c, k0_dev3_lt c⟩ : Dev nD) = peer A1 c 3 := Fin.ext ((k0_dev3_eq c).trans (peer_val_row rfl c 3).symm)
theorem d4 (c : Dev nD) : (⟨k0_dev4 c, k0_dev4_lt c⟩ : Dev nD) = peer A1 c 4 := Fin.ext ((k0_dev4_eq c).trans (peer_val_row rfl c 4).symm)
theorem d5 (c : Dev nD) : (⟨k0_dev5 c, k0_dev5_lt c⟩ : Dev nD) = peer A1 c 5 := Fin.ext ((k0_dev5_eq c).trans (peer_val_row rfl c 5).symm)
theorem d6 (c : Dev nD) : (⟨k0_dev6 c, k0_dev6_lt c⟩ : Dev nD) = peer A1 c 6 := Fin.ext ((k0_dev6_eq c).trans (peer_val_row rfl c 6).symm)
theorem d7 (c : Dev nD) : (⟨k0_dev7 c, k0_dev7_lt c⟩ : Dev nD) = peer A1 c 7 := Fin.ext ((k0_dev7_eq c).trans (peer_val_row rfl c 7).symm)
theorem d8 (c : Dev nD) : (⟨k0_dev8 c, k0_dev8_lt c⟩ : Dev nD) = peer B1 c 1 := Fin.ext ((k0_dev8_eq c).trans (peer_val_col rfl c 1).symm)
theorem d9 (c : Dev nD) : (⟨k0_dev9 c, k0_dev9_lt c⟩ : Dev nD) = peer B1 c 2 := Fin.ext ((k0_dev9_eq c).trans (peer_val_col rfl c 2).symm)
theorem d10 (c : Dev nD) : (⟨k0_dev10 c, k0_dev10_lt c⟩ : Dev nD) = peer B1 c 3 := Fin.ext ((k0_dev10_eq c).trans (peer_val_col rfl c 3).symm)
theorem d11 (c : Dev nD) : (⟨k0_dev11 c, k0_dev11_lt c⟩ : Dev nD) = peer A1 c 1 := Fin.ext ((k0_dev11_eq c).trans (peer_val_row rfl c 1).symm)
theorem d12 (c : Dev nD) : (⟨k0_dev12 c, k0_dev12_lt c⟩ : Dev nD) = peer A1 c 2 := Fin.ext ((k0_dev12_eq c).trans (peer_val_row rfl c 2).symm)
theorem d13 (c : Dev nD) : (⟨k0_dev13 c, k0_dev13_lt c⟩ : Dev nD) = peer A1 c 3 := Fin.ext ((k0_dev13_eq c).trans (peer_val_row rfl c 3).symm)
theorem d14 (c : Dev nD) : (⟨k0_dev14 c, k0_dev14_lt c⟩ : Dev nD) = peer A1 c 4 := Fin.ext ((k0_dev14_eq c).trans (peer_val_row rfl c 4).symm)
theorem d15 (c : Dev nD) : (⟨k0_dev15 c, k0_dev15_lt c⟩ : Dev nD) = peer A1 c 5 := Fin.ext ((k0_dev15_eq c).trans (peer_val_row rfl c 5).symm)
theorem d16 (c : Dev nD) : (⟨k0_dev16 c, k0_dev16_lt c⟩ : Dev nD) = peer A1 c 6 := Fin.ext ((k0_dev16_eq c).trans (peer_val_row rfl c 6).symm)
theorem d17 (c : Dev nD) : (⟨k0_dev17 c, k0_dev17_lt c⟩ : Dev nD) = peer A1 c 7 := Fin.ext ((k0_dev17_eq c).trans (peer_val_row rfl c 7).symm)
theorem d18 (c : Dev nD) : (⟨k0_dev18 c, k0_dev18_lt c⟩ : Dev nD) = peer B1 c 1 := Fin.ext ((k0_dev18_eq c).trans (peer_val_col rfl c 1).symm)
theorem d19 (c : Dev nD) : (⟨k0_dev19 c, k0_dev19_lt c⟩ : Dev nD) = peer B1 c 2 := Fin.ext ((k0_dev19_eq c).trans (peer_val_col rfl c 2).symm)
theorem d20 (c : Dev nD) : (⟨k0_dev20 c, k0_dev20_lt c⟩ : Dev nD) = peer B1 c 3 := Fin.ext ((k0_dev20_eq c).trans (peer_val_col rfl c 3).symm)
theorem d21 (c : Dev nD) : (⟨k0_dev21 c, k0_dev21_lt c⟩ : Dev nD) = peer A2 c 1 := Fin.ext ((k0_dev21_eq c).trans (peer_val_col rfl c 1).symm)
theorem d22 (c : Dev nD) : (⟨k0_dev22 c, k0_dev22_lt c⟩ : Dev nD) = peer A2 c 2 := Fin.ext ((k0_dev22_eq c).trans (peer_val_col rfl c 2).symm)
theorem d23 (c : Dev nD) : (⟨k0_dev23 c, k0_dev23_lt c⟩ : Dev nD) = peer A2 c 3 := Fin.ext ((k0_dev23_eq c).trans (peer_val_col rfl c 3).symm)
theorem d24 (c : Dev nD) : (⟨k0_dev24 c, k0_dev24_lt c⟩ : Dev nD) = peer B2 c 1 := Fin.ext ((k0_dev24_eq c).trans (peer_val_row rfl c 1).symm)
theorem d25 (c : Dev nD) : (⟨k0_dev25 c, k0_dev25_lt c⟩ : Dev nD) = peer B2 c 2 := Fin.ext ((k0_dev25_eq c).trans (peer_val_row rfl c 2).symm)
theorem d26 (c : Dev nD) : (⟨k0_dev26 c, k0_dev26_lt c⟩ : Dev nD) = peer B2 c 3 := Fin.ext ((k0_dev26_eq c).trans (peer_val_row rfl c 3).symm)
theorem d27 (c : Dev nD) : (⟨k0_dev27 c, k0_dev27_lt c⟩ : Dev nD) = peer B2 c 4 := Fin.ext ((k0_dev27_eq c).trans (peer_val_row rfl c 4).symm)
theorem d28 (c : Dev nD) : (⟨k0_dev28 c, k0_dev28_lt c⟩ : Dev nD) = peer B2 c 5 := Fin.ext ((k0_dev28_eq c).trans (peer_val_row rfl c 5).symm)
theorem d29 (c : Dev nD) : (⟨k0_dev29 c, k0_dev29_lt c⟩ : Dev nD) = peer B2 c 6 := Fin.ext ((k0_dev29_eq c).trans (peer_val_row rfl c 6).symm)
theorem d30 (c : Dev nD) : (⟨k0_dev30 c, k0_dev30_lt c⟩ : Dev nD) = peer B2 c 7 := Fin.ext ((k0_dev30_eq c).trans (peer_val_row rfl c 7).symm)
theorem d31 (c : Dev nD) : (⟨k0_dev31 c, k0_dev31_lt c⟩ : Dev nD) = peer A3 c 1 := Fin.ext ((k0_dev31_eq c).trans (peer_val_col rfl c 1).symm)
theorem d32 (c : Dev nD) : (⟨k0_dev32 c, k0_dev32_lt c⟩ : Dev nD) = peer A3 c 2 := Fin.ext ((k0_dev32_eq c).trans (peer_val_col rfl c 2).symm)
theorem d33 (c : Dev nD) : (⟨k0_dev33 c, k0_dev33_lt c⟩ : Dev nD) = peer A3 c 3 := Fin.ext ((k0_dev33_eq c).trans (peer_val_col rfl c 3).symm)
theorem d34 (c : Dev nD) : (⟨k0_dev34 c, k0_dev34_lt c⟩ : Dev nD) = peer B3 c 1 := Fin.ext ((k0_dev34_eq c).trans (peer_val_row rfl c 1).symm)
theorem d35 (c : Dev nD) : (⟨k0_dev35 c, k0_dev35_lt c⟩ : Dev nD) = peer B3 c 2 := Fin.ext ((k0_dev35_eq c).trans (peer_val_row rfl c 2).symm)
theorem d36 (c : Dev nD) : (⟨k0_dev36 c, k0_dev36_lt c⟩ : Dev nD) = peer B3 c 3 := Fin.ext ((k0_dev36_eq c).trans (peer_val_row rfl c 3).symm)
theorem d37 (c : Dev nD) : (⟨k0_dev37 c, k0_dev37_lt c⟩ : Dev nD) = peer B3 c 4 := Fin.ext ((k0_dev37_eq c).trans (peer_val_row rfl c 4).symm)
theorem d38 (c : Dev nD) : (⟨k0_dev38 c, k0_dev38_lt c⟩ : Dev nD) = peer B3 c 5 := Fin.ext ((k0_dev38_eq c).trans (peer_val_row rfl c 5).symm)
theorem d39 (c : Dev nD) : (⟨k0_dev39 c, k0_dev39_lt c⟩ : Dev nD) = peer B3 c 6 := Fin.ext ((k0_dev39_eq c).trans (peer_val_row rfl c 6).symm)
theorem d40 (c : Dev nD) : (⟨k0_dev40 c, k0_dev40_lt c⟩ : Dev nD) = peer B3 c 7 := Fin.ext ((k0_dev40_eq c).trans (peer_val_row rfl c 7).symm)
theorem d41 (c : Dev nD) : (⟨k0_dev41 c, k0_dev41_lt c⟩ : Dev nD) = peer A4 c 1 := Fin.ext ((k0_dev41_eq c).trans (peer_val_row rfl c 1).symm)
theorem d42 (c : Dev nD) : (⟨k0_dev42 c, k0_dev42_lt c⟩ : Dev nD) = peer A4 c 2 := Fin.ext ((k0_dev42_eq c).trans (peer_val_row rfl c 2).symm)
theorem d43 (c : Dev nD) : (⟨k0_dev43 c, k0_dev43_lt c⟩ : Dev nD) = peer A4 c 3 := Fin.ext ((k0_dev43_eq c).trans (peer_val_row rfl c 3).symm)
theorem d44 (c : Dev nD) : (⟨k0_dev44 c, k0_dev44_lt c⟩ : Dev nD) = peer A4 c 4 := Fin.ext ((k0_dev44_eq c).trans (peer_val_row rfl c 4).symm)
theorem d45 (c : Dev nD) : (⟨k0_dev45 c, k0_dev45_lt c⟩ : Dev nD) = peer A4 c 5 := Fin.ext ((k0_dev45_eq c).trans (peer_val_row rfl c 5).symm)
theorem d46 (c : Dev nD) : (⟨k0_dev46 c, k0_dev46_lt c⟩ : Dev nD) = peer A4 c 6 := Fin.ext ((k0_dev46_eq c).trans (peer_val_row rfl c 6).symm)
theorem d47 (c : Dev nD) : (⟨k0_dev47 c, k0_dev47_lt c⟩ : Dev nD) = peer A4 c 7 := Fin.ext ((k0_dev47_eq c).trans (peer_val_row rfl c 7).symm)
theorem d48 (c : Dev nD) : (⟨k0_dev48 c, k0_dev48_lt c⟩ : Dev nD) = peer B4 c 1 := Fin.ext ((k0_dev48_eq c).trans (peer_val_col rfl c 1).symm)
theorem d49 (c : Dev nD) : (⟨k0_dev49 c, k0_dev49_lt c⟩ : Dev nD) = peer B4 c 2 := Fin.ext ((k0_dev49_eq c).trans (peer_val_col rfl c 2).symm)
theorem d50 (c : Dev nD) : (⟨k0_dev50 c, k0_dev50_lt c⟩ : Dev nD) = peer B4 c 3 := Fin.ext ((k0_dev50_eq c).trans (peer_val_col rfl c 3).symm)

end Cert.AllReduce

end
-- ==== Proof.PartsA.lean ====
/-
The first phase's sends.
-/
module

public import proofs.«01_k».proof.Proof.Offsets

@[expose] public section

noncomputable section

namespace Cert.AllReduce

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Fam

variable {F : FTy → Type} [FloatOps F]

local notation "𝕄" => MT nD τ sig Unit (Elt F) ℕ UU ℕ

section
variable (dyV wV : Dev nD → Vec F S512x2048 .f32) (K : Dev nD × Option KX → ℕ)

theorem part3 {Q : PUnit → sProp 𝕄} (c : Dev nD) (v3 : BitVec 32) (v4 : BitVec 32) :
    iprop(env dyV wV K ∗ (snd dyV wV A1 c 1 ∗ ow c 10) ∗ ((snd dyV wV A1 c 3 ∗ ow c 12) -∗ Q ⟨⟩))
      ⊢ wp frame (wpE (defs₀ (F := F)) 𝒱₀ (c : Thread nD τ) none) Set.univ
          (k0_part3_skel (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 c v3 v4) Q := by
  unfold k0_part3_skel
  simp only [Prog.lift, Prog.bind_op, Prog.bind_ret, Prog.pure_eq_ret]
  iintro ⟨#HR, ⟨HA1, HO⟩, Hk⟩
  iapply (send_A1 dyV wV K c 1 (by decide) (by decide) 10 (get_A1 c 1 (by decide) (by decide)) (d11 c) (o3 c 1 (by decide) (by decide)) (k0_off2_eq c) rfl (k0_off1_eq c)) $$ [HA1 HO]
  · isplitr; · iexact HR
    isplitl [HA1]; · iexact HA1
    iexact HO
  iintro ⟨HA1, HO⟩
  iapply (send_A1 dyV wV K c 2 (by decide) (by decide) 11 (get_A1 c 2 (by decide) (by decide)) (d12 c) (o3 c 2 (by decide) (by decide)) (k0_off2_eq c) rfl (k0_off1_eq c)) $$ [HA1 HO]
  · isplitr; · iexact HR
    isplitl [HA1]; · iexact HA1
    iexact HO
  iintro ⟨HA1, HO⟩
  rw [wp_ret]; imodintro
  iapply Hk
  isplitl [HA1]; · iexact HA1
  iexact HO

theorem part4 {Q : PUnit → sProp 𝕄} (c : Dev nD) (v3 : BitVec 32) (v4 : BitVec 32) :
    iprop(env dyV wV K ∗ (snd dyV wV A1 c 3 ∗ ow c 12) ∗ ((snd dyV wV A1 c 6 ∗ ow c 15) -∗ Q ⟨⟩))
      ⊢ wp frame (wpE (defs₀ (F := F)) 𝒱₀ (c : Thread nD τ) none) Set.univ
          (k0_part4_skel (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 c v3 v4) Q := by
  unfold k0_part4_skel
  simp only [Prog.lift, Prog.bind_op, Prog.bind_ret, Prog.pure_eq_ret]
  iintro ⟨#HR, ⟨HA1, HO⟩, Hk⟩
  iapply (send_A1 dyV wV K c 3 (by decide) (by decide) 12 (get_A1 c 3 (by decide) (by decide)) (d13 c) (o3 c 3 (by decide) (by decide)) (k0_off2_eq c) rfl (k0_off1_eq c)) $$ [HA1 HO]
  · isplitr; · iexact HR
    isplitl [HA1]; · iexact HA1
    iexact HO
  iintro ⟨HA1, HO⟩
  iapply (send_A1 dyV wV K c 4 (by decide) (by decide) 13 (get_A1 c 4 (by decide) (by decide)) (d14 c) (o3 c 4 (by decide) (by decide)) (k0_off2_eq c) rfl (k0_off1_eq c)) $$ [HA1 HO]
  · isplitr; · iexact HR
    isplitl [HA1]; · iexact HA1
    iexact HO
  iintro ⟨HA1, HO⟩
  iapply (send_A1 dyV wV K c 5 (by decide) (by decide) 14 (get_A1 c 5 (by decide) (by decide)) (d15 c) (o3 c 5 (by decide) (by decide)) (k0_off2_eq c) rfl (k0_off1_eq c)) $$ [HA1 HO]
  · isplitr; · iexact HR
    isplitl [HA1]; · iexact HA1
    iexact HO
  iintro ⟨HA1, HO⟩
  rw [wp_ret]; imodintro
  iapply Hk
  isplitl [HA1]; · iexact HA1
  iexact HO

theorem part5 {Q : BitVec 32 → sProp 𝕄} (c : Dev nD) (v3 : BitVec 32) (v4 : BitVec 32) :
    iprop(env dyV wV K ∗ (snd dyV wV A1 c 6 ∗ snd dyV wV B1 c 1 ∗ ow c 15) ∗ (∀ r, (snd dyV wV A1 c 8 ∗ snd dyV wV B1 c 2 ∗ ow c 18) -∗ Q r))
      ⊢ wp frame (wpE (defs₀ (F := F)) 𝒱₀ (c : Thread nD τ) none) Set.univ
          (k0_part5_skel (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 c v3 v4) Q := by
  unfold k0_part5_skel
  simp only [Prog.lift, Prog.bind_op, Prog.bind_ret, Prog.pure_eq_ret]
  iintro ⟨#HR, ⟨HA1, HB1, HO⟩, Hk⟩
  iapply (send_A1 dyV wV K c 6 (by decide) (by decide) 15 (get_A1 c 6 (by decide) (by decide)) (d16 c) (o3 c 6 (by decide) (by decide)) (k0_off2_eq c) rfl (k0_off1_eq c)) $$ [HA1 HO]
  · isplitr; · iexact HR
    isplitl [HA1]; · iexact HA1
    iexact HO
  iintro ⟨HA1, HO⟩
  iapply (send_A1 dyV wV K c 7 (by decide) (by decide) 16 (get_A1 c 7 (by decide) (by decide)) (d17 c) (o3 c 7 (by decide) (by decide)) (k0_off2_eq c) rfl (k0_off1_eq c)) $$ [HA1 HO]
  · isplitr; · iexact HR
    isplitl [HA1]; · iexact HA1
    iexact HO
  iintro ⟨HA1, HO⟩
  iapply (send_B1 dyV wV K c 1 (by decide) (by decide) 17 (get_B1 c 1 (by decide) (by decide)) (d18 c) (o6 c 1 (by decide) (by decide)) (k0_off5_eq c) rfl (k0_off4_eq c)) $$ [HB1 HO]
  · isplitr; · iexact HR
    isplitl [HB1]; · iexact HB1
    iexact HO
  iintro ⟨HB1, HO⟩
  rw [wp_ret]; imodintro
  iapply Hk
  isplitl [HA1]; · iexact HA1
  isplitl [HB1]; · iexact HB1
  iexact HO

end

end Cert.AllReduce

end
-- ==== Proof.PartsB.lean ====
/-
The second phase's sends and receive waits.
-/
module

public import proofs.«01_k».proof.Proof.Offsets

@[expose] public section

noncomputable section

namespace Cert.AllReduce

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Fam

variable {F : FTy → Type} [FloatOps F]

local notation "𝕄" => MT nD τ sig Unit (Elt F) ℕ UU ℕ

section
variable (dyV wV : Dev nD → Vec F S512x2048 .f32) (K : Dev nD × Option KX → ℕ)

theorem part12 {Q : PUnit → sProp 𝕄} (c : Dev nD) (v3 : BitVec 32) (v4 : BitVec 32) :
    iprop(env dyV wV K ∗ (snd dyV wV A2 c 1 ∗ ow c 20) ∗ ((snd dyV wV A2 c 3 ∗ ow c 22) -∗ Q ⟨⟩))
      ⊢ wp frame (wpE (defs₀ (F := F)) 𝒱₀ (c : Thread nD τ) none) Set.univ
          (k0_part12_skel (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 c v3 v4) Q := by
  unfold k0_part12_skel
  simp only [Prog.lift, Prog.bind_op, Prog.bind_ret, Prog.pure_eq_ret]
  iintro ⟨#HR, ⟨HA2, HO⟩, Hk⟩
  iapply (send_A2 dyV wV K c 1 (by decide) (by decide) 20 (get_A2 c 1 (by decide) (by decide)) (d21 c) (o16 c 1 (by decide) (by decide)) (k0_off15_eq c) rfl (k0_off4_eq c)) $$ [HA2 HO]
  · isplitr; · iexact HR
    isplitl [HA2]; · iexact HA2
    iexact HO
  iintro ⟨HA2, HO⟩
  iapply (send_A2 dyV wV K c 2 (by decide) (by decide) 21 (get_A2 c 2 (by decide) (by decide)) (d22 c) (o16 c 2 (by decide) (by decide)) (k0_off15_eq c) rfl (k0_off4_eq c)) $$ [HA2 HO]
  · isplitr; · iexact HR
    isplitl [HA2]; · iexact HA2
    iexact HO
  iintro ⟨HA2, HO⟩
  rw [wp_ret]; imodintro
  iapply Hk
  isplitl [HA2]; · iexact HA2
  iexact HO

theorem part13 {Q : PUnit → sProp 𝕄} (c : Dev nD) (v3 : BitVec 32) (v4 : BitVec 32) :
    iprop(env dyV wV K ∗ (snd dyV wV A2 c 3 ∗ snd dyV wV B2 c 1 ∗ ow c 22) ∗ ((snd dyV wV A2 c 4 ∗ snd dyV wV B2 c 3 ∗ ow c 25) -∗ Q ⟨⟩))
      ⊢ wp frame (wpE (defs₀ (F := F)) 𝒱₀ (c : Thread nD τ) none) Set.univ
          (k0_part13_skel (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 c v3 v4) Q := by
  unfold k0_part13_skel
  simp only [Prog.lift, Prog.bind_op, Prog.bind_ret, Prog.pure_eq_ret]
  iintro ⟨#HR, ⟨HA2, HB2, HO⟩, Hk⟩
  iapply (send_A2 dyV wV K c 3 (by decide) (by decide) 22 (get_A2 c 3 (by decide) (by decide)) (d23 c) (o16 c 3 (by decide) (by decide)) (k0_off15_eq c) rfl (k0_off4_eq c)) $$ [HA2 HO]
  · isplitr; · iexact HR
    isplitl [HA2]; · iexact HA2
    iexact HO
  iintro ⟨HA2, HO⟩
  iapply (send_B2 dyV wV K c 1 (by decide) (by decide) 23 (get_B2 c 1 (by decide) (by decide)) (d24 c) (o18 c 1 (by decide) (by decide)) (k0_off17_eq c) rfl (k0_off1_eq c)) $$ [HB2 HO]
  · isplitr; · iexact HR
    isplitl [HB2]; · iexact HB2
    iexact HO
  iintro ⟨HB2, HO⟩
  iapply (send_B2 dyV wV K c 2 (by decide) (by decide) 24 (get_B2 c 2 (by decide) (by decide)) (d25 c) (o18 c 2 (by decide) (by decide)) (k0_off17_eq c) rfl (k0_off1_eq c)) $$ [HB2 HO]
  · isplitr; · iexact HR
    isplitl [HB2]; · iexact HB2
    iexact HO
  iintro ⟨HB2, HO⟩
  rw [wp_ret]; imodintro
  iapply Hk
  isplitl [HA2]; · iexact HA2
  isplitl [HB2]; · iexact HB2
  iexact HO

theorem part14 {Q : PUnit → sProp 𝕄} (c : Dev nD) (v3 : BitVec 32) (v4 : BitVec 32) :
    iprop(env dyV wV K ∗ (snd dyV wV B2 c 3 ∗ ow c 25) ∗ ((snd dyV wV B2 c 6 ∗ ow c 28) -∗ Q ⟨⟩))
      ⊢ wp frame (wpE (defs₀ (F := F)) 𝒱₀ (c : Thread nD τ) none) Set.univ
          (k0_part14_skel (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 c v3 v4) Q := by
  unfold k0_part14_skel
  simp only [Prog.lift, Prog.bind_op, Prog.bind_ret, Prog.pure_eq_ret]
  iintro ⟨#HR, ⟨HB2, HO⟩, Hk⟩
  iapply (send_B2 dyV wV K c 3 (by decide) (by decide) 25 (get_B2 c 3 (by decide) (by decide)) (d26 c) (o18 c 3 (by decide) (by decide)) (k0_off17_eq c) rfl (k0_off1_eq c)) $$ [HB2 HO]
  · isplitr; · iexact HR
    isplitl [HB2]; · iexact HB2
    iexact HO
  iintro ⟨HB2, HO⟩
  iapply (send_B2 dyV wV K c 4 (by decide) (by decide) 26 (get_B2 c 4 (by decide) (by decide)) (d27 c) (o18 c 4 (by decide) (by decide)) (k0_off17_eq c) rfl (k0_off1_eq c)) $$ [HB2 HO]
  · isplitr; · iexact HR
    isplitl [HB2]; · iexact HB2
    iexact HO
  iintro ⟨HB2, HO⟩
  iapply (send_B2 dyV wV K c 5 (by decide) (by decide) 27 (get_B2 c 5 (by decide) (by decide)) (d28 c) (o18 c 5 (by decide) (by decide)) (k0_off17_eq c) rfl (k0_off1_eq c)) $$ [HB2 HO]
  · isplitr; · iexact HR
    isplitl [HB2]; · iexact HB2
    iexact HO
  iintro ⟨HB2, HO⟩
  rw [wp_ret]; imodintro
  iapply Hk
  isplitl [HB2]; · iexact HB2
  iexact HO

theorem part16 {Q : PUnit → sProp 𝕄} (c : Dev nD) (v3 : BitVec 32) (v4 : BitVec 32) :
    iprop(env dyV wV K ∗ (rcv dyV wV A2 c 1 ∗ rcv dyV wV B2 c 1 ∗ ow c 30) ∗ ((rcv dyV wV A2 c 4 ∗ rcv dyV wV B2 c 2 ∗ ow c 30) -∗ Q ⟨⟩))
      ⊢ wp frame (wpE (defs₀ (F := F)) 𝒱₀ (c : Thread nD τ) none) Set.univ
          (k0_part16_skel (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 c v3 v4) Q := by
  unfold k0_part16_skel
  simp only [Prog.lift, Prog.bind_op, Prog.bind_ret, Prog.pure_eq_ret]
  iintro ⟨#HR, ⟨HA2, HB2, HO⟩, Hk⟩
  iapply (run_recv dyV wV K c A2 1 (by decide) (by decide) 30 (by decide) (semR_A2 (pslot_lt A2 c 1) (o12 c 1 (by decide) (by decide))) rfl) $$ [HA2 HO]
  · isplitr; · iexact HR
    isplitl [HA2]; · iexact HA2
    iexact HO
  iintro ⟨HA2, HO⟩
  iapply (run_recv dyV wV K c A2 2 (by decide) (by decide) 30 (by decide) (semR_A2 (pslot_lt A2 c 2) (o12 c 2 (by decide) (by decide))) rfl) $$ [HA2 HO]
  · isplitr; · iexact HR
    isplitl [HA2]; · iexact HA2
    iexact HO
  iintro ⟨HA2, HO⟩
  iapply (run_recv dyV wV K c A2 3 (by decide) (by decide) 30 (by decide) (semR_A2 (pslot_lt A2 c 3) (o12 c 3 (by decide) (by decide))) rfl) $$ [HA2 HO]
  · isplitr; · iexact HR
    isplitl [HA2]; · iexact HA2
    iexact HO
  iintro ⟨HA2, HO⟩
  iapply (run_recv dyV wV K c B2 1 (by decide) (by decide) 30 (by decide) (semR_B2 (pslot_lt B2 c 1) (o9 c 1 (by decide) (by decide))) rfl) $$ [HB2 HO]
  · isplitr; · iexact HR
    isplitl [HB2]; · iexact HB2
    iexact HO
  iintro ⟨HB2, HO⟩
  rw [wp_ret]; imodintro
  iapply Hk
  isplitl [HA2]; · iexact HA2
  isplitl [HB2]; · iexact HB2
  iexact HO

theorem part17 {Q : PUnit → sProp 𝕄} (c : Dev nD) (v4 : BitVec 32) :
    iprop(env dyV wV K ∗ (rcv dyV wV B2 c 2 ∗ ow c 30) ∗ ((rcv dyV wV B2 c 6 ∗ ow c 30) -∗ Q ⟨⟩))
      ⊢ wp frame (wpE (defs₀ (F := F)) 𝒱₀ (c : Thread nD τ) none) Set.univ
          (k0_part17_skel (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 c v4) Q := by
  unfold k0_part17_skel
  simp only [Prog.lift, Prog.bind_op, Prog.bind_ret, Prog.pure_eq_ret]
  iintro ⟨#HR, ⟨HB2, HO⟩, Hk⟩
  iapply (run_recv dyV wV K c B2 2 (by decide) (by decide) 30 (by decide) (semR_B2 (pslot_lt B2 c 2) (o9 c 2 (by decide) (by decide))) rfl) $$ [HB2 HO]
  · isplitr; · iexact HR
    isplitl [HB2]; · iexact HB2
    iexact HO
  iintro ⟨HB2, HO⟩
  iapply (run_recv dyV wV K c B2 3 (by decide) (by decide) 30 (by decide) (semR_B2 (pslot_lt B2 c 3) (o9 c 3 (by decide) (by decide))) rfl) $$ [HB2 HO]
  · isplitr; · iexact HR
    isplitl [HB2]; · iexact HB2
    iexact HO
  iintro ⟨HB2, HO⟩
  iapply (run_recv dyV wV K c B2 4 (by decide) (by decide) 30 (by decide) (semR_B2 (pslot_lt B2 c 4) (o9 c 4 (by decide) (by decide))) rfl) $$ [HB2 HO]
  · isplitr; · iexact HR
    isplitl [HB2]; · iexact HB2
    iexact HO
  iintro ⟨HB2, HO⟩
  iapply (run_recv dyV wV K c B2 5 (by decide) (by decide) 30 (by decide) (semR_B2 (pslot_lt B2 c 5) (o9 c 5 (by decide) (by decide))) rfl) $$ [HB2 HO]
  · isplitr; · iexact HR
    isplitl [HB2]; · iexact HB2
    iexact HO
  iintro ⟨HB2, HO⟩
  rw [wp_ret]; imodintro
  iapply Hk
  isplitl [HB2]; · iexact HB2
  iexact HO

end

end Cert.AllReduce

end
-- ==== Proof.PartsC.lean ====
/-
The third phase's sends and receive waits.
-/
module

public import proofs.«01_k».proof.Proof.Offsets

@[expose] public section

noncomputable section

namespace Cert.AllReduce

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Fam

variable {F : FTy → Type} [FloatOps F]

local notation "𝕄" => MT nD τ sig Unit (Elt F) ℕ UU ℕ

section
variable (dyV wV : Dev nD → Vec F S512x2048 .f32) (K : Dev nD × Option KX → ℕ)

theorem part19 {Q : (Σ' (_ : BitVec 32), BitVec 32) → sProp 𝕄} (c : Dev nD) (v3 : BitVec 32) (v4 : BitVec 32) (v582 : BitVec 32) :
    iprop(env dyV wV K ∗ (snd dyV wV A3 c 1 ∗ ow c 30) ∗ (∀ r, (snd dyV wV A3 c 4 ∗ ow c 33) -∗ Q r))
      ⊢ wp frame (wpE (defs₀ (F := F)) 𝒱₀ (c : Thread nD τ) none) Set.univ
          (k0_part19_skel (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 c v3 v4 v582) Q := by
  unfold k0_part19_skel
  simp only [Prog.lift, Prog.bind_op, Prog.bind_ret, Prog.pure_eq_ret]
  iintro ⟨#HR, ⟨HA3, HO⟩, Hk⟩
  iapply (send_A3 dyV wV K c 1 (by decide) (by decide) 30 (get_A3 c 1 (by decide) (by decide)) (d31 c) (k0_off15_eq c) rfl (k0_off4_eq c)) $$ [HA3 HO]
  · isplitr; · iexact HR
    isplitl [HA3]; · iexact HA3
    iexact HO
  iintro ⟨HA3, HO⟩
  iapply (send_A3 dyV wV K c 2 (by decide) (by decide) 31 (get_A3 c 2 (by decide) (by decide)) (d32 c) (k0_off15_eq c) rfl (k0_off4_eq c)) $$ [HA3 HO]
  · isplitr; · iexact HR
    isplitl [HA3]; · iexact HA3
    iexact HO
  iintro ⟨HA3, HO⟩
  iapply (send_A3 dyV wV K c 3 (by decide) (by decide) 32 (get_A3 c 3 (by decide) (by decide)) (d33 c) (k0_off15_eq c) rfl (k0_off4_eq c)) $$ [HA3 HO]
  · isplitr; · iexact HR
    isplitl [HA3]; · iexact HA3
    iexact HO
  iintro ⟨HA3, HO⟩
  rw [wp_ret]; imodintro
  iapply Hk
  isplitl [HA3]; · iexact HA3
  iexact HO

theorem part20 {Q : PUnit → sProp 𝕄} (c : Dev nD) (v3 : BitVec 32) (v4 : BitVec 32) (v616 : BitVec 32) (c8_i32_434 : BitVec 32) :
    iprop(env dyV wV K ∗ (snd dyV wV B3 c 1 ∗ ow c 33) ∗ ((snd dyV wV B3 c 4 ∗ ow c 36) -∗ Q ⟨⟩))
      ⊢ wp frame (wpE (defs₀ (F := F)) 𝒱₀ (c : Thread nD τ) none) Set.univ
          (k0_part20_skel (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 c v3 v4 v616 c8_i32_434) Q := by
  unfold k0_part20_skel
  simp only [Prog.lift, Prog.bind_op, Prog.bind_ret, Prog.pure_eq_ret]
  iintro ⟨#HR, ⟨HB3, HO⟩, Hk⟩
  iapply (send_B3 dyV wV K c 1 (by decide) (by decide) 33 (get_B3 c 1 (by decide) (by decide)) (d34 c) (k0_off17_eq c) rfl (k0_off1_eq c)) $$ [HB3 HO]
  · isplitr; · iexact HR
    isplitl [HB3]; · iexact HB3
    iexact HO
  iintro ⟨HB3, HO⟩
  iapply (send_B3 dyV wV K c 2 (by decide) (by decide) 34 (get_B3 c 2 (by decide) (by decide)) (d35 c) (k0_off17_eq c) rfl (k0_off1_eq c)) $$ [HB3 HO]
  · isplitr; · iexact HR
    isplitl [HB3]; · iexact HB3
    iexact HO
  iintro ⟨HB3, HO⟩
  iapply (send_B3 dyV wV K c 3 (by decide) (by decide) 35 (get_B3 c 3 (by decide) (by decide)) (d36 c) (k0_off17_eq c) rfl (k0_off1_eq c)) $$ [HB3 HO]
  · isplitr; · iexact HR
    isplitl [HB3]; · iexact HB3
    iexact HO
  iintro ⟨HB3, HO⟩
  rw [wp_ret]; imodintro
  iapply Hk
  isplitl [HB3]; · iexact HB3
  iexact HO

theorem part21 {Q : PUnit → sProp 𝕄} (c : Dev nD) (v3 : BitVec 32) (v4 : BitVec 32) :
    iprop(env dyV wV K ∗ (snd dyV wV B3 c 4 ∗ ow c 36) ∗ ((snd dyV wV B3 c 6 ∗ ow c 38) -∗ Q ⟨⟩))
      ⊢ wp frame (wpE (defs₀ (F := F)) 𝒱₀ (c : Thread nD τ) none) Set.univ
          (k0_part21_skel (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 c v3 v4) Q := by
  unfold k0_part21_skel
  simp only [Prog.lift, Prog.bind_op, Prog.bind_ret, Prog.pure_eq_ret]
  iintro ⟨#HR, ⟨HB3, HO⟩, Hk⟩
  iapply (send_B3 dyV wV K c 4 (by decide) (by decide) 36 (get_B3 c 4 (by decide) (by decide)) (d37 c) (k0_off17_eq c) rfl (k0_off1_eq c)) $$ [HB3 HO]
  · isplitr; · iexact HR
    isplitl [HB3]; · iexact HB3
    iexact HO
  iintro ⟨HB3, HO⟩
  iapply (send_B3 dyV wV K c 5 (by decide) (by decide) 37 (get_B3 c 5 (by decide) (by decide)) (d38 c) (k0_off17_eq c) rfl (k0_off1_eq c)) $$ [HB3 HO]
  · isplitr; · iexact HR
    isplitl [HB3]; · iexact HB3
    iexact HO
  iintro ⟨HB3, HO⟩
  rw [wp_ret]; imodintro
  iapply Hk
  isplitl [HB3]; · iexact HB3
  iexact HO

theorem part22 {Q : PUnit → sProp 𝕄} (c : Dev nD) (v3 : BitVec 32) (v4 : BitVec 32) :
    iprop(env dyV wV K ∗ (snd dyV wV B3 c 6 ∗ rcv dyV wV A3 c 1 ∗ ow c 38) ∗ ((snd dyV wV B3 c 8 ∗ rcv dyV wV A3 c 3 ∗ ow c 40) -∗ Q ⟨⟩))
      ⊢ wp frame (wpE (defs₀ (F := F)) 𝒱₀ (c : Thread nD τ) none) Set.univ
          (k0_part22_skel (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 c v3 v4) Q := by
  unfold k0_part22_skel
  simp only [Prog.lift, Prog.bind_op, Prog.bind_ret, Prog.pure_eq_ret]
  iintro ⟨#HR, ⟨HB3, HA3, HO⟩, Hk⟩
  iapply (send_B3 dyV wV K c 6 (by decide) (by decide) 38 (get_B3 c 6 (by decide) (by decide)) (d39 c) (k0_off17_eq c) rfl (k0_off1_eq c)) $$ [HB3 HO]
  · isplitr; · iexact HR
    isplitl [HB3]; · iexact HB3
    iexact HO
  iintro ⟨HB3, HO⟩
  iapply (send_B3 dyV wV K c 7 (by decide) (by decide) 39 (get_B3 c 7 (by decide) (by decide)) (d40 c) (k0_off17_eq c) rfl (k0_off1_eq c)) $$ [HB3 HO]
  · isplitr; · iexact HR
    isplitl [HB3]; · iexact HB3
    iexact HO
  iintro ⟨HB3, HO⟩
  iapply (run_recv dyV wV K c A3 1 (by decide) (by decide) 40 (by decide) (semR_A3 (pslot_lt A3 c 1) (o12 c 1 (by decide) (by decide))) rfl) $$ [HA3 HO]
  · isplitr; · iexact HR
    isplitl [HA3]; · iexact HA3
    iexact HO
  iintro ⟨HA3, HO⟩
  iapply (run_recv dyV wV K c A3 2 (by decide) (by decide) 40 (by decide) (semR_A3 (pslot_lt A3 c 2) (o12 c 2 (by decide) (by decide))) rfl) $$ [HA3 HO]
  · isplitr; · iexact HR
    isplitl [HA3]; · iexact HA3
    iexact HO
  iintro ⟨HA3, HO⟩
  rw [wp_ret]; imodintro
  iapply Hk
  isplitl [HB3]; · iexact HB3
  isplitl [HA3]; · iexact HA3
  iexact HO

theorem part23 {Q : PUnit → sProp 𝕄} (c : Dev nD) (v4 : BitVec 32) :
    iprop(env dyV wV K ∗ (rcv dyV wV A3 c 3 ∗ rcv dyV wV B3 c 1 ∗ ow c 40) ∗ ((rcv dyV wV A3 c 4 ∗ rcv dyV wV B3 c 4 ∗ ow c 40) -∗ Q ⟨⟩))
      ⊢ wp frame (wpE (defs₀ (F := F)) 𝒱₀ (c : Thread nD τ) none) Set.univ
          (k0_part23_skel (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 c v4) Q := by
  unfold k0_part23_skel
  simp only [Prog.lift, Prog.bind_op, Prog.bind_ret, Prog.pure_eq_ret]
  iintro ⟨#HR, ⟨HA3, HB3, HO⟩, Hk⟩
  iapply (run_recv dyV wV K c A3 3 (by decide) (by decide) 40 (by decide) (semR_A3 (pslot_lt A3 c 3) (o12 c 3 (by decide) (by decide))) rfl) $$ [HA3 HO]
  · isplitr; · iexact HR
    isplitl [HA3]; · iexact HA3
    iexact HO
  iintro ⟨HA3, HO⟩
  iapply (run_recv dyV wV K c B3 1 (by decide) (by decide) 40 (by decide) (semR_B3 (pslot_lt B3 c 1) (o9 c 1 (by decide) (by decide))) rfl) $$ [HB3 HO]
  · isplitr; · iexact HR
    isplitl [HB3]; · iexact HB3
    iexact HO
  iintro ⟨HB3, HO⟩
  iapply (run_recv dyV wV K c B3 2 (by decide) (by decide) 40 (by decide) (semR_B3 (pslot_lt B3 c 2) (o9 c 2 (by decide) (by decide))) rfl) $$ [HB3 HO]
  · isplitr; · iexact HR
    isplitl [HB3]; · iexact HB3
    iexact HO
  iintro ⟨HB3, HO⟩
  iapply (run_recv dyV wV K c B3 3 (by decide) (by decide) 40 (by decide) (semR_B3 (pslot_lt B3 c 3) (o9 c 3 (by decide) (by decide))) rfl) $$ [HB3 HO]
  · isplitr; · iexact HR
    isplitl [HB3]; · iexact HB3
    iexact HO
  iintro ⟨HB3, HO⟩
  rw [wp_ret]; imodintro
  iapply Hk
  isplitl [HA3]; · iexact HA3
  isplitl [HB3]; · iexact HB3
  iexact HO

end

end Cert.AllReduce

end
-- ==== Proof.PartsD.lean ====
/-
The fourth phase's sends and receive waits.
-/
module

public import proofs.«01_k».proof.Proof.Offsets

@[expose] public section

noncomputable section

namespace Cert.AllReduce

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Fam

variable {F : FTy → Type} [FloatOps F]

local notation "𝕄" => MT nD τ sig Unit (Elt F) ℕ UU ℕ

section
variable (dyV wV : Dev nD → Vec F S512x2048 .f32) (K : Dev nD × Option KX → ℕ)

theorem part26 {Q : PUnit → sProp 𝕄} (c : Dev nD) (v3 : BitVec 32) (v4 : BitVec 32) :
    iprop(env dyV wV K ∗ (snd dyV wV A4 c 3 ∗ ow c 42) ∗ ((snd dyV wV A4 c 5 ∗ ow c 44) -∗ Q ⟨⟩))
      ⊢ wp frame (wpE (defs₀ (F := F)) 𝒱₀ (c : Thread nD τ) none) Set.univ
          (k0_part26_skel (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 c v3 v4) Q := by
  unfold k0_part26_skel
  simp only [Prog.lift, Prog.bind_op, Prog.bind_ret, Prog.pure_eq_ret]
  iintro ⟨#HR, ⟨HA4, HO⟩, Hk⟩
  iapply (send_A4 dyV wV K c 3 (by decide) (by decide) 42 (get_A4 c 3 (by decide) (by decide)) (d43 c) (k0_off25_eq c) rfl (k0_off1_eq c)) $$ [HA4 HO]
  · isplitr; · iexact HR
    isplitl [HA4]; · iexact HA4
    iexact HO
  iintro ⟨HA4, HO⟩
  iapply (send_A4 dyV wV K c 4 (by decide) (by decide) 43 (get_A4 c 4 (by decide) (by decide)) (d44 c) (k0_off25_eq c) rfl (k0_off1_eq c)) $$ [HA4 HO]
  · isplitr; · iexact HR
    isplitl [HA4]; · iexact HA4
    iexact HO
  iintro ⟨HA4, HO⟩
  rw [wp_ret]; imodintro
  iapply Hk
  isplitl [HA4]; · iexact HA4
  iexact HO

theorem part27 {Q : PUnit → sProp 𝕄} (c : Dev nD) (v3 : BitVec 32) (v4 : BitVec 32) :
    iprop(env dyV wV K ∗ (snd dyV wV A4 c 5 ∗ ow c 44) ∗ ((snd dyV wV A4 c 8 ∗ ow c 47) -∗ Q ⟨⟩))
      ⊢ wp frame (wpE (defs₀ (F := F)) 𝒱₀ (c : Thread nD τ) none) Set.univ
          (k0_part27_skel (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 c v3 v4) Q := by
  unfold k0_part27_skel
  simp only [Prog.lift, Prog.bind_op, Prog.bind_ret, Prog.pure_eq_ret]
  iintro ⟨#HR, ⟨HA4, HO⟩, Hk⟩
  iapply (send_A4 dyV wV K c 5 (by decide) (by decide) 44 (get_A4 c 5 (by decide) (by decide)) (d45 c) (k0_off25_eq c) rfl (k0_off1_eq c)) $$ [HA4 HO]
  · isplitr; · iexact HR
    isplitl [HA4]; · iexact HA4
    iexact HO
  iintro ⟨HA4, HO⟩
  iapply (send_A4 dyV wV K c 6 (by decide) (by decide) 45 (get_A4 c 6 (by decide) (by decide)) (d46 c) (k0_off25_eq c) rfl (k0_off1_eq c)) $$ [HA4 HO]
  · isplitr; · iexact HR
    isplitl [HA4]; · iexact HA4
    iexact HO
  iintro ⟨HA4, HO⟩
  iapply (send_A4 dyV wV K c 7 (by decide) (by decide) 46 (get_A4 c 7 (by decide) (by decide)) (d47 c) (k0_off25_eq c) rfl (k0_off1_eq c)) $$ [HA4 HO]
  · isplitr; · iexact HR
    isplitl [HA4]; · iexact HA4
    iexact HO
  iintro ⟨HA4, HO⟩
  rw [wp_ret]; imodintro
  iapply Hk
  isplitl [HA4]; · iexact HA4
  iexact HO

theorem part28 {Q : PUnit → sProp 𝕄} (c : Dev nD) (v3 : BitVec 32) (v4 : BitVec 32) :
    iprop(env dyV wV K ∗ (snd dyV wV B4 c 1 ∗ ow c 47) ∗ ((snd dyV wV B4 c 4 ∗ ow c 50) -∗ Q ⟨⟩))
      ⊢ wp frame (wpE (defs₀ (F := F)) 𝒱₀ (c : Thread nD τ) none) Set.univ
          (k0_part28_skel (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 c v3 v4) Q := by
  unfold k0_part28_skel
  simp only [Prog.lift, Prog.bind_op, Prog.bind_ret, Prog.pure_eq_ret]
  iintro ⟨#HR, ⟨HB4, HO⟩, Hk⟩
  iapply (send_B4 dyV wV K c 1 (by decide) (by decide) 47 (get_B4 c 1 (by decide) (by decide)) (d48 c) (k0_off26_eq c) rfl (k0_off4_eq c)) $$ [HB4 HO]
  · isplitr; · iexact HR
    isplitl [HB4]; · iexact HB4
    iexact HO
  iintro ⟨HB4, HO⟩
  iapply (send_B4 dyV wV K c 2 (by decide) (by decide) 48 (get_B4 c 2 (by decide) (by decide)) (d49 c) (k0_off26_eq c) rfl (k0_off4_eq c)) $$ [HB4 HO]
  · isplitr; · iexact HR
    isplitl [HB4]; · iexact HB4
    iexact HO
  iintro ⟨HB4, HO⟩
  iapply (send_B4 dyV wV K c 3 (by decide) (by decide) 49 (get_B4 c 3 (by decide) (by decide)) (d50 c) (k0_off26_eq c) rfl (k0_off4_eq c)) $$ [HB4 HO]
  · isplitr; · iexact HR
    isplitl [HB4]; · iexact HB4
    iexact HO
  iintro ⟨HB4, HO⟩
  rw [wp_ret]; imodintro
  iapply Hk
  isplitl [HB4]; · iexact HB4
  iexact HO

theorem part29 {Q : PUnit → sProp 𝕄} (c : Dev nD) (v4 : BitVec 32) :
    iprop(env dyV wV K ∗ (rcv dyV wV A4 c 1 ∗ ow c 50) ∗ ((rcv dyV wV A4 c 5 ∗ ow c 50) -∗ Q ⟨⟩))
      ⊢ wp frame (wpE (defs₀ (F := F)) 𝒱₀ (c : Thread nD τ) none) Set.univ
          (k0_part29_skel (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 c v4) Q := by
  unfold k0_part29_skel
  simp only [Prog.lift, Prog.bind_op, Prog.bind_ret, Prog.pure_eq_ret]
  iintro ⟨#HR, ⟨HA4, HO⟩, Hk⟩
  iapply (run_recv dyV wV K c A4 1 (by decide) (by decide) 50 (by decide) (semR_A4 (pslot_lt A4 c 1) (o9 c 1 (by decide) (by decide))) rfl) $$ [HA4 HO]
  · isplitr; · iexact HR
    isplitl [HA4]; · iexact HA4
    iexact HO
  iintro ⟨HA4, HO⟩
  iapply (run_recv dyV wV K c A4 2 (by decide) (by decide) 50 (by decide) (semR_A4 (pslot_lt A4 c 2) (o9 c 2 (by decide) (by decide))) rfl) $$ [HA4 HO]
  · isplitr; · iexact HR
    isplitl [HA4]; · iexact HA4
    iexact HO
  iintro ⟨HA4, HO⟩
  iapply (run_recv dyV wV K c A4 3 (by decide) (by decide) 50 (by decide) (semR_A4 (pslot_lt A4 c 3) (o9 c 3 (by decide) (by decide))) rfl) $$ [HA4 HO]
  · isplitr; · iexact HR
    isplitl [HA4]; · iexact HA4
    iexact HO
  iintro ⟨HA4, HO⟩
  iapply (run_recv dyV wV K c A4 4 (by decide) (by decide) 50 (by decide) (semR_A4 (pslot_lt A4 c 4) (o9 c 4 (by decide) (by decide))) rfl) $$ [HA4 HO]
  · isplitr; · iexact HR
    isplitl [HA4]; · iexact HA4
    iexact HO
  iintro ⟨HA4, HO⟩
  rw [wp_ret]; imodintro
  iapply Hk
  isplitl [HA4]; · iexact HA4
  iexact HO

theorem part30 {Q : PUnit → sProp 𝕄} (c : Dev nD) (v3 : BitVec 32) (v4 : BitVec 32) :
    iprop(env dyV wV K ∗ (rcv dyV wV A4 c 5 ∗ rcv dyV wV B4 c 1 ∗ ow c 50) ∗ ((rcv dyV wV A4 c 8 ∗ rcv dyV wV B4 c 2 ∗ ow c 50) -∗ Q ⟨⟩))
      ⊢ wp frame (wpE (defs₀ (F := F)) 𝒱₀ (c : Thread nD τ) none) Set.univ
          (k0_part30_skel (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 c v3 v4) Q := by
  unfold k0_part30_skel
  simp only [Prog.lift, Prog.bind_op, Prog.bind_ret, Prog.pure_eq_ret]
  iintro ⟨#HR, ⟨HA4, HB4, HO⟩, Hk⟩
  iapply (run_recv dyV wV K c A4 5 (by decide) (by decide) 50 (by decide) (semR_A4 (pslot_lt A4 c 5) (o9 c 5 (by decide) (by decide))) rfl) $$ [HA4 HO]
  · isplitr; · iexact HR
    isplitl [HA4]; · iexact HA4
    iexact HO
  iintro ⟨HA4, HO⟩
  iapply (run_recv dyV wV K c A4 6 (by decide) (by decide) 50 (by decide) (semR_A4 (pslot_lt A4 c 6) (o9 c 6 (by decide) (by decide))) rfl) $$ [HA4 HO]
  · isplitr; · iexact HR
    isplitl [HA4]; · iexact HA4
    iexact HO
  iintro ⟨HA4, HO⟩
  iapply (run_recv dyV wV K c A4 7 (by decide) (by decide) 50 (by decide) (semR_A4 (pslot_lt A4 c 7) (o9 c 7 (by decide) (by decide))) rfl) $$ [HA4 HO]
  · isplitr; · iexact HR
    isplitl [HA4]; · iexact HA4
    iexact HO
  iintro ⟨HA4, HO⟩
  iapply (run_recv dyV wV K c B4 1 (by decide) (by decide) 50 (by decide) (semR_B4 (pslot_lt B4 c 1) (o12 c 1 (by decide) (by decide))) rfl) $$ [HB4 HO]
  · isplitr; · iexact HR
    isplitl [HB4]; · iexact HB4
    iexact HO
  iintro ⟨HB4, HO⟩
  rw [wp_ret]; imodintro
  iapply Hk
  isplitl [HA4]; · iexact HA4
  isplitl [HB4]; · iexact HB4
  iexact HO

end

end Cert.AllReduce

end
-- ==== Proof.PartsE.lean ====
/-
The send waits.
-/
module

public import proofs.«01_k».proof.Proof.Offsets

@[expose] public section

noncomputable section

namespace Cert.AllReduce

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Fam

variable {F : FTy → Type} [FloatOps F]

local notation "𝕄" => MT nD τ sig Unit (Elt F) ℕ UU ℕ

section
variable (dyV wV : Dev nD → Vec F S512x2048 .f32) (K : Dev nD × Option KX → ℕ)

theorem part31 {Q : PUnit → sProp 𝕄} (c : Dev nD) (v3 : BitVec 32) :
    iprop(env dyV wV K ∗ (rcv dyV wV B4 c 2 ∗ dn dyV wV A1 c 1 ∗ ow c 50) ∗ ((rcv dyV wV B4 c 4 ∗ dn dyV wV A1 c 5 ∗ ow c 50) -∗ Q ⟨⟩))
      ⊢ wp frame (wpE (defs₀ (F := F)) 𝒱₀ (c : Thread nD τ) none) Set.univ
          (k0_part31_skel (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 c v3) Q := by
  unfold k0_part31_skel
  simp only [Prog.lift, Prog.bind_op, Prog.bind_ret, Prog.pure_eq_ret]
  iintro ⟨#HR, ⟨HB4, HA1, HO⟩, Hk⟩
  iapply (run_recv dyV wV K c B4 2 (by decide) (by decide) 50 (by decide) (semR_B4 (pslot_lt B4 c 2) (o12 c 2 (by decide) (by decide))) rfl) $$ [HB4 HO]
  · isplitr; · iexact HR
    isplitl [HB4]; · iexact HB4
    iexact HO
  iintro ⟨HB4, HO⟩
  iapply (run_recv dyV wV K c B4 3 (by decide) (by decide) 50 (by decide) (semR_B4 (pslot_lt B4 c 3) (o12 c 3 (by decide) (by decide))) rfl) $$ [HB4 HO]
  · isplitr; · iexact HR
    isplitl [HB4]; · iexact HB4
    iexact HO
  iintro ⟨HB4, HO⟩
  iapply (run_done dyV wV K c A1 1 (by decide) (by decide) (semS_A1 (by decide) rfl) rfl) $$ [HA1 HO]
  · isplitr; · iexact HR
    isplitl [HA1]; · iexact HA1
    iexact HO
  iintro ⟨HA1, HO⟩
  iapply (run_done dyV wV K c A1 2 (by decide) (by decide) (semS_A1 (by decide) rfl) rfl) $$ [HA1 HO]
  · isplitr; · iexact HR
    isplitl [HA1]; · iexact HA1
    iexact HO
  iintro ⟨HA1, HO⟩
  iapply (run_done dyV wV K c A1 3 (by decide) (by decide) (semS_A1 (by decide) rfl) rfl) $$ [HA1 HO]
  · isplitr; · iexact HR
    isplitl [HA1]; · iexact HA1
    iexact HO
  iintro ⟨HA1, HO⟩
  iapply (run_done dyV wV K c A1 4 (by decide) (by decide) (semS_A1 (by decide) rfl) rfl) $$ [HA1 HO]
  · isplitr; · iexact HR
    isplitl [HA1]; · iexact HA1
    iexact HO
  iintro ⟨HA1, HO⟩
  rw [wp_ret]; imodintro
  iapply Hk
  isplitl [HB4]; · iexact HB4
  isplitl [HA1]; · iexact HA1
  iexact HO

theorem part32 {Q : PUnit → sProp 𝕄} (c : Dev nD)  :
    iprop(env dyV wV K ∗ (dn dyV wV A1 c 5 ∗ dn dyV wV B1 c 1 ∗ ow c 50) ∗ ((dn dyV wV A1 c 8 ∗ dn dyV wV B1 c 3 ∗ ow c 50) -∗ Q ⟨⟩))
      ⊢ wp frame (wpE (defs₀ (F := F)) 𝒱₀ (c : Thread nD τ) none) Set.univ
          (k0_part32_skel (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 c ) Q := by
  unfold k0_part32_skel
  simp only [Prog.lift, Prog.bind_op, Prog.bind_ret, Prog.pure_eq_ret]
  iintro ⟨#HR, ⟨HA1, HB1, HO⟩, Hk⟩
  iapply (run_done dyV wV K c A1 5 (by decide) (by decide) (semS_A1 (by decide) rfl) rfl) $$ [HA1 HO]
  · isplitr; · iexact HR
    isplitl [HA1]; · iexact HA1
    iexact HO
  iintro ⟨HA1, HO⟩
  iapply (run_done dyV wV K c A1 6 (by decide) (by decide) (semS_A1 (by decide) rfl) rfl) $$ [HA1 HO]
  · isplitr; · iexact HR
    isplitl [HA1]; · iexact HA1
    iexact HO
  iintro ⟨HA1, HO⟩
  iapply (run_done dyV wV K c A1 7 (by decide) (by decide) (semS_A1 (by decide) rfl) rfl) $$ [HA1 HO]
  · isplitr; · iexact HR
    isplitl [HA1]; · iexact HA1
    iexact HO
  iintro ⟨HA1, HO⟩
  iapply (run_done dyV wV K c B1 1 (by decide) (by decide) (semS_B1 (by decide) rfl) rfl) $$ [HB1 HO]
  · isplitr; · iexact HR
    isplitl [HB1]; · iexact HB1
    iexact HO
  iintro ⟨HB1, HO⟩
  iapply (run_done dyV wV K c B1 2 (by decide) (by decide) (semS_B1 (by decide) rfl) rfl) $$ [HB1 HO]
  · isplitr; · iexact HR
    isplitl [HB1]; · iexact HB1
    iexact HO
  iintro ⟨HB1, HO⟩
  rw [wp_ret]; imodintro
  iapply Hk
  isplitl [HA1]; · iexact HA1
  isplitl [HB1]; · iexact HB1
  iexact HO

theorem part33 {Q : PUnit → sProp 𝕄} (c : Dev nD)  :
    iprop(env dyV wV K ∗ (dn dyV wV B1 c 3 ∗ dn dyV wV A2 c 1 ∗ dn dyV wV B2 c 1 ∗ ow c 50) ∗ ((dn dyV wV B1 c 4 ∗ dn dyV wV A2 c 4 ∗ dn dyV wV B2 c 2 ∗ ow c 50) -∗ Q ⟨⟩))
      ⊢ wp frame (wpE (defs₀ (F := F)) 𝒱₀ (c : Thread nD τ) none) Set.univ
          (k0_part33_skel (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 c ) Q := by
  unfold k0_part33_skel
  simp only [Prog.lift, Prog.bind_op, Prog.bind_ret, Prog.pure_eq_ret]
  iintro ⟨#HR, ⟨HB1, HA2, HB2, HO⟩, Hk⟩
  iapply (run_done dyV wV K c B1 3 (by decide) (by decide) (semS_B1 (by decide) rfl) rfl) $$ [HB1 HO]
  · isplitr; · iexact HR
    isplitl [HB1]; · iexact HB1
    iexact HO
  iintro ⟨HB1, HO⟩
  iapply (run_done dyV wV K c A2 1 (by decide) (by decide) (semS_A2 (by decide) rfl) rfl) $$ [HA2 HO]
  · isplitr; · iexact HR
    isplitl [HA2]; · iexact HA2
    iexact HO
  iintro ⟨HA2, HO⟩
  iapply (run_done dyV wV K c A2 2 (by decide) (by decide) (semS_A2 (by decide) rfl) rfl) $$ [HA2 HO]
  · isplitr; · iexact HR
    isplitl [HA2]; · iexact HA2
    iexact HO
  iintro ⟨HA2, HO⟩
  iapply (run_done dyV wV K c A2 3 (by decide) (by decide) (semS_A2 (by decide) rfl) rfl) $$ [HA2 HO]
  · isplitr; · iexact HR
    isplitl [HA2]; · iexact HA2
    iexact HO
  iintro ⟨HA2, HO⟩
  iapply (run_done dyV wV K c B2 1 (by decide) (by decide) (semS_B2 (by decide) rfl) rfl) $$ [HB2 HO]
  · isplitr; · iexact HR
    isplitl [HB2]; · iexact HB2
    iexact HO
  iintro ⟨HB2, HO⟩
  rw [wp_ret]; imodintro
  iapply Hk
  isplitl [HB1]; · iexact HB1
  isplitl [HA2]; · iexact HA2
  isplitl [HB2]; · iexact HB2
  iexact HO

theorem part34 {Q : PUnit → sProp 𝕄} (c : Dev nD)  :
    iprop(env dyV wV K ∗ (dn dyV wV B2 c 2 ∗ ow c 50) ∗ ((dn dyV wV B2 c 8 ∗ ow c 50) -∗ Q ⟨⟩))
      ⊢ wp frame (wpE (defs₀ (F := F)) 𝒱₀ (c : Thread nD τ) none) Set.univ
          (k0_part34_skel (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 c ) Q := by
  unfold k0_part34_skel
  simp only [Prog.lift, Prog.bind_op, Prog.bind_ret, Prog.pure_eq_ret]
  iintro ⟨#HR, ⟨HB2, HO⟩, Hk⟩
  iapply (run_done dyV wV K c B2 2 (by decide) (by decide) (semS_B2 (by decide) rfl) rfl) $$ [HB2 HO]
  · isplitr; · iexact HR
    isplitl [HB2]; · iexact HB2
    iexact HO
  iintro ⟨HB2, HO⟩
  iapply (run_done dyV wV K c B2 3 (by decide) (by decide) (semS_B2 (by decide) rfl) rfl) $$ [HB2 HO]
  · isplitr; · iexact HR
    isplitl [HB2]; · iexact HB2
    iexact HO
  iintro ⟨HB2, HO⟩
  iapply (run_done dyV wV K c B2 4 (by decide) (by decide) (semS_B2 (by decide) rfl) rfl) $$ [HB2 HO]
  · isplitr; · iexact HR
    isplitl [HB2]; · iexact HB2
    iexact HO
  iintro ⟨HB2, HO⟩
  iapply (run_done dyV wV K c B2 5 (by decide) (by decide) (semS_B2 (by decide) rfl) rfl) $$ [HB2 HO]
  · isplitr; · iexact HR
    isplitl [HB2]; · iexact HB2
    iexact HO
  iintro ⟨HB2, HO⟩
  iapply (run_done dyV wV K c B2 6 (by decide) (by decide) (semS_B2 (by decide) rfl) rfl) $$ [HB2 HO]
  · isplitr; · iexact HR
    isplitl [HB2]; · iexact HB2
    iexact HO
  iintro ⟨HB2, HO⟩
  iapply (run_done dyV wV K c B2 7 (by decide) (by decide) (semS_B2 (by decide) rfl) rfl) $$ [HB2 HO]
  · isplitr; · iexact HR
    isplitl [HB2]; · iexact HB2
    iexact HO
  iintro ⟨HB2, HO⟩
  rw [wp_ret]; imodintro
  iapply Hk
  isplitl [HB2]; · iexact HB2
  iexact HO

end

end Cert.AllReduce

end
-- ==== Proof.PartsF.lean ====
/-
The last send waits.
-/
module

public import proofs.«01_k».proof.Proof.Offsets

@[expose] public section

noncomputable section

namespace Cert.AllReduce

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Fam

variable {F : FTy → Type} [FloatOps F]

local notation "𝕄" => MT nD τ sig Unit (Elt F) ℕ UU ℕ

section
variable (dyV wV : Dev nD → Vec F S512x2048 .f32) (K : Dev nD × Option KX → ℕ)

theorem part35 {Q : PUnit → sProp 𝕄} (c : Dev nD)  :
    iprop(env dyV wV K ∗ (dn dyV wV A3 c 1 ∗ dn dyV wV B3 c 1 ∗ ow c 50) ∗ ((dn dyV wV A3 c 4 ∗ dn dyV wV B3 c 2 ∗ ow c 50) -∗ Q ⟨⟩))
      ⊢ wp frame (wpE (defs₀ (F := F)) 𝒱₀ (c : Thread nD τ) none) Set.univ
          (k0_part35_skel (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 c ) Q := by
  unfold k0_part35_skel
  simp only [Prog.lift, Prog.bind_op, Prog.bind_ret, Prog.pure_eq_ret]
  iintro ⟨#HR, ⟨HA3, HB3, HO⟩, Hk⟩
  iapply (run_done dyV wV K c A3 1 (by decide) (by decide) (semS_A3 (by decide) rfl) rfl) $$ [HA3 HO]
  · isplitr; · iexact HR
    isplitl [HA3]; · iexact HA3
    iexact HO
  iintro ⟨HA3, HO⟩
  iapply (run_done dyV wV K c A3 2 (by decide) (by decide) (semS_A3 (by decide) rfl) rfl) $$ [HA3 HO]
  · isplitr; · iexact HR
    isplitl [HA3]; · iexact HA3
    iexact HO
  iintro ⟨HA3, HO⟩
  iapply (run_done dyV wV K c A3 3 (by decide) (by decide) (semS_A3 (by decide) rfl) rfl) $$ [HA3 HO]
  · isplitr; · iexact HR
    isplitl [HA3]; · iexact HA3
    iexact HO
  iintro ⟨HA3, HO⟩
  iapply (run_done dyV wV K c B3 1 (by decide) (by decide) (semS_B3 (by decide) rfl) rfl) $$ [HB3 HO]
  · isplitr; · iexact HR
    isplitl [HB3]; · iexact HB3
    iexact HO
  iintro ⟨HB3, HO⟩
  rw [wp_ret]; imodintro
  iapply Hk
  isplitl [HA3]; · iexact HA3
  isplitl [HB3]; · iexact HB3
  iexact HO

theorem part36 {Q : PUnit → sProp 𝕄} (c : Dev nD)  :
    iprop(env dyV wV K ∗ (dn dyV wV B3 c 2 ∗ ow c 50) ∗ ((dn dyV wV B3 c 7 ∗ ow c 50) -∗ Q ⟨⟩))
      ⊢ wp frame (wpE (defs₀ (F := F)) 𝒱₀ (c : Thread nD τ) none) Set.univ
          (k0_part36_skel (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 c ) Q := by
  unfold k0_part36_skel
  simp only [Prog.lift, Prog.bind_op, Prog.bind_ret, Prog.pure_eq_ret]
  iintro ⟨#HR, ⟨HB3, HO⟩, Hk⟩
  iapply (run_done dyV wV K c B3 2 (by decide) (by decide) (semS_B3 (by decide) rfl) rfl) $$ [HB3 HO]
  · isplitr; · iexact HR
    isplitl [HB3]; · iexact HB3
    iexact HO
  iintro ⟨HB3, HO⟩
  iapply (run_done dyV wV K c B3 3 (by decide) (by decide) (semS_B3 (by decide) rfl) rfl) $$ [HB3 HO]
  · isplitr; · iexact HR
    isplitl [HB3]; · iexact HB3
    iexact HO
  iintro ⟨HB3, HO⟩
  iapply (run_done dyV wV K c B3 4 (by decide) (by decide) (semS_B3 (by decide) rfl) rfl) $$ [HB3 HO]
  · isplitr; · iexact HR
    isplitl [HB3]; · iexact HB3
    iexact HO
  iintro ⟨HB3, HO⟩
  iapply (run_done dyV wV K c B3 5 (by decide) (by decide) (semS_B3 (by decide) rfl) rfl) $$ [HB3 HO]
  · isplitr; · iexact HR
    isplitl [HB3]; · iexact HB3
    iexact HO
  iintro ⟨HB3, HO⟩
  iapply (run_done dyV wV K c B3 6 (by decide) (by decide) (semS_B3 (by decide) rfl) rfl) $$ [HB3 HO]
  · isplitr; · iexact HR
    isplitl [HB3]; · iexact HB3
    iexact HO
  iintro ⟨HB3, HO⟩
  rw [wp_ret]; imodintro
  iapply Hk
  isplitl [HB3]; · iexact HB3
  iexact HO

theorem part37 {Q : PUnit → sProp 𝕄} (c : Dev nD)  :
    iprop(env dyV wV K ∗ (dn dyV wV B3 c 7 ∗ dn dyV wV A4 c 1 ∗ ow c 50) ∗ ((dn dyV wV B3 c 8 ∗ dn dyV wV A4 c 7 ∗ ow c 50) -∗ Q ⟨⟩))
      ⊢ wp frame (wpE (defs₀ (F := F)) 𝒱₀ (c : Thread nD τ) none) Set.univ
          (k0_part37_skel (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 c ) Q := by
  unfold k0_part37_skel
  simp only [Prog.lift, Prog.bind_op, Prog.bind_ret, Prog.pure_eq_ret]
  iintro ⟨#HR, ⟨HB3, HA4, HO⟩, Hk⟩
  iapply (run_done dyV wV K c B3 7 (by decide) (by decide) (semS_B3 (by decide) rfl) rfl) $$ [HB3 HO]
  · isplitr; · iexact HR
    isplitl [HB3]; · iexact HB3
    iexact HO
  iintro ⟨HB3, HO⟩
  iapply (run_done dyV wV K c A4 1 (by decide) (by decide) (semS_A4 (by decide) rfl) rfl) $$ [HA4 HO]
  · isplitr; · iexact HR
    isplitl [HA4]; · iexact HA4
    iexact HO
  iintro ⟨HA4, HO⟩
  iapply (run_done dyV wV K c A4 2 (by decide) (by decide) (semS_A4 (by decide) rfl) rfl) $$ [HA4 HO]
  · isplitr; · iexact HR
    isplitl [HA4]; · iexact HA4
    iexact HO
  iintro ⟨HA4, HO⟩
  iapply (run_done dyV wV K c A4 3 (by decide) (by decide) (semS_A4 (by decide) rfl) rfl) $$ [HA4 HO]
  · isplitr; · iexact HR
    isplitl [HA4]; · iexact HA4
    iexact HO
  iintro ⟨HA4, HO⟩
  iapply (run_done dyV wV K c A4 4 (by decide) (by decide) (semS_A4 (by decide) rfl) rfl) $$ [HA4 HO]
  · isplitr; · iexact HR
    isplitl [HA4]; · iexact HA4
    iexact HO
  iintro ⟨HA4, HO⟩
  iapply (run_done dyV wV K c A4 5 (by decide) (by decide) (semS_A4 (by decide) rfl) rfl) $$ [HA4 HO]
  · isplitr; · iexact HR
    isplitl [HA4]; · iexact HA4
    iexact HO
  iintro ⟨HA4, HO⟩
  iapply (run_done dyV wV K c A4 6 (by decide) (by decide) (semS_A4 (by decide) rfl) rfl) $$ [HA4 HO]
  · isplitr; · iexact HR
    isplitl [HA4]; · iexact HA4
    iexact HO
  iintro ⟨HA4, HO⟩
  rw [wp_ret]; imodintro
  iapply Hk
  isplitl [HB3]; · iexact HB3
  isplitl [HA4]; · iexact HA4
  iexact HO

end

end Cert.AllReduce

end
-- ==== Proof.Loads.lean ====
/-
The loads and stores, at the contents the schedule gives.
-/
module

public import proofs.«01_k».proof.Proof.Offsets

@[expose] public section

noncomputable section

namespace Cert.AllReduce

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Fam

variable {F : FTy → Type} [FloatOps F]

local notation "𝕄" => MT nD τ sig Unit (Elt F) ℕ UU ℕ

theorem z2 : (![0, 0] : Fin 2 → Nat) = fun _ => 0 := funext fun a => by fin_cases a <;> rfl
theorem z3 : (![0, 0, 0] : Fin 3 → Nat) = fun _ => 0 := funext fun a => by fin_cases a <;> rfl

/-- The vector-memory buffer of an index. -/
abbrev vb (ix : Fin (sig.nNear .tc .vmem)) (nm : sig.names .tc .vmem ix = true) : Ref sig .tc := ⟨.vmem, ix, nm⟩

/-- A load of a whole buffer. -/
theorem ld_whole {α : Type} {Q : α → sProp 𝕄} (c : Dev nD) (ix : Fin (sig.nNear .tc .vmem)) (nm : sig.names .tc .vmem ix = true) {off : Fin (vb ix nm).ty.shape.rank → Nat} (hz : off = fun _ => 0) {inb} {hl : (Memref.whole (vb ix nm)).view.LoadsAt (Rect.unit off (vb ix nm).ty.shape.size inb).toLoadRect} (q : PosShare TreeShare)
    (f : Buf (Elt F) ((c : Thread nD τ).loc (vb ix nm))) {k : ((vb ix nm).ty.shape.Idx → Elt F (vb ix nm).ty.elt) → Prog (TpuEff nD τ sig (Elt F) Λ₀ .tc) α} :
    (((c : Thread nD τ).loc (vb ix nm)) ↦{q} f : sProp 𝕄)
      ⊢ iprop(((((c : Thread nD τ).loc (vb ix nm)) ↦{q} f) -∗ wp frame (wpE (defs₀ (F := F)) 𝒱₀ (c : Thread nD τ) none) Set.univ (k f) Q)
        -∗ wp frame (wpE (defs₀ (F := F)) 𝒱₀ (c : Thread nD τ) none) Set.univ (.op (.load (Memref.whole (vb ix nm)) (Rect.unit off (vb ix nm).ty.shape.size inb).toLoadRect hl) k) Q) := by
  iintro H Hk
  iapply (wp_load 𝒱₀ (c : Thread nD τ) none Set.univ (m := Memref.whole (vb ix nm)) (hl := hl) (Finset.subset_univ _)) $$ H
  iintro H
  rw [Memref.readAt_unit_zero (Elt F) (vb ix nm) hz]
  iapply Hk $$ H

/-- A store of a whole buffer. -/
theorem st_whole {α : Type} {Q : α → sProp 𝕄} (c : Dev nD) (ix : Fin (sig.nNear .tc .vmem)) (nm : sig.names .tc .vmem ix = true) {off : Fin (vb ix nm).ty.shape.rank → Nat} (hz : off = fun _ => 0) {inb} {hx : ((Memref.whole (vb ix nm)).access (Rect.unit off (vb ix nm).ty.shape.size inb)).Stores Finset.univ} {hm}
    (f w : Buf (Elt F) ((c : Thread nD τ).loc (vb ix nm))) {k : PUnit → Prog (TpuEff nD τ sig (Elt F) Λ₀ .tc) α} :
    (((c : Thread nD τ).loc (vb ix nm)) ↦{fullShare} f : sProp 𝕄)
      ⊢ iprop(((((c : Thread nD τ).loc (vb ix nm)) ↦{fullShare} w) -∗ wp frame (wpE (defs₀ (F := F)) 𝒱₀ (c : Thread nD τ) none) Set.univ (k ⟨⟩) Q)
        -∗ wp frame (wpE (defs₀ (F := F)) 𝒱₀ (c : Thread nD τ) none) Set.univ (.op (.store (Memref.whole (vb ix nm)) (Rect.unit off (vb ix nm).ty.shape.size inb) w Finset.univ hx hm) k) Q) := by
  iintro H Hk
  iapply (wp_store 𝒱₀ (c : Thread nD τ) none Set.univ (m := Memref.whole (vb ix nm)) (r := Rect.unit off (vb ix nm).ty.shape.size inb) (w := w) (Mk := Finset.univ) (Finset.subset_univ _)) $$ H
  iintro H
  rw [Memref.write_access_unit_zero_univ (Elt F) (vb ix nm) hz]
  iapply Hk $$ H

/-- A load through a rectangle whose elements are held. -/
theorem ld_rect {α : Type} {Q : α → sProp 𝕄} (c : Dev nD) (ix : Fin (sig.nNear .tc .vmem)) (nm : sig.names .tc .vmem ix = true) {r : Rect (vb ix nm).ty.shape} {hl : (Memref.whole (vb ix nm)).view.LoadsAt r.toLoadRect} (q : PosShare TreeShare)
    (S : Finset (Idx ((c : Thread nD τ).loc (vb ix nm)))) (hS : r.set = S)
    (f : Buf (Elt F) ((c : Thread nD τ).loc (vb ix nm))) (X : r.shape.Idx → Elt F (vb ix nm).ty.elt) (hX : ∀ i, f (r.emb i) = X i)
    {k : (r.shape.Idx → Elt F (vb ix nm).ty.elt) → Prog (TpuEff nD τ sig (Elt F) Λ₀ .tc) α} :
    (((c : Thread nD τ).loc (vb ix nm)) ↦[S]{q} f : sProp 𝕄)
      ⊢ iprop(((((c : Thread nD τ).loc (vb ix nm)) ↦[S]{q} f) -∗ wp frame (wpE (defs₀ (F := F)) 𝒱₀ (c : Thread nD τ) none) Set.univ (k X) Q)
        -∗ wp frame (wpE (defs₀ (F := F)) 𝒱₀ (c : Thread nD τ) none) Set.univ (.op (.load (Memref.whole (vb ix nm)) r.toLoadRect hl) k) Q) := by
  subst hS
  obtain rfl : X = fun i => f (r.emb i) := funext fun i => (hX i).symm
  exact wp_load_rect 𝒱₀ (c : Thread nD τ) none Set.univ (m := Memref.whole (vb ix nm)) (hl := hl) (S := r.set) (subset_of_eq (View.set_slice_whole _ _))

/-- A store through a rectangle whose elements are held: they then hold what is stored. -/
theorem st_rect {α : Type} {Q : α → sProp 𝕄} (c : Dev nD) (ix : Fin (sig.nNear .tc .vmem)) (nm : sig.names .tc .vmem ix = true) {r : Rect (vb ix nm).ty.shape} {hx : ((Memref.whole (vb ix nm)).access r).Stores Finset.univ} {hm}
    (S : Finset (Idx ((c : Thread nD τ).loc (vb ix nm)))) (hS : r.set = S)
    (f V : Buf (Elt F) ((c : Thread nD τ).loc (vb ix nm))) {w : r.shape.Idx → Elt F (vb ix nm).ty.elt} (hV : ∀ i, w i = V (r.emb i))
    {k : PUnit → Prog (TpuEff nD τ sig (Elt F) Λ₀ .tc) α} :
    (((c : Thread nD τ).loc (vb ix nm)) ↦[S]{fullShare} f : sProp 𝕄)
      ⊢ iprop(((((c : Thread nD τ).loc (vb ix nm)) ↦[S]{fullShare} V) -∗ wp frame (wpE (defs₀ (F := F)) 𝒱₀ (c : Thread nD τ) none) Set.univ (k ⟨⟩) Q)
        -∗ wp frame (wpE (defs₀ (F := F)) 𝒱₀ (c : Thread nD τ) none) Set.univ (.op (.store (Memref.whole (vb ix nm)) r w Finset.univ hx hm) k) Q) := by
  subst hS
  have hset : ((Memref.whole (vb ix nm) : Memref sig .tc .vmem _ _).access r).set = r.set := View.set_slice_whole _ _
  iintro H Hk
  iapply (wp_store 𝒱₀ (c : Thread nD τ) none Set.univ (m := Memref.whole (vb ix nm)) (r := r) (w := w) (Mk := Finset.univ) (S := r.set) (subset_of_eq hset)) $$ H
  iintro H
  iapply Hk
  ihave H' := (Entails.of_eq (pointsTo_congr (q := fullShare) (ℓ := (c : Thread nD τ).loc (vb ix nm)) (I := r.set)
    (f := ((Memref.whole (vb ix nm) : Memref sig .tc .vmem _ _).access r).write (Elt F) f w Finset.univ) (g := V) fun i hi => by
      have hi' : i ∈ Finset.univ.map r.emb := by rw [Rect.map_emb_univ]; exact hi
      obtain ⟨j, -, rfl⟩ := Finset.mem_map.mp hi'
      exact (View.write_emb_of_mem (v := (Memref.whole (vb ix nm) : Memref sig .tc .vmem _ _).access r) (w := w) _ (Finset.mem_univ j)).trans (hV j))) $$ H
  iexact H'

end Cert.AllReduce

end
-- ==== Proof.Mem.lean ====
/-
Each of the program's loads and stores that reads or writes part of a buffer, at its contents.
-/
module

public import proofs.«01_k».proof.Proof.Loads

@[expose] public section

noncomputable section

namespace Cert.AllReduce

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Fam

variable {F : FTy → Type} [FloatOps F]

local notation "𝕄" => MT nD τ sig Unit (Elt F) ℕ UU ℕ

/-- The coordinates of a slot's element, its leading unit axis kept. -/
theorem slot_emb1 {n a b s : ℕ} {off : Fin 3 → ℕ} (h : off = ![s, 0, 0]) {inb} (j : (⟨3, ![1, a, b]⟩ : Shape).Idx) :
    (((Rect.unit (s := (⟨3, ![n, a, b]⟩ : Shape)) off ![1, a, b] inb).emb j) 0).val = s
      ∧ (((Rect.unit (s := (⟨3, ![n, a, b]⟩ : Shape)) off ![1, a, b] inb).emb j) 1).val = (j 1).val
      ∧ (((Rect.unit (s := (⟨3, ![n, a, b]⟩ : Shape)) off ![1, a, b] inb).emb j) 2).val = (j 2).val := by
  subst h
  rw [emb_unit_val, emb_unit_val, emb_unit_val]
  have h0 : (j 0).val < 1 := (j 0).isLt
  refine ⟨?_, Nat.zero_add _, Nat.zero_add _⟩
  show s + (j 0).val = s
  omega

/-! ## The shape casts, elementwise -/

theorem pay14_at (x : Vec F S8x512 .f32) (i : S1x8x512.Idx) : k0_pay14 x i = x (ix2 (i 1) (i 2)) := by
  unfold k0_pay14
  rw [shapeCast_self]
  obtain ⟨u, a, b, rfl⟩ : ∃ u a b, i = ix3 u a b := ⟨i 0, i 1, i 2, eq_ix3 i⟩
  exact shapeCast_ab_1ab_apply x _ u a b
theorem pay15_at (x : Vec F S8x512 .f32) (i : S1x8x512.Idx) : k0_pay15 x i = x (ix2 (i 1) (i 2)) := pay14_at x i

theorem pay18_at (x : Vec F S4x8x512 .f32) (i : S32x512.Idx) : k0_pay18 x i = x (ix3 (Fin.ofNat 4 ((i 0).val / 8)) (Fin.ofNat 8 ((i 0).val % 8)) (i 1)) := by
  unfold k0_pay18
  refine shapeCast_apply x _ i _ ?_
  have h0 : (i 0).val < 32 := (i 0).isLt
  rw [Shape.rowMajor_val_three, Shape.rowMajor_val_two]
  show (((i 0).val / 8 % 4) * 8 + (i 0).val % 8 % 8) * 512 + (i 1).val = (i 0).val * 512 + (i 1).val
  omega
theorem pay19_at (x : Vec F S8x8x512 .f32) (i : S64x512.Idx) : k0_pay19 x i = x (ix3 (Fin.ofNat 8 ((i 0).val / 8)) (Fin.ofNat 8 ((i 0).val % 8)) (i 1)) := by
  unfold k0_pay19
  refine shapeCast_apply x _ i _ ?_
  have h0 : (i 0).val < 64 := (i 0).isLt
  rw [Shape.rowMajor_val_three, Shape.rowMajor_val_two]
  show (((i 0).val / 8 % 8) * 8 + (i 0).val % 8 % 8) * 512 + (i 1).val = (i 0).val * 512 + (i 1).val
  omega

section
variable (dyV wV : Dev nD → Vec F S512x2048 .f32)

/-- The device's own 8 rows of its partial sums. -/
def redRowsA (c : Dev nD) : Vec F S8x512 .f32 := fun i => redAV dyV wV c (ix2 (Fin.ofNat 32 (8 * (c.val / 8) + (i 0).val)) (i 1))
def redRowsB (c : Dev nD) : Vec F S8x512 .f32 := fun i => redBV dyV wV c (ix2 (Fin.ofNat 64 (8 * (c.val % 8) + (i 0).val)) (i 1))

theorem mod8_lt (c : Dev nD) : c.val % 8 < 8 := Nat.mod_lt _ (by decide)
theorem div8_lt (c : Dev nD) : c.val / 8 < 4 := by have := c_lt c; omega

/-! ## Loads -/

/-- The device's own rows of half `A`. -/
theorem ld_ownA {α : Type} {Q : α → sProp 𝕄} (c : Dev nD) {off : Fin 2 → ℕ} (h : off = ![32 * (c.val % 8), 0]) {inb}
    {hl : (Memref.whole cc0_scratch0).view.LoadsAt (Rect.unit (s := S512x512) off S32x512.size inb).toLoadRect}
    {k : Vec F S32x512 .f32 → Prog (TpuEff nD τ sig (Elt F) Λ₀ .tc) α} :
    (((c : Thread nD τ).loc cc0_scratch0) ↦[fib half (me A1 c)]{fullShare} pV dyV wV c : sProp 𝕄)
      ⊢ iprop(((((c : Thread nD τ).loc cc0_scratch0) ↦[fib half (me A1 c)]{fullShare} pV dyV wV c) -∗ wp frame (wpE (defs₀ (F := F)) 𝒱₀ (c : Thread nD τ) none) Set.univ (k (ownA dyV wV c)) Q)
        -∗ wp frame (wpE (defs₀ (F := F)) 𝒱₀ (c : Thread nD τ) none) Set.univ (.op (.load (Memref.whole cc0_scratch0) (Rect.unit (s := S512x512) off S32x512.size inb).toLoadRect hl) k) Q) := by
  rw [me_row rfl]
  refine ld_rect (r := Rect.unit (s := S512x512) off S32x512.size inb) (hl := hl) c cc0_scratch0.idx cc0_scratch0.names fullShare _ (set_half32 _ (mod8_lt c) h) (pV dyV wV c) (ownA dyV wV c) fun i => ?_
  obtain ⟨x0, x1⟩ := rows_emb h (inb := inb) i
  have h0 : (i 0).val < 32 := (i 0).isLt
  have := c_lt c
  refine congrArg (pV dyV wV c) (idx2_ext (x0.trans ?_) x1)
  show _ = (32 * (c.val % 8) + (i 0).val) % 512
  omega

/-- The device's own rows of half `B`. -/
theorem ld_ownB {α : Type} {Q : α → sProp 𝕄} (c : Dev nD) {off : Fin 2 → ℕ} (h : off = ![64 * (c.val / 8) + 256, 0]) {inb}
    {hl : (Memref.whole cc0_scratch0).view.LoadsAt (Rect.unit (s := S512x512) off S64x512.size inb).toLoadRect}
    {k : Vec F S64x512 .f32 → Prog (TpuEff nD τ sig (Elt F) Λ₀ .tc) α} :
    (((c : Thread nD τ).loc cc0_scratch0) ↦[fib half (8 + me B1 c)]{fullShare} pV dyV wV c : sProp 𝕄)
      ⊢ iprop(((((c : Thread nD τ).loc cc0_scratch0) ↦[fib half (8 + me B1 c)]{fullShare} pV dyV wV c) -∗ wp frame (wpE (defs₀ (F := F)) 𝒱₀ (c : Thread nD τ) none) Set.univ (k (ownB dyV wV c)) Q)
        -∗ wp frame (wpE (defs₀ (F := F)) 𝒱₀ (c : Thread nD τ) none) Set.univ (.op (.load (Memref.whole cc0_scratch0) (Rect.unit (s := S512x512) off S64x512.size inb).toLoadRect hl) k) Q) := by
  rw [me_col rfl]
  refine ld_rect (r := Rect.unit (s := S512x512) off S64x512.size inb) (hl := hl) c cc0_scratch0.idx cc0_scratch0.names fullShare _ (set_half64 _ (div8_lt c) h) (pV dyV wV c) (ownB dyV wV c) fun i => ?_
  obtain ⟨x0, x1⟩ := rows_emb h (inb := inb) i
  have h0 : (i 0).val < 64 := (i 0).isLt
  have := c_lt c
  refine congrArg (pV dyV wV c) (idx2_ext (x0.trans ?_) x1)
  show _ = (64 * (c.val / 8) + 256 + (i 0).val) % 512
  omega

/-- A received slot of the first phase, half `A`. -/
theorem ld_gotA {α : Type} {Q : α → sProp 𝕄} (c : Dev nD) (o : ℕ) (h1 : 1 ≤ o) {off : Fin 3 → ℕ} (h : off = ![pslot A1 c o, 0, 0]) {inb}
    {hl : (Memref.whole cc0_scratch1).view.LoadsAt (Rect.unit (s := S8x32x512) off S1x32x512.size inb).toLoadRect}
    {k : Vec F S1x32x512 .f32 → Prog (TpuEff nD τ sig (Elt F) Λ₀ .tc) α} :
    (rcv dyV wV A1 c (o + 1) : sProp 𝕄)
      ⊢ iprop((rcv dyV wV A1 c (o + 1) -∗ wp frame (wpE (defs₀ (F := F)) 𝒱₀ (c : Thread nD τ) none) Set.univ (k (slotA1 dyV wV c (pslot A1 c o))) Q)
        -∗ wp frame (wpE (defs₀ (F := F)) 𝒱₀ (c : Thread nD τ) none) Set.univ (.op (.load (Memref.whole cc0_scratch1) (Rect.unit (s := S8x32x512) off S1x32x512.size inb).toLoadRect hl) k) Q) := by
  have key := ld_rect (F := F) (Q := Q) (k := k) (r := Rect.unit (s := S8x32x512) off S1x32x512.size inb) (hl := hl) c cc0_scratch1.idx cc0_scratch1.names fullShare (fib lead (pslot A1 c o)) (set_slot _ h) (rsA1V dyV wV c) (slotA1 dyV wV c (pslot A1 c o)) fun i => by
    obtain ⟨x0, x1, x2⟩ := slot_emb1 h (inb := inb) i
    exact congrArg (rsA1V dyV wV c) (idx3_ext (x0.trans (Nat.mod_eq_of_lt (pslot_lt A1 c o)).symm) x1 x2)
  unfold rcv gotPts
  rw [bigSep_Ico_last h1, show recvPts dyV wV A1 c (pslot A1 c o) = (((c : Thread nD τ).loc cc0_scratch1) ↦[fib lead (pslot A1 c o)]{fullShare} rsA1V dyV wV c : sProp 𝕄) from rfl]
  iintro ⟨H1, ⟨Hs, H2⟩, H3⟩ Hk
  iapply key $$ Hs
  iintro Hs
  iapply Hk
  isplitl [H1]; · iexact H1
  isplitr [H3]
  · isplitl [Hs]; · iexact Hs
    iexact H2
  · iexact H3

/-- A received slot of the first phase, half `B`. -/
theorem ld_gotB {α : Type} {Q : α → sProp 𝕄} (c : Dev nD) (o : ℕ) (h1 : 1 ≤ o) {off : Fin 3 → ℕ} (h : off = ![pslot B1 c o, 0, 0]) {inb}
    {hl : (Memref.whole cc0_scratch2).view.LoadsAt (Rect.unit (s := S4x64x512) off S1x64x512.size inb).toLoadRect}
    {k : Vec F S1x64x512 .f32 → Prog (TpuEff nD τ sig (Elt F) Λ₀ .tc) α} :
    (rcv dyV wV B1 c (o + 1) : sProp 𝕄)
      ⊢ iprop((rcv dyV wV B1 c (o + 1) -∗ wp frame (wpE (defs₀ (F := F)) 𝒱₀ (c : Thread nD τ) none) Set.univ (k (slotB1 dyV wV c (pslot B1 c o))) Q)
        -∗ wp frame (wpE (defs₀ (F := F)) 𝒱₀ (c : Thread nD τ) none) Set.univ (.op (.load (Memref.whole cc0_scratch2) (Rect.unit (s := S4x64x512) off S1x64x512.size inb).toLoadRect hl) k) Q) := by
  have key := ld_rect (F := F) (Q := Q) (k := k) (r := Rect.unit (s := S4x64x512) off S1x64x512.size inb) (hl := hl) c cc0_scratch2.idx cc0_scratch2.names fullShare (fib lead (pslot B1 c o)) (set_slot _ h) (rsB1V dyV wV c) (slotB1 dyV wV c (pslot B1 c o)) fun i => by
    obtain ⟨x0, x1, x2⟩ := slot_emb1 h (inb := inb) i
    exact congrArg (rsB1V dyV wV c) (idx3_ext (x0.trans (Nat.mod_eq_of_lt (pslot_lt B1 c o)).symm) x1 x2)
  unfold rcv gotPts
  rw [bigSep_Ico_last h1, show recvPts dyV wV B1 c (pslot B1 c o) = (((c : Thread nD τ).loc cc0_scratch2) ↦[fib lead (pslot B1 c o)]{fullShare} rsB1V dyV wV c : sProp 𝕄) from rfl]
  iintro ⟨H1, ⟨Hs, H2⟩, H3⟩ Hk
  iapply key $$ Hs
  iintro Hs
  iapply Hk
  isplitl [H1]; · iexact H1
  isplitr [H3]
  · isplitl [Hs]; · iexact Hs
    iexact H2
  · iexact H3

/-- The device's own 8 rows of its partial sum, half `A`. -/
theorem ld_redA {α : Type} {Q : α → sProp 𝕄} (c : Dev nD) {off : Fin 2 → ℕ} (h : off = ![8 * (c.val / 8), 0]) {inb}
    {hl : (Memref.whole cc0_scratch3).view.LoadsAt (Rect.unit (s := S32x512) off S8x512.size inb).toLoadRect}
    {k : Vec F S8x512 .f32 → Prog (TpuEff nD τ sig (Elt F) Λ₀ .tc) α} :
    (((c : Thread nD τ).loc cc0_scratch3) ↦[fib blk8 (me A2 c)]{fullShare} redAV dyV wV c : sProp 𝕄)
      ⊢ iprop(((((c : Thread nD τ).loc cc0_scratch3) ↦[fib blk8 (me A2 c)]{fullShare} redAV dyV wV c) -∗ wp frame (wpE (defs₀ (F := F)) 𝒱₀ (c : Thread nD τ) none) Set.univ (k (redRowsA dyV wV c)) Q)
        -∗ wp frame (wpE (defs₀ (F := F)) 𝒱₀ (c : Thread nD τ) none) Set.univ (.op (.load (Memref.whole cc0_scratch3) (Rect.unit (s := S32x512) off S8x512.size inb).toLoadRect hl) k) Q) := by
  rw [me_col rfl]
  refine ld_rect (r := Rect.unit (s := S32x512) off S8x512.size inb) (hl := hl) c cc0_scratch3.idx cc0_scratch3.names fullShare _ (set_rows8 _ h) (redAV dyV wV c) (redRowsA dyV wV c) fun i => ?_
  obtain ⟨x0, x1⟩ := rows_emb h (inb := inb) i
  have h0 : (i 0).val < 8 := (i 0).isLt
  have := c_lt c
  refine congrArg (redAV dyV wV c) (idx2_ext (x0.trans ?_) x1)
  show _ = (8 * (c.val / 8) + (i 0).val) % 32
  omega

/-- The device's own 8 rows of its partial sum, half `B`. -/
theorem ld_redB {α : Type} {Q : α → sProp 𝕄} (c : Dev nD) {off : Fin 2 → ℕ} (h : off = ![8 * (c.val % 8), 0]) {inb}
    {hl : (Memref.whole cc0_scratch4).view.LoadsAt (Rect.unit (s := S64x512) off S8x512.size inb).toLoadRect}
    {k : Vec F S8x512 .f32 → Prog (TpuEff nD τ sig (Elt F) Λ₀ .tc) α} :
    (((c : Thread nD τ).loc cc0_scratch4) ↦[fib blk8 (me B2 c)]{fullShare} redBV dyV wV c : sProp 𝕄)
      ⊢ iprop(((((c : Thread nD τ).loc cc0_scratch4) ↦[fib blk8 (me B2 c)]{fullShare} redBV dyV wV c) -∗ wp frame (wpE (defs₀ (F := F)) 𝒱₀ (c : Thread nD τ) none) Set.univ (k (redRowsB dyV wV c)) Q)
        -∗ wp frame (wpE (defs₀ (F := F)) 𝒱₀ (c : Thread nD τ) none) Set.univ (.op (.load (Memref.whole cc0_scratch4) (Rect.unit (s := S64x512) off S8x512.size inb).toLoadRect hl) k) Q) := by
  rw [me_row rfl]
  refine ld_rect (r := Rect.unit (s := S64x512) off S8x512.size inb) (hl := hl) c cc0_scratch4.idx cc0_scratch4.names fullShare _ (set_rows8 _ h) (redBV dyV wV c) (redRowsB dyV wV c) fun i => ?_
  obtain ⟨x0, x1⟩ := rows_emb h (inb := inb) i
  have h0 : (i 0).val < 8 := (i 0).isLt
  have := c_lt c
  refine congrArg (redBV dyV wV c) (idx2_ext (x0.trans ?_) x1)
  show _ = (8 * (c.val % 8) + (i 0).val) % 64
  omega

end

/-! ## Stores, each after the load of the same place, whose value is not used -/

section
variable (dyV wV : Dev nD → Vec F S512x2048 .f32)

/-- The own slot of the second phase's buffer, half `A`. -/
theorem st_rsA2 {α : Type} {Q : α → sProp 𝕄} (c : Dev nD) {off : Fin 3 → ℕ} (h : off = ![c.val / 8, 0, 0]) {inb inb'}
    {hl : (Memref.whole cc0_scratch5).view.LoadsAt (Rect.unit (s := S4x8x512) off S1x8x512.size inb).toLoadRect}
    {hx : ((Memref.whole cc0_scratch5).access (Rect.unit (s := S4x8x512) off S1x8x512.size inb')).Stores Finset.univ} {hm}
    {k : PUnit → Prog (TpuEff nD τ sig (Elt F) Λ₀ .tc) α} :
    iprop(∃ f, ((c : Thread nD τ).loc cc0_scratch5) ↦[fib lead (me A2 c)]{fullShare} f : sProp 𝕄)
      ⊢ iprop(((((c : Thread nD τ).loc cc0_scratch5) ↦[fib lead (me A2 c)]{fullShare} rsA2V dyV wV c) -∗ wp frame (wpE (defs₀ (F := F)) 𝒱₀ (c : Thread nD τ) none) Set.univ (k ⟨⟩) Q)
        -∗ wp frame (wpE (defs₀ (F := F)) 𝒱₀ (c : Thread nD τ) none) Set.univ (.op (.load (Memref.whole cc0_scratch5) (Rect.unit (s := S4x8x512) off S1x8x512.size inb).toLoadRect hl) fun _ =>
            .op (.store (Memref.whole cc0_scratch5) (Rect.unit (s := S4x8x512) off S1x8x512.size inb') (k0_pay14 (redRowsA dyV wV c)) Finset.univ hx hm) k) Q) := by
  rw [me_col rfl]
  iintro ⟨%f, H⟩ Hk
  iapply (ld_rect (r := Rect.unit (s := S4x8x512) off S1x8x512.size inb) (hl := hl) c cc0_scratch5.idx cc0_scratch5.names fullShare _ (set_slot _ h) f (fun i => f ((Rect.unit (s := S4x8x512) off S1x8x512.size inb).emb i)) fun i => rfl) $$ H
  iintro H
  iapply (st_rect (r := Rect.unit (s := S4x8x512) off S1x8x512.size inb') (hx := hx) (hm := hm) c cc0_scratch5.idx cc0_scratch5.names _ (set_slot _ h) f (rsA2V dyV wV c) (w := k0_pay14 (redRowsA dyV wV c)) fun i => ?_) $$ H
  · obtain ⟨x0, x1, x2⟩ := slot_emb1 h (inb := inb') i
    rw [pay14_at]
    unfold redRowsA rsA2V
    rw [x0, dev_me]
    exact congrArg (redAV dyV wV c) (idx2_ext (by show (8 * (c.val / 8) + (i 1).val) % 32 = (8 * (c.val / 8) + _) % 32; rw [x1]) x2.symm)
  iexact Hk

/-- The own slot of the second phase's buffer, half `B`. -/
theorem st_rsB2 {α : Type} {Q : α → sProp 𝕄} (c : Dev nD) {off : Fin 3 → ℕ} (h : off = ![c.val % 8, 0, 0]) {inb inb'}
    {hl : (Memref.whole cc0_scratch6).view.LoadsAt (Rect.unit (s := S8x8x512) off S1x8x512.size inb).toLoadRect}
    {hx : ((Memref.whole cc0_scratch6).access (Rect.unit (s := S8x8x512) off S1x8x512.size inb')).Stores Finset.univ} {hm}
    {k : PUnit → Prog (TpuEff nD τ sig (Elt F) Λ₀ .tc) α} :
    iprop(∃ f, ((c : Thread nD τ).loc cc0_scratch6) ↦[fib lead (me B2 c)]{fullShare} f : sProp 𝕄)
      ⊢ iprop(((((c : Thread nD τ).loc cc0_scratch6) ↦[fib lead (me B2 c)]{fullShare} rsB2V dyV wV c) -∗ wp frame (wpE (defs₀ (F := F)) 𝒱₀ (c : Thread nD τ) none) Set.univ (k ⟨⟩) Q)
        -∗ wp frame (wpE (defs₀ (F := F)) 𝒱₀ (c : Thread nD τ) none) Set.univ (.op (.load (Memref.whole cc0_scratch6) (Rect.unit (s := S8x8x512) off S1x8x512.size inb).toLoadRect hl) fun _ =>
            .op (.store (Memref.whole cc0_scratch6) (Rect.unit (s := S8x8x512) off S1x8x512.size inb') (k0_pay15 (redRowsB dyV wV c)) Finset.univ hx hm) k) Q) := by
  rw [me_row rfl]
  iintro ⟨%f, H⟩ Hk
  iapply (ld_rect (r := Rect.unit (s := S8x8x512) off S1x8x512.size inb) (hl := hl) c cc0_scratch6.idx cc0_scratch6.names fullShare _ (set_slot _ h) f (fun i => f ((Rect.unit (s := S8x8x512) off S1x8x512.size inb).emb i)) fun i => rfl) $$ H
  iintro H
  iapply (st_rect (r := Rect.unit (s := S8x8x512) off S1x8x512.size inb') (hx := hx) (hm := hm) c cc0_scratch6.idx cc0_scratch6.names _ (set_slot _ h) f (rsB2V dyV wV c) (w := k0_pay15 (redRowsB dyV wV c)) fun i => ?_) $$ H
  · obtain ⟨x0, x1, x2⟩ := slot_emb1 h (inb := inb') i
    rw [pay15_at]
    unfold redRowsB rsB2V
    rw [x0, dev_me]
    exact congrArg (redBV dyV wV c) (idx2_ext (by show (8 * (c.val % 8) + (i 1).val) % 64 = (8 * (c.val % 8) + _) % 64; rw [x1]) x2.symm)
  iexact Hk

/-- The own slot of the third phase's buffer, half `A`. -/
theorem st_agA2 {α : Type} {Q : α → sProp 𝕄} (c : Dev nD) {off : Fin 3 → ℕ} (h : off = ![c.val / 8, 0, 0]) {inb inb'}
    {hl : (Memref.whole cc0_scratch7).view.LoadsAt (Rect.unit (s := S4x8x512) off S1x8x512.size inb).toLoadRect}
    {hx : ((Memref.whole cc0_scratch7).access (Rect.unit (s := S4x8x512) off S1x8x512.size inb')).Stores Finset.univ} {hm}
    {k : PUnit → Prog (TpuEff nD τ sig (Elt F) Λ₀ .tc) α} :
    iprop(∃ f, ((c : Thread nD τ).loc cc0_scratch7) ↦[fib lead (me A3 c)]{fullShare} f : sProp 𝕄)
      ⊢ iprop(((((c : Thread nD τ).loc cc0_scratch7) ↦[fib lead (me A3 c)]{fullShare} agA2V dyV wV c) -∗ wp frame (wpE (defs₀ (F := F)) 𝒱₀ (c : Thread nD τ) none) Set.univ (k ⟨⟩) Q)
        -∗ wp frame (wpE (defs₀ (F := F)) 𝒱₀ (c : Thread nD τ) none) Set.univ (.op (.load (Memref.whole cc0_scratch7) (Rect.unit (s := S4x8x512) off S1x8x512.size inb).toLoadRect hl) fun _ =>
            .op (.store (Memref.whole cc0_scratch7) (Rect.unit (s := S4x8x512) off S1x8x512.size inb') (k0_pay16 (rsA2V dyV wV c)) Finset.univ hx hm) k) Q) := by
  rw [me_col rfl]
  iintro ⟨%f, H⟩ Hk
  iapply (ld_rect (r := Rect.unit (s := S4x8x512) off S1x8x512.size inb) (hl := hl) c cc0_scratch7.idx cc0_scratch7.names fullShare _ (set_slot _ h) f (fun i => f ((Rect.unit (s := S4x8x512) off S1x8x512.size inb).emb i)) fun i => rfl) $$ H
  iintro H
  iapply (st_rect (r := Rect.unit (s := S4x8x512) off S1x8x512.size inb') (hx := hx) (hm := hm) c cc0_scratch7.idx cc0_scratch7.names _ (set_slot _ h) f (agA2V dyV wV c) (w := k0_pay16 (rsA2V dyV wV c)) fun i => ?_) $$ H
  · obtain ⟨x0, x1, x2⟩ := slot_emb1 h (inb := inb') i
    unfold agA2V
    rw [x0, dev_me]
    exact congrArg (sumAV dyV wV c) (idx3_ext (by have h0 : (i 0).val < 1 := (i 0).isLt; show (i 0).val = 0; omega) x1.symm x2.symm)
  iexact Hk

/-- The own slot of the third phase's buffer, half `B`. -/
theorem st_agB2 {α : Type} {Q : α → sProp 𝕄} (c : Dev nD) {off : Fin 3 → ℕ} (h : off = ![c.val % 8, 0, 0]) {inb inb'}
    {hl : (Memref.whole cc0_scratch8).view.LoadsAt (Rect.unit (s := S8x8x512) off S1x8x512.size inb).toLoadRect}
    {hx : ((Memref.whole cc0_scratch8).access (Rect.unit (s := S8x8x512) off S1x8x512.size inb')).Stores Finset.univ} {hm}
    {k : PUnit → Prog (TpuEff nD τ sig (Elt F) Λ₀ .tc) α} :
    iprop(∃ f, ((c : Thread nD τ).loc cc0_scratch8) ↦[fib lead (me B3 c)]{fullShare} f : sProp 𝕄)
      ⊢ iprop(((((c : Thread nD τ).loc cc0_scratch8) ↦[fib lead (me B3 c)]{fullShare} agB2V dyV wV c) -∗ wp frame (wpE (defs₀ (F := F)) 𝒱₀ (c : Thread nD τ) none) Set.univ (k ⟨⟩) Q)
        -∗ wp frame (wpE (defs₀ (F := F)) 𝒱₀ (c : Thread nD τ) none) Set.univ (.op (.load (Memref.whole cc0_scratch8) (Rect.unit (s := S8x8x512) off S1x8x512.size inb).toLoadRect hl) fun _ =>
            .op (.store (Memref.whole cc0_scratch8) (Rect.unit (s := S8x8x512) off S1x8x512.size inb') (k0_pay17 (rsB2V dyV wV c)) Finset.univ hx hm) k) Q) := by
  rw [me_row rfl]
  iintro ⟨%f, H⟩ Hk
  iapply (ld_rect (r := Rect.unit (s := S8x8x512) off S1x8x512.size inb) (hl := hl) c cc0_scratch8.idx cc0_scratch8.names fullShare _ (set_slot _ h) f (fun i => f ((Rect.unit (s := S8x8x512) off S1x8x512.size inb).emb i)) fun i => rfl) $$ H
  iintro H
  iapply (st_rect (r := Rect.unit (s := S8x8x512) off S1x8x512.size inb') (hx := hx) (hm := hm) c cc0_scratch8.idx cc0_scratch8.names _ (set_slot _ h) f (agB2V dyV wV c) (w := k0_pay17 (rsB2V dyV wV c)) fun i => ?_) $$ H
  · obtain ⟨x0, x1, x2⟩ := slot_emb1 h (inb := inb') i
    unfold agB2V
    rw [x0, dev_me]
    exact congrArg (sumBV dyV wV c) (idx3_ext (by have h0 : (i 0).val < 1 := (i 0).isLt; show (i 0).val = 0; omega) x1.symm x2.symm)
  iexact Hk

/-- The own rows of the result, half `A`. -/
theorem st_outA {α : Type} {Q : α → sProp 𝕄} (c : Dev nD) {off : Fin 2 → ℕ} (h : off = ![32 * (c.val % 8), 0]) {inb inb'}
    {hl : (Memref.whole cc0_stg2_0).view.LoadsAt (Rect.unit (s := S512x512) off S32x512.size inb).toLoadRect}
    {hx : ((Memref.whole cc0_stg2_0).access (Rect.unit (s := S512x512) off S32x512.size inb')).Stores Finset.univ} {hm}
    {k : PUnit → Prog (TpuEff nD τ sig (Elt F) Λ₀ .tc) α} :
    iprop(∃ f, ((c : Thread nD τ).loc cc0_stg2_0) ↦[fib half (me A4 c)]{fullShare} f : sProp 𝕄)
      ⊢ iprop(((((c : Thread nD τ).loc cc0_stg2_0) ↦[fib half (me A4 c)]{fullShare} outV dyV wV) -∗ wp frame (wpE (defs₀ (F := F)) 𝒱₀ (c : Thread nD τ) none) Set.univ (k ⟨⟩) Q)
        -∗ wp frame (wpE (defs₀ (F := F)) 𝒱₀ (c : Thread nD τ) none) Set.univ (.op (.load (Memref.whole cc0_stg2_0) (Rect.unit (s := S512x512) off S32x512.size inb).toLoadRect hl) fun _ =>
            .op (.store (Memref.whole cc0_stg2_0) (Rect.unit (s := S512x512) off S32x512.size inb') (k0_pay18 (agA2V dyV wV c)) Finset.univ hx hm) k) Q) := by
  rw [me_row rfl]
  iintro ⟨%f, H⟩ Hk
  iapply (ld_rect (r := Rect.unit (s := S512x512) off S32x512.size inb) (hl := hl) c cc0_stg2_0.idx cc0_stg2_0.names fullShare _ (set_half32 _ (mod8_lt c) h) f (fun i => f ((Rect.unit (s := S512x512) off S32x512.size inb).emb i)) fun i => rfl) $$ H
  iintro H
  iapply (st_rect (r := Rect.unit (s := S512x512) off S32x512.size inb') (hx := hx) (hm := hm) c cc0_stg2_0.idx cc0_stg2_0.names _ (set_half32 _ (mod8_lt c) h) f (outV dyV wV) (w := k0_pay18 (agA2V dyV wV c)) fun i => ?_) $$ H
  · obtain ⟨x0, x1⟩ := rows_emb h (inb := inb') i
    have h0 : (i 0).val < 32 := (i 0).isLt
    have hc := c_lt c
    rw [pay18_at]
    unfold agA2V outV
    rw [x0, if_pos (by omega)]
    rw [show (32 * (c.val % 8) + (i 0).val) % 32 / 8 = (i 0).val / 8 by omega, show (32 * (c.val % 8) + (i 0).val) / 32 = c.val % 8 by omega]
    rw [show ((ix3 (Fin.ofNat 4 ((i 0).val / 8)) (Fin.ofNat 8 ((i 0).val % 8)) (i 1) : S4x8x512.Idx) 0).val = (i 0).val / 8 from Nat.mod_eq_of_lt (by omega)]
    exact congrArg (sumAV dyV wV _) (idx3_ext rfl (by show (i 0).val % 8 % 8 = (32 * (c.val % 8) + (i 0).val) % 8 % 8; omega) x1.symm)
  iexact Hk

/-- The own rows of the result, half `B`. -/
theorem st_outB {α : Type} {Q : α → sProp 𝕄} (c : Dev nD) {off : Fin 2 → ℕ} (h : off = ![64 * (c.val / 8) + 256, 0]) {inb inb'}
    {hl : (Memref.whole cc0_stg2_0).view.LoadsAt (Rect.unit (s := S512x512) off S64x512.size inb).toLoadRect}
    {hx : ((Memref.whole cc0_stg2_0).access (Rect.unit (s := S512x512) off S64x512.size inb')).Stores Finset.univ} {hm}
    {k : PUnit → Prog (TpuEff nD τ sig (Elt F) Λ₀ .tc) α} :
    iprop(∃ f, ((c : Thread nD τ).loc cc0_stg2_0) ↦[fib half (8 + me B4 c)]{fullShare} f : sProp 𝕄)
      ⊢ iprop(((((c : Thread nD τ).loc cc0_stg2_0) ↦[fib half (8 + me B4 c)]{fullShare} outV dyV wV) -∗ wp frame (wpE (defs₀ (F := F)) 𝒱₀ (c : Thread nD τ) none) Set.univ (k ⟨⟩) Q)
        -∗ wp frame (wpE (defs₀ (F := F)) 𝒱₀ (c : Thread nD τ) none) Set.univ (.op (.load (Memref.whole cc0_stg2_0) (Rect.unit (s := S512x512) off S64x512.size inb).toLoadRect hl) fun _ =>
            .op (.store (Memref.whole cc0_stg2_0) (Rect.unit (s := S512x512) off S64x512.size inb') (k0_pay19 (agB2V dyV wV c)) Finset.univ hx hm) k) Q) := by
  rw [me_col rfl]
  iintro ⟨%f, H⟩ Hk
  iapply (ld_rect (r := Rect.unit (s := S512x512) off S64x512.size inb) (hl := hl) c cc0_stg2_0.idx cc0_stg2_0.names fullShare _ (set_half64 _ (div8_lt c) h) f (fun i => f ((Rect.unit (s := S512x512) off S64x512.size inb).emb i)) fun i => rfl) $$ H
  iintro H
  iapply (st_rect (r := Rect.unit (s := S512x512) off S64x512.size inb') (hx := hx) (hm := hm) c cc0_stg2_0.idx cc0_stg2_0.names _ (set_half64 _ (div8_lt c) h) f (outV dyV wV) (w := k0_pay19 (agB2V dyV wV c)) fun i => ?_) $$ H
  · obtain ⟨x0, x1⟩ := rows_emb h (inb := inb') i
    have h0 : (i 0).val < 64 := (i 0).isLt
    have hc := c_lt c
    rw [pay19_at]
    unfold agB2V outV
    rw [x0, if_neg (by omega)]
    rw [show (64 * (c.val / 8) + 256 + (i 0).val - 256) / 64 = c.val / 8 by omega, show (64 * (c.val / 8) + 256 + (i 0).val - 256) % 64 / 8 = (i 0).val / 8 by omega]
    rw [show ((ix3 (Fin.ofNat 8 ((i 0).val / 8)) (Fin.ofNat 8 ((i 0).val % 8)) (i 1) : S8x8x512.Idx) 0).val = (i 0).val / 8 from Nat.mod_eq_of_lt (by omega)]
    exact congrArg (sumBV dyV wV _) (idx3_ext rfl (by show (i 0).val % 8 % 8 = (64 * (c.val / 8) + 256 + (i 0).val) % 8 % 8; omega) x1.symm)
  iexact Hk

end

end Cert.AllReduce

end
-- ==== Proof.PartsG.lean ====
/-
The parts that compute, up to the first phase: the barrier, the partial product, the own rows.
-/
module

public import proofs.«01_k».proof.Proof.Mem

@[expose] public section

noncomputable section

namespace Cert.AllReduce

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Fam

variable {F : FTy → Type} [FloatOps F]

local notation "𝕄" => MT nD τ sig Unit (Elt F) ℕ UU ℕ

section
variable (dyV wV : Dev nD → Vec F S512x2048 .f32) (K : Dev nD × Option KX → ℕ)

theorem part1 {Q : (Σ' (_ : Dev nD) (_ : BitVec 32) (_ : BitVec 32) (_ : Sems sig S_) (_ : BitVec 32), BitVec 32) → sProp 𝕄} (c : Dev nD)  :
    iprop(env dyV wV K ∗ (rowSig c 1 ∗ ow c 0) ∗ (∀ v3 v4 v26 v27, (rowSig c 6 ∗ ow c 5) -∗ Q ⟨c, v3, v4, SemArray.scalar (sig.barrier 0 rfl), v26, v27⟩))
      ⊢ wp frame (wpE (defs₀ (F := F)) 𝒱₀ (c : Thread nD τ) none) Set.univ
          (k0_part1_skel (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 ) Q := by
  unfold k0_part1_skel
  simp only [Prog.lift, Prog.bind_op, Prog.bind_ret, Prog.pure_eq_ret, semSignalWord, wp_deviceId]
  iintro ⟨#HR, ⟨Hr, HO⟩, Hk⟩
  iapply (run_row dyV wV K c 1 (by decide) (by decide) 0 (get_row c 1 (by decide) (by decide)) (d1 c) rfl) $$ [Hr HO]
  · isplitr; · iexact HR
    isplitl [Hr]; · iexact Hr
    iexact HO
  iintro ⟨Hr, HO⟩
  iapply (run_row dyV wV K c 2 (by decide) (by decide) 1 (get_row c 2 (by decide) (by decide)) (d2 c) rfl) $$ [Hr HO]
  · isplitr; · iexact HR
    isplitl [Hr]; · iexact Hr
    iexact HO
  iintro ⟨Hr, HO⟩
  iapply (run_row dyV wV K c 3 (by decide) (by decide) 2 (get_row c 3 (by decide) (by decide)) (d3 c) rfl) $$ [Hr HO]
  · isplitr; · iexact HR
    isplitl [Hr]; · iexact Hr
    iexact HO
  iintro ⟨Hr, HO⟩
  iapply (run_row dyV wV K c 4 (by decide) (by decide) 3 (get_row c 4 (by decide) (by decide)) (d4 c) rfl) $$ [Hr HO]
  · isplitr; · iexact HR
    isplitl [Hr]; · iexact Hr
    iexact HO
  iintro ⟨Hr, HO⟩
  iapply (run_row dyV wV K c 5 (by decide) (by decide) 4 (get_row c 5 (by decide) (by decide)) (d5 c) rfl) $$ [Hr HO]
  · isplitr; · iexact HR
    isplitl [Hr]; · iexact Hr
    iexact HO
  iintro ⟨Hr, HO⟩
  rw [wp_ret]; imodintro
  iapply Hk
  isplitl [Hr]; · iexact Hr
  iexact HO

theorem part2 {Q : PUnit → sProp 𝕄} (c : Dev nD) (v3 : BitVec 32) (v4 : BitVec 32) (v26 : BitVec 32) (v27 : BitVec 32) :
    iprop(env dyV wV K ∗ (rowSig c 6 ∗ colSig c 1 ∗ (cred (tallyAt (barCell c) () 10) ∗ atPos ER (barCell c) 0 ∅ 0) ∗ (((c : Thread nD τ).loc cc0_stg0_0) ↦{fullShare} dyV c) ∗ (((c : Thread nD τ).loc cc0_stg1_0) ↦{fullShare} wV c) ∗ (∃ f, ((c : Thread nD τ).loc cc0_scratch0) ↦{fullShare} f) ∗ ow c 5) ∗ (((bigSep (Finset.Ico 1 8) fun o => rowPay (peer A1 c o) (me A1 c)) ∗ (bigSep (Finset.Ico 1 4) fun o => colPay (peer B1 c o) (me B1 c)) ∗ semVal (barCell c) 0 ∗ (((c : Thread nD τ).loc cc0_stg0_0) ↦{fullShare} dyV c) ∗ (((c : Thread nD τ).loc cc0_stg1_0) ↦{fullShare} wV c) ∗ (((c : Thread nD τ).loc cc0_scratch0) ↦{fullShare} pV dyV wV c) ∗ ow c 10) -∗ Q ⟨⟩))
      ⊢ wp frame (wpE (defs₀ (F := F)) 𝒱₀ (c : Thread nD τ) none) Set.univ
          (k0_part2_skel (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 c v3 v4 (SemArray.scalar (sig.barrier 0 rfl)) v26 v27) Q := by
  unfold k0_part2_skel
  simp only [Prog.lift, Prog.bind_op, Prog.bind_ret, Prog.pure_eq_ret, semSignalWord, semWaitWord]
  iintro ⟨#HR, ⟨Hr, Hc, Hb, Hdy, Hw, Hp, HO⟩, Hk⟩
  iapply (run_row dyV wV K c 6 (by decide) (by decide) 5 (get_row c 6 (by decide) (by decide)) (d6 c) rfl) $$ [Hr HO]
  · isplitr; · iexact HR
    isplitl [Hr]; · iexact Hr
    iexact HO
  iintro ⟨Hr, HO⟩
  iapply (run_row dyV wV K c 7 (by decide) (by decide) 6 (get_row c 7 (by decide) (by decide)) (d7 c) rfl) $$ [Hr HO]
  · isplitr; · iexact HR
    isplitl [Hr]; · iexact Hr
    iexact HO
  iintro ⟨Hr, HO⟩
  iapply (run_col dyV wV K c 1 (by decide) (by decide) 7 (get_col c 1 (by decide) (by decide)) (d8 c) rfl) $$ [Hc HO]
  · isplitr; · iexact HR
    isplitl [Hc]; · iexact Hc
    iexact HO
  iintro ⟨Hc, HO⟩
  iapply (run_col dyV wV K c 2 (by decide) (by decide) 8 (get_col c 2 (by decide) (by decide)) (d9 c) rfl) $$ [Hc HO]
  · isplitr; · iexact HR
    isplitl [Hc]; · iexact Hc
    iexact HO
  iintro ⟨Hc, HO⟩
  iapply (run_col dyV wV K c 3 (by decide) (by decide) 9 (get_col c 3 (by decide) (by decide)) (d10 c) rfl) $$ [Hc HO]
  · isplitr; · iexact HR
    isplitl [Hc]; · iexact Hc
    iexact HO
  iintro ⟨Hc, HO⟩
  iapply (run_bar dyV wV K c 10 (by decide) rfl) $$ [Hb HO]
  · isplitr; · iexact HR
    isplitl [Hb]; · iexact Hb
    iexact HO
  iintro ⟨Hrp, Hcp, Hsv, HO⟩
  iapply (ld_whole c cc0_stg0_0.idx cc0_stg0_0.names z2 fullShare (dyV c)) $$ Hdy
  iintro Hdy
  iapply (ld_whole c cc0_stg1_0.idx cc0_stg1_0.names z2 fullShare (wV c)) $$ Hw
  iintro Hw
  icases Hp with ⟨%f, Hp⟩
  iapply (ld_whole c cc0_scratch0.idx cc0_scratch0.names z2 fullShare (f)) $$ Hp
  iintro Hp
  iapply (st_whole c cc0_scratch0.idx cc0_scratch0.names z2 (f) (pV dyV wV c)) $$ Hp
  iintro Hp
  rw [wp_ret]; imodintro
  iapply Hk
  isplitl [Hrp]; · iexact Hrp
  isplitl [Hcp]; · iexact Hcp
  isplitl [Hsv]; · iexact Hsv
  isplitl [Hdy]; · iexact Hdy
  isplitl [Hw]; · iexact Hw
  isplitl [Hp]; · iexact Hp
  iexact HO

theorem part6 {Q : PUnit → sProp 𝕄} (c : Dev nD) (v3 : BitVec 32) (v4 : BitVec 32) (v155 : BitVec 32) :
    iprop(env dyV wV K ∗ (snd dyV wV B1 c 2 ∗ (((c : Thread nD τ).loc cc0_scratch0) ↦[fib half (me A1 c)]{fullShare} pV dyV wV c) ∗ (((c : Thread nD τ).loc cc0_scratch0) ↦[fib half (8 + me B1 c)]{fullShare} pV dyV wV c) ∗ (∃ f, ((c : Thread nD τ).loc cc0_scratch3) ↦{fullShare} f) ∗ (∃ f, ((c : Thread nD τ).loc cc0_scratch4) ↦{fullShare} f) ∗ ow c 18) ∗ ((snd dyV wV B1 c 4 ∗ (((c : Thread nD τ).loc cc0_scratch0) ↦[fib half (me A1 c)]{fullShare} pV dyV wV c) ∗ (((c : Thread nD τ).loc cc0_scratch0) ↦[fib half (8 + me B1 c)]{fullShare} pV dyV wV c) ∗ (((c : Thread nD τ).loc cc0_scratch3) ↦{fullShare} accA dyV wV c 0) ∗ (((c : Thread nD τ).loc cc0_scratch4) ↦{fullShare} accB dyV wV c 0) ∗ ow c 20) -∗ Q ⟨⟩))
      ⊢ wp frame (wpE (defs₀ (F := F)) 𝒱₀ (c : Thread nD τ) none) Set.univ
          (k0_part6_skel (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 c v3 v4 v155) Q := by
  unfold k0_part6_skel
  simp only [Prog.lift, Prog.bind_op, Prog.bind_ret, Prog.pure_eq_ret]
  iintro ⟨#HR, ⟨HB1, Hpa, Hpb, Hra, Hrb, HO⟩, Hk⟩
  iapply (send_B1 dyV wV K c 2 (by decide) (by decide) 18 (get_B1 c 2 (by decide) (by decide)) (d19 c) (o6 c 2 (by decide) (by decide)) (k0_off5_eq c) rfl (k0_off4_eq c)) $$ [HB1 HO]
  · isplitr; · iexact HR
    isplitl [HB1]; · iexact HB1
    iexact HO
  iintro ⟨HB1, HO⟩
  iapply (send_B1 dyV wV K c 3 (by decide) (by decide) 19 (get_B1 c 3 (by decide) (by decide)) (d20 c) (o6 c 3 (by decide) (by decide)) (k0_off5_eq c) rfl (k0_off4_eq c)) $$ [HB1 HO]
  · isplitr; · iexact HR
    isplitl [HB1]; · iexact HB1
    iexact HO
  iintro ⟨HB1, HO⟩
  iapply (ld_ownA dyV wV c (k0_off7_eq c)) $$ Hpa
  iintro Hpa
  icases Hra with ⟨%fa, Hra⟩
  iapply (ld_whole c cc0_scratch3.idx cc0_scratch3.names z2 fullShare (fa)) $$ Hra
  iintro Hra
  iapply (st_whole c cc0_scratch3.idx cc0_scratch3.names z2 (fa) (accA dyV wV c 0)) $$ Hra
  iintro Hra
  iapply (ld_ownB dyV wV c (k0_off8_eq c)) $$ Hpb
  iintro Hpb
  icases Hrb with ⟨%fb, Hrb⟩
  iapply (ld_whole c cc0_scratch4.idx cc0_scratch4.names z2 fullShare (fb)) $$ Hrb
  iintro Hrb
  iapply (st_whole c cc0_scratch4.idx cc0_scratch4.names z2 (fb) (accB dyV wV c 0)) $$ Hrb
  iintro Hrb
  rw [wp_ret]; imodintro
  iapply Hk
  isplitl [HB1]; · iexact HB1
  isplitl [Hpa]; · iexact Hpa
  isplitl [Hpb]; · iexact Hpb
  isplitl [Hra]; · iexact Hra
  isplitl [Hrb]; · iexact Hrb
  iexact HO

end

end Cert.AllReduce

end
-- ==== Proof.PartsH.lean ====
/-
The parts that compute: the first phase's sums.
-/
module

public import proofs.«01_k».proof.Proof.Mem

@[expose] public section

noncomputable section

namespace Cert.AllReduce

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Fam

variable {F : FTy → Type} [FloatOps F]

local notation "𝕄" => MT nD τ sig Unit (Elt F) ℕ UU ℕ

section
variable (dyV wV : Dev nD → Vec F S512x2048 .f32) (K : Dev nD × Option KX → ℕ)

theorem part7 {Q : PUnit → sProp 𝕄} (c : Dev nD) (v4 : BitVec 32) :
    iprop(env dyV wV K ∗ (rcv dyV wV A1 c 1 ∗ (((c : Thread nD τ).loc cc0_scratch3) ↦{fullShare} accA dyV wV c 0) ∗ ow c 20) ∗ ((rcv dyV wV A1 c 3 ∗ (((c : Thread nD τ).loc cc0_scratch3) ↦{fullShare} accA dyV wV c 2) ∗ ow c 20) -∗ Q ⟨⟩))
      ⊢ wp frame (wpE (defs₀ (F := F)) 𝒱₀ (c : Thread nD τ) none) Set.univ
          (k0_part7_skel (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 c v4) Q := by
  unfold k0_part7_skel
  simp only [Prog.lift, Prog.bind_op, Prog.bind_ret, Prog.pure_eq_ret]
  iintro ⟨#HR, ⟨HA1, Hra, HO⟩, Hk⟩
  iapply (run_recv dyV wV K c A1 1 (by decide) (by decide) 20 (by decide) (semR_A1 (pslot_lt A1 c 1) (o9 c 1 (by decide) (by decide))) rfl) $$ [HA1 HO]
  · isplitr; · iexact HR
    isplitl [HA1]; · iexact HA1
    iexact HO
  iintro ⟨HA1, HO⟩
  iapply (ld_whole c cc0_scratch3.idx cc0_scratch3.names z2 fullShare (accA dyV wV c 0)) $$ Hra
  iintro Hra
  iapply (ld_gotA dyV wV c 1 (by decide) (o11 c 1 (by decide) (by decide))) $$ HA1
  iintro HA1
  iapply (ld_whole c cc0_scratch3.idx cc0_scratch3.names z2 fullShare (accA dyV wV c 0)) $$ Hra
  iintro Hra
  iapply (st_whole c cc0_scratch3.idx cc0_scratch3.names z2 (accA dyV wV c 0) (accA dyV wV c 1)) $$ Hra
  iintro Hra
  iapply (run_recv dyV wV K c A1 2 (by decide) (by decide) 20 (by decide) (semR_A1 (pslot_lt A1 c 2) (o9 c 2 (by decide) (by decide))) rfl) $$ [HA1 HO]
  · isplitr; · iexact HR
    isplitl [HA1]; · iexact HA1
    iexact HO
  iintro ⟨HA1, HO⟩
  iapply (ld_whole c cc0_scratch3.idx cc0_scratch3.names z2 fullShare (accA dyV wV c 1)) $$ Hra
  iintro Hra
  iapply (ld_gotA dyV wV c 2 (by decide) (o11 c 2 (by decide) (by decide))) $$ HA1
  iintro HA1
  iapply (ld_whole c cc0_scratch3.idx cc0_scratch3.names z2 fullShare (accA dyV wV c 1)) $$ Hra
  iintro Hra
  iapply (st_whole c cc0_scratch3.idx cc0_scratch3.names z2 (accA dyV wV c 1) (accA dyV wV c 2)) $$ Hra
  iintro Hra
  rw [wp_ret]; imodintro
  iapply Hk
  isplitl [HA1]; · iexact HA1
  isplitl [Hra]; · iexact Hra
  iexact HO

theorem part8 {Q : PUnit → sProp 𝕄} (c : Dev nD) (v4 : BitVec 32) :
    iprop(env dyV wV K ∗ (rcv dyV wV A1 c 3 ∗ (((c : Thread nD τ).loc cc0_scratch3) ↦{fullShare} accA dyV wV c 2) ∗ ow c 20) ∗ ((rcv dyV wV A1 c 5 ∗ (((c : Thread nD τ).loc cc0_scratch3) ↦{fullShare} accA dyV wV c 4) ∗ ow c 20) -∗ Q ⟨⟩))
      ⊢ wp frame (wpE (defs₀ (F := F)) 𝒱₀ (c : Thread nD τ) none) Set.univ
          (k0_part8_skel (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 c v4) Q := by
  unfold k0_part8_skel
  simp only [Prog.lift, Prog.bind_op, Prog.bind_ret, Prog.pure_eq_ret]
  iintro ⟨#HR, ⟨HA1, Hra, HO⟩, Hk⟩
  iapply (run_recv dyV wV K c A1 3 (by decide) (by decide) 20 (by decide) (semR_A1 (pslot_lt A1 c 3) (o9 c 3 (by decide) (by decide))) rfl) $$ [HA1 HO]
  · isplitr; · iexact HR
    isplitl [HA1]; · iexact HA1
    iexact HO
  iintro ⟨HA1, HO⟩
  iapply (ld_whole c cc0_scratch3.idx cc0_scratch3.names z2 fullShare (accA dyV wV c 2)) $$ Hra
  iintro Hra
  iapply (ld_gotA dyV wV c 3 (by decide) (o11 c 3 (by decide) (by decide))) $$ HA1
  iintro HA1
  iapply (ld_whole c cc0_scratch3.idx cc0_scratch3.names z2 fullShare (accA dyV wV c 2)) $$ Hra
  iintro Hra
  iapply (st_whole c cc0_scratch3.idx cc0_scratch3.names z2 (accA dyV wV c 2) (accA dyV wV c 3)) $$ Hra
  iintro Hra
  iapply (run_recv dyV wV K c A1 4 (by decide) (by decide) 20 (by decide) (semR_A1 (pslot_lt A1 c 4) (o9 c 4 (by decide) (by decide))) rfl) $$ [HA1 HO]
  · isplitr; · iexact HR
    isplitl [HA1]; · iexact HA1
    iexact HO
  iintro ⟨HA1, HO⟩
  iapply (ld_whole c cc0_scratch3.idx cc0_scratch3.names z2 fullShare (accA dyV wV c 3)) $$ Hra
  iintro Hra
  iapply (ld_gotA dyV wV c 4 (by decide) (o11 c 4 (by decide) (by decide))) $$ HA1
  iintro HA1
  iapply (ld_whole c cc0_scratch3.idx cc0_scratch3.names z2 fullShare (accA dyV wV c 3)) $$ Hra
  iintro Hra
  iapply (st_whole c cc0_scratch3.idx cc0_scratch3.names z2 (accA dyV wV c 3) (accA dyV wV c 4)) $$ Hra
  iintro Hra
  rw [wp_ret]; imodintro
  iapply Hk
  isplitl [HA1]; · iexact HA1
  isplitl [Hra]; · iexact Hra
  iexact HO

theorem part9 {Q : PUnit → sProp 𝕄} (c : Dev nD) (v4 : BitVec 32) :
    iprop(env dyV wV K ∗ (rcv dyV wV A1 c 5 ∗ (((c : Thread nD τ).loc cc0_scratch3) ↦{fullShare} accA dyV wV c 4) ∗ ow c 20) ∗ ((rcv dyV wV A1 c 7 ∗ (((c : Thread nD τ).loc cc0_scratch3) ↦{fullShare} accA dyV wV c 6) ∗ ow c 20) -∗ Q ⟨⟩))
      ⊢ wp frame (wpE (defs₀ (F := F)) 𝒱₀ (c : Thread nD τ) none) Set.univ
          (k0_part9_skel (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 c v4) Q := by
  unfold k0_part9_skel
  simp only [Prog.lift, Prog.bind_op, Prog.bind_ret, Prog.pure_eq_ret]
  iintro ⟨#HR, ⟨HA1, Hra, HO⟩, Hk⟩
  iapply (run_recv dyV wV K c A1 5 (by decide) (by decide) 20 (by decide) (semR_A1 (pslot_lt A1 c 5) (o9 c 5 (by decide) (by decide))) rfl) $$ [HA1 HO]
  · isplitr; · iexact HR
    isplitl [HA1]; · iexact HA1
    iexact HO
  iintro ⟨HA1, HO⟩
  iapply (ld_whole c cc0_scratch3.idx cc0_scratch3.names z2 fullShare (accA dyV wV c 4)) $$ Hra
  iintro Hra
  iapply (ld_gotA dyV wV c 5 (by decide) (o11 c 5 (by decide) (by decide))) $$ HA1
  iintro HA1
  iapply (ld_whole c cc0_scratch3.idx cc0_scratch3.names z2 fullShare (accA dyV wV c 4)) $$ Hra
  iintro Hra
  iapply (st_whole c cc0_scratch3.idx cc0_scratch3.names z2 (accA dyV wV c 4) (accA dyV wV c 5)) $$ Hra
  iintro Hra
  iapply (run_recv dyV wV K c A1 6 (by decide) (by decide) 20 (by decide) (semR_A1 (pslot_lt A1 c 6) (o9 c 6 (by decide) (by decide))) rfl) $$ [HA1 HO]
  · isplitr; · iexact HR
    isplitl [HA1]; · iexact HA1
    iexact HO
  iintro ⟨HA1, HO⟩
  iapply (ld_whole c cc0_scratch3.idx cc0_scratch3.names z2 fullShare (accA dyV wV c 5)) $$ Hra
  iintro Hra
  iapply (ld_gotA dyV wV c 6 (by decide) (o11 c 6 (by decide) (by decide))) $$ HA1
  iintro HA1
  iapply (ld_whole c cc0_scratch3.idx cc0_scratch3.names z2 fullShare (accA dyV wV c 5)) $$ Hra
  iintro Hra
  iapply (st_whole c cc0_scratch3.idx cc0_scratch3.names z2 (accA dyV wV c 5) (accA dyV wV c 6)) $$ Hra
  iintro Hra
  rw [wp_ret]; imodintro
  iapply Hk
  isplitl [HA1]; · iexact HA1
  isplitl [Hra]; · iexact Hra
  iexact HO

theorem part10 {Q : PUnit → sProp 𝕄} (c : Dev nD) (v3 : BitVec 32) (v4 : BitVec 32) :
    iprop(env dyV wV K ∗ (rcv dyV wV A1 c 7 ∗ rcv dyV wV B1 c 1 ∗ (((c : Thread nD τ).loc cc0_scratch3) ↦{fullShare} accA dyV wV c 6) ∗ (((c : Thread nD τ).loc cc0_scratch4) ↦{fullShare} accB dyV wV c 0) ∗ ow c 20) ∗ ((rcv dyV wV A1 c 8 ∗ rcv dyV wV B1 c 2 ∗ (((c : Thread nD τ).loc cc0_scratch3) ↦{fullShare} accA dyV wV c 7) ∗ (((c : Thread nD τ).loc cc0_scratch4) ↦{fullShare} accB dyV wV c 1) ∗ ow c 20) -∗ Q ⟨⟩))
      ⊢ wp frame (wpE (defs₀ (F := F)) 𝒱₀ (c : Thread nD τ) none) Set.univ
          (k0_part10_skel (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 c v3 v4) Q := by
  unfold k0_part10_skel
  simp only [Prog.lift, Prog.bind_op, Prog.bind_ret, Prog.pure_eq_ret]
  iintro ⟨#HR, ⟨HA1, HB1, Hra, Hrb, HO⟩, Hk⟩
  iapply (run_recv dyV wV K c A1 7 (by decide) (by decide) 20 (by decide) (semR_A1 (pslot_lt A1 c 7) (o9 c 7 (by decide) (by decide))) rfl) $$ [HA1 HO]
  · isplitr; · iexact HR
    isplitl [HA1]; · iexact HA1
    iexact HO
  iintro ⟨HA1, HO⟩
  iapply (ld_whole c cc0_scratch3.idx cc0_scratch3.names z2 fullShare (accA dyV wV c 6)) $$ Hra
  iintro Hra
  iapply (ld_gotA dyV wV c 7 (by decide) (o11 c 7 (by decide) (by decide))) $$ HA1
  iintro HA1
  iapply (ld_whole c cc0_scratch3.idx cc0_scratch3.names z2 fullShare (accA dyV wV c 6)) $$ Hra
  iintro Hra
  iapply (st_whole c cc0_scratch3.idx cc0_scratch3.names z2 (accA dyV wV c 6) (accA dyV wV c 7)) $$ Hra
  iintro Hra
  iapply (run_recv dyV wV K c B1 1 (by decide) (by decide) 20 (by decide) (semR_B1 (pslot_lt B1 c 1) (o12 c 1 (by decide) (by decide))) rfl) $$ [HB1 HO]
  · isplitr; · iexact HR
    isplitl [HB1]; · iexact HB1
    iexact HO
  iintro ⟨HB1, HO⟩
  iapply (ld_whole c cc0_scratch4.idx cc0_scratch4.names z2 fullShare (accB dyV wV c 0)) $$ Hrb
  iintro Hrb
  iapply (ld_gotB dyV wV c 1 (by decide) (o14 c 1 (by decide) (by decide))) $$ HB1
  iintro HB1
  iapply (ld_whole c cc0_scratch4.idx cc0_scratch4.names z2 fullShare (accB dyV wV c 0)) $$ Hrb
  iintro Hrb
  iapply (st_whole c cc0_scratch4.idx cc0_scratch4.names z2 (accB dyV wV c 0) (accB dyV wV c 1)) $$ Hrb
  iintro Hrb
  rw [wp_ret]; imodintro
  iapply Hk
  isplitl [HA1]; · iexact HA1
  isplitl [HB1]; · iexact HB1
  isplitl [Hra]; · iexact Hra
  isplitl [Hrb]; · iexact Hrb
  iexact HO

theorem part11 {Q : PUnit → sProp 𝕄} (c : Dev nD) (v3 : BitVec 32) :
    iprop(env dyV wV K ∗ (rcv dyV wV B1 c 2 ∗ (((c : Thread nD τ).loc cc0_scratch4) ↦{fullShare} accB dyV wV c 1) ∗ ow c 20) ∗ ((rcv dyV wV B1 c 4 ∗ (((c : Thread nD τ).loc cc0_scratch4) ↦{fullShare} accB dyV wV c 3) ∗ ow c 20) -∗ Q ⟨⟩))
      ⊢ wp frame (wpE (defs₀ (F := F)) 𝒱₀ (c : Thread nD τ) none) Set.univ
          (k0_part11_skel (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 c v3) Q := by
  unfold k0_part11_skel
  simp only [Prog.lift, Prog.bind_op, Prog.bind_ret, Prog.pure_eq_ret]
  iintro ⟨#HR, ⟨HB1, Hrb, HO⟩, Hk⟩
  iapply (run_recv dyV wV K c B1 2 (by decide) (by decide) 20 (by decide) (semR_B1 (pslot_lt B1 c 2) (o12 c 2 (by decide) (by decide))) rfl) $$ [HB1 HO]
  · isplitr; · iexact HR
    isplitl [HB1]; · iexact HB1
    iexact HO
  iintro ⟨HB1, HO⟩
  iapply (ld_whole c cc0_scratch4.idx cc0_scratch4.names z2 fullShare (accB dyV wV c 1)) $$ Hrb
  iintro Hrb
  iapply (ld_gotB dyV wV c 2 (by decide) (o14 c 2 (by decide) (by decide))) $$ HB1
  iintro HB1
  iapply (ld_whole c cc0_scratch4.idx cc0_scratch4.names z2 fullShare (accB dyV wV c 1)) $$ Hrb
  iintro Hrb
  iapply (st_whole c cc0_scratch4.idx cc0_scratch4.names z2 (accB dyV wV c 1) (accB dyV wV c 2)) $$ Hrb
  iintro Hrb
  iapply (run_recv dyV wV K c B1 3 (by decide) (by decide) 20 (by decide) (semR_B1 (pslot_lt B1 c 3) (o12 c 3 (by decide) (by decide))) rfl) $$ [HB1 HO]
  · isplitr; · iexact HR
    isplitl [HB1]; · iexact HB1
    iexact HO
  iintro ⟨HB1, HO⟩
  iapply (ld_whole c cc0_scratch4.idx cc0_scratch4.names z2 fullShare (accB dyV wV c 2)) $$ Hrb
  iintro Hrb
  iapply (ld_gotB dyV wV c 3 (by decide) (o14 c 3 (by decide) (by decide))) $$ HB1
  iintro HB1
  iapply (ld_whole c cc0_scratch4.idx cc0_scratch4.names z2 fullShare (accB dyV wV c 2)) $$ Hrb
  iintro Hrb
  iapply (st_whole c cc0_scratch4.idx cc0_scratch4.names z2 (accB dyV wV c 2) (accB dyV wV c 3)) $$ Hrb
  iintro Hrb
  rw [wp_ret]; imodintro
  iapply Hk
  isplitl [HB1]; · iexact HB1
  isplitl [Hrb]; · iexact Hrb
  iexact HO

end

end Cert.AllReduce

end
-- ==== Proof.Pieces.lean ====
/-
The pieces a buffer is cut into and put together from: the device's own slot, the slots of the others, shares.
-/
module

public import proofs.«01_k».proof.Proof.Mem

@[expose] public section

noncomputable section

namespace Cert.AllReduce

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Fam

variable {F : FTy → Type} [FloatOps F]

local notation "𝕄" => MT nD τ sig Unit (Elt F) ℕ UU ℕ

/-! ## Cutting a buffer -/

/-- A whole buffer: one slot, and the others in the order of their offset from it. -/
theorem rot {ℓ : Loc nD τ sig} (φ : Idx ℓ → ℕ) {n m : ℕ} (hm : m < n) (h : ∀ i, φ i < n) (q : PosShare TreeShare) (f : Buf (Elt F) ℓ) :
    (ℓ ↦{q} f : sProp 𝕄) = iprop((ℓ ↦[fib φ m]{q} f) ∗ bigSep (Finset.Ico 1 n) fun o => ℓ ↦[fib φ ((m + o) % n)]{q} f) :=
  (pts_fibs φ n h q f).trans (bigSep_rotate hm _)

omit [FloatOps F] in
theorem bigSep_range_add (a b : ℕ) (Φ : ℕ → sProp 𝕄) :
    bigSep (Finset.range (a + b)) Φ = iprop(bigSep (Finset.range a) Φ ∗ bigSep (Finset.range b) fun k => Φ (a + k)) := by
  rw [show Finset.range (a + b) = Finset.range a ∪ Finset.Ico a (a + b) from by ext x; simp only [Finset.mem_union, Finset.mem_range, Finset.mem_Ico]; omega,
    bigSep_union (Finset.disjoint_left.mpr fun x h1 h2 => by simp only [Finset.mem_range, Finset.mem_Ico] at h1 h2; omega),
    bigSep_mapped (s := Finset.range b) (f := fun k => a + k) (t := Finset.Ico a (a + b)) (fun x _ y _ e => by have e : a + x = a + y := e; omega)
      (by ext x; simp only [Finset.mem_image, Finset.mem_range, Finset.mem_Ico]; exact ⟨fun ⟨k, hk, e⟩ => by omega, fun hx => ⟨x - a, by omega, by omega⟩⟩)]
  rfl

/-- The same for a buffer numbered in two runs, of eight slots and of four. -/
theorem rot12 {ℓ : Loc nD τ sig} (φ : Idx ℓ → ℕ) {a b : ℕ} (ha : a < 8) (hb : b < 4) (h : ∀ i, φ i < 12) (q : PosShare TreeShare) (f : Buf (Elt F) ℓ) :
    (ℓ ↦{q} f : sProp 𝕄) = iprop(((ℓ ↦[fib φ a]{q} f) ∗ bigSep (Finset.Ico 1 8) fun o => ℓ ↦[fib φ ((a + o) % 8)]{q} f)
      ∗ (ℓ ↦[fib φ (8 + b)]{q} f) ∗ bigSep (Finset.Ico 1 4) fun o => ℓ ↦[fib φ (8 + (b + o) % 4)]{q} f) := by
  rw [pts_fibs φ 12 h q f, show (12 : ℕ) = 8 + 4 from rfl, bigSep_range_add, bigSep_rotate ha, bigSep_rotate hb]

theorem rot_ex {ℓ : Loc nD τ sig} (φ : Idx ℓ → ℕ) {n m : ℕ} (hm : m < n) (h : ∀ i, φ i < n) :
    iprop(∃ f : Buf (Elt F) ℓ, (ℓ ↦{fullShare} f : sProp 𝕄))
      ⊢ iprop((∃ f : Buf (Elt F) ℓ, ℓ ↦[fib φ m]{fullShare} f) ∗ bigSep (Finset.Ico 1 n) fun o => iprop(∃ f : Buf (Elt F) ℓ, ℓ ↦[fib φ ((m + o) % n)]{fullShare} f)) := by
  iintro ⟨%f, H⟩
  ihave H := (Entails.of_eq (rot φ hm h fullShare f)) $$ H
  icases H with ⟨H1, H2⟩
  isplitl [H1]; · iexists f; iexact H1
  iapply (show (bigSep (Finset.Ico 1 n) fun o => (ℓ ↦[fib φ ((m + o) % n)]{fullShare} f : sProp 𝕄))
      ⊢ bigSep (Finset.Ico 1 n) fun o => iprop(∃ f : Buf (Elt F) ℓ, ℓ ↦[fib φ ((m + o) % n)]{fullShare} f) from
    bigSep_mono fun o _ => show iprop(ℓ ↦[fib φ ((m + o) % n)]{fullShare} f) ⊢ iprop(∃ f : Buf (Elt F) ℓ, ℓ ↦[fib φ ((m + o) % n)]{fullShare} f) from by iintro H; iexists f; iexact H)
  iexact H2

theorem rot12_ex {ℓ : Loc nD τ sig} (φ : Idx ℓ → ℕ) {a b : ℕ} (ha : a < 8) (hb : b < 4) (h : ∀ i, φ i < 12) :
    iprop(∃ f : Buf (Elt F) ℓ, (ℓ ↦{fullShare} f : sProp 𝕄))
      ⊢ iprop((∃ f : Buf (Elt F) ℓ, ℓ ↦[fib φ a]{fullShare} f) ∗ (bigSep (Finset.Ico 1 8) fun o => iprop(∃ f : Buf (Elt F) ℓ, ℓ ↦[fib φ ((a + o) % 8)]{fullShare} f))
        ∗ (∃ f : Buf (Elt F) ℓ, ℓ ↦[fib φ (8 + b)]{fullShare} f) ∗ bigSep (Finset.Ico 1 4) fun o => iprop(∃ f : Buf (Elt F) ℓ, ℓ ↦[fib φ (8 + (b + o) % 4)]{fullShare} f)) := by
  iintro ⟨%f, H⟩
  ihave H := (Entails.of_eq (rot12 φ ha hb h fullShare f)) $$ H
  icases H with ⟨⟨H1, H2⟩, H3, H4⟩
  isplitl [H1]; · iexists f; iexact H1
  isplitl [H2]
  · iapply (show (bigSep (Finset.Ico 1 8) fun o => (ℓ ↦[fib φ ((a + o) % 8)]{fullShare} f : sProp 𝕄))
        ⊢ bigSep (Finset.Ico 1 8) fun o => iprop(∃ f : Buf (Elt F) ℓ, ℓ ↦[fib φ ((a + o) % 8)]{fullShare} f) from
      bigSep_mono fun o _ => show iprop(ℓ ↦[fib φ ((a + o) % 8)]{fullShare} f) ⊢ iprop(∃ f : Buf (Elt F) ℓ, ℓ ↦[fib φ ((a + o) % 8)]{fullShare} f) from by iintro H; iexists f; iexact H)
    iexact H2
  isplitl [H3]; · iexists f; iexact H3
  iapply (show (bigSep (Finset.Ico 1 4) fun o => (ℓ ↦[fib φ (8 + (b + o) % 4)]{fullShare} f : sProp 𝕄))
      ⊢ bigSep (Finset.Ico 1 4) fun o => iprop(∃ f : Buf (Elt F) ℓ, ℓ ↦[fib φ (8 + (b + o) % 4)]{fullShare} f) from
    bigSep_mono fun o _ => show iprop(ℓ ↦[fib φ (8 + (b + o) % 4)]{fullShare} f) ⊢ iprop(∃ f : Buf (Elt F) ℓ, ℓ ↦[fib φ (8 + (b + o) % 4)]{fullShare} f) from by iintro H; iexists f; iexact H)
  iexact H4

/-- One slot with any contents and the others with known ones: the whole buffer, with some contents. -/
theorem rot_join {ℓ : Loc nD τ sig} (φ : Idx ℓ → ℕ) {n m : ℕ} (hm : m < n) (h : ∀ i, φ i < n) (V : Buf (Elt F) ℓ) :
    iprop((∃ f : Buf (Elt F) ℓ, (ℓ ↦[fib φ m]{fullShare} f : sProp 𝕄)) ∗ bigSep (Finset.Ico 1 n) fun o => ℓ ↦[fib φ ((m + o) % n)]{fullShare} V)
      ⊢ iprop(∃ g : Buf (Elt F) ℓ, ℓ ↦{fullShare} g) := by
  iintro ⟨⟨%f, H1⟩, H2⟩
  iexists (fun i => if φ i = m then f i else V i)
  rw [rot φ hm h]
  isplitl [H1]
  · rw [pointsTo_congr (g := f) fun i hi => if_pos (mem_fib.mp hi)]; iexact H1
  · rw [bigSep_congr (s := Finset.Ico 1 n) (Ψ := fun o => (ℓ ↦[fib φ ((m + o) % n)]{fullShare} V : sProp 𝕄)) fun o ho => pointsTo_congr fun i hi => if_neg fun e => by
      have h1 := mem_fib.mp hi
      have h2 := Finset.mem_Ico.mp ho
      have h3 : (m + o) % n = m := h1.symm.trans e
      rcases Nat.lt_or_ge (m + o) n with hl | hl
      · rw [Nat.mod_eq_of_lt hl] at h3; omega
      · rw [Nat.mod_eq_sub_mod hl, Nat.mod_eq_of_lt (by omega)] at h3; omega]
    iexact H2

omit [FloatOps F] in
theorem sepA (P Q R : sProp 𝕄) : iprop(P ∗ Q ∗ R) = iprop((P ∗ Q) ∗ R) := (BI.equiv_iff.mp ⟨BI.sep_assoc, BI.sep_assoc'⟩).symm

/-- A held set at the two halves of the full share. -/
theorem halve {ℓ : Loc nD τ sig} (I : Finset (Idx ℓ)) (f : Buf (Elt F) ℓ) :
    (ℓ ↦[I]{fullShare} f : sProp 𝕄) = iprop((ℓ ↦[I]{fullShare.left} f) ∗ (ℓ ↦[I]{fullShare.right} f)) := by
  have h := pointsTo_share (Ix := Unit) (Name := ℕ) (U := UU) (Lvl := ℕ) (ℓ := ℓ) (I := I) (f := f) (PosShare.mem_left_op_right fullShare)
  exact BI.equiv_iff.mp ⟨h.1, h.2⟩

/-- A source that is kept and lent at once: the half that stays, the share no copy takes, the copies' shares. -/
theorem lend {ℓ : Loc nD τ sig} (I : Finset (Idx ℓ)) (f : Buf (Elt F) ℓ) (n : ℕ) :
    (ℓ ↦[I]{fullShare} f : sProp 𝕄) = iprop((ℓ ↦[I]{fullShare.left} f) ∗ (ℓ ↦[I]{lf n 0} f) ∗ bigSep (Finset.Ico 1 (2 ^ n)) fun o => ℓ ↦[I]{lf n o} f) := by
  rw [halve I f, pts_lf I f n, Finset.range_eq_Ico, bigSep_Ico_head (Nat.two_pow_pos n)]

omit [FloatOps F] in
theorem half_lt (i : S512x512.Idx) : half i < 12 := by
  have : (i 0).val < 512 := (i 0).isLt
  unfold half; split <;> omega
omit [FloatOps F] in
theorem lead_lt {n a b : ℕ} (i : (⟨3, ![n, a, b]⟩ : Shape).Idx) : lead i < n := (i 0).isLt
omit [FloatOps F] in
theorem blk8_lt4 (i : S32x512.Idx) : blk8 i < 4 := by
  have : (i 0).val < 32 := (i 0).isLt
  unfold blk8; omega
omit [FloatOps F] in
theorem blk8_lt8 (i : S64x512.Idx) : blk8 i < 8 := by
  have : (i 0).val < 64 := (i 0).isLt
  unfold blk8; omega

/-! ## The landing places -/

/-- The landing places a device offers in a family's buffer. -/
def lands (X : Fam) (c : Dev nD) : sProp 𝕄 := bigSep (Finset.Ico 1 (sz X)) fun o => dstPts X c (pslot X c o)
/-- The landing places its copies go to. -/
def dsts (X : Fam) (c : Dev nD) : sProp 𝕄 := bigSep (Finset.Ico 1 (sz X)) fun o => dstPts X (peer X c o) (me X c)

theorem cut_A1 (c : Dev nD) : iprop(∃ f, ((c : Thread nD τ).loc cc0_scratch1) ↦{fullShare} f : sProp 𝕄) ⊢ iprop((∃ f, ((c : Thread nD τ).loc cc0_scratch1) ↦[fib lead (me A1 c)]{fullShare} f) ∗ lands A1 c) :=
  rot_ex (ℓ := (c : Thread nD τ).loc cc0_scratch1) lead (me_lt A1 c) lead_lt
theorem cut_B1 (c : Dev nD) : iprop(∃ f, ((c : Thread nD τ).loc cc0_scratch2) ↦{fullShare} f : sProp 𝕄) ⊢ iprop((∃ f, ((c : Thread nD τ).loc cc0_scratch2) ↦[fib lead (me B1 c)]{fullShare} f) ∗ lands B1 c) :=
  rot_ex (ℓ := (c : Thread nD τ).loc cc0_scratch2) lead (me_lt B1 c) lead_lt
theorem cut_A2 (c : Dev nD) : iprop(∃ f, ((c : Thread nD τ).loc cc0_scratch5) ↦{fullShare} f : sProp 𝕄) ⊢ iprop((∃ f, ((c : Thread nD τ).loc cc0_scratch5) ↦[fib lead (me A2 c)]{fullShare} f) ∗ lands A2 c) :=
  rot_ex (ℓ := (c : Thread nD τ).loc cc0_scratch5) lead (me_lt A2 c) lead_lt
theorem cut_B2 (c : Dev nD) : iprop(∃ f, ((c : Thread nD τ).loc cc0_scratch6) ↦{fullShare} f : sProp 𝕄) ⊢ iprop((∃ f, ((c : Thread nD τ).loc cc0_scratch6) ↦[fib lead (me B2 c)]{fullShare} f) ∗ lands B2 c) :=
  rot_ex (ℓ := (c : Thread nD τ).loc cc0_scratch6) lead (me_lt B2 c) lead_lt
theorem cut_A3 (c : Dev nD) : iprop(∃ f, ((c : Thread nD τ).loc cc0_scratch7) ↦{fullShare} f : sProp 𝕄) ⊢ iprop((∃ f, ((c : Thread nD τ).loc cc0_scratch7) ↦[fib lead (me A3 c)]{fullShare} f) ∗ lands A3 c) :=
  rot_ex (ℓ := (c : Thread nD τ).loc cc0_scratch7) lead (me_lt A3 c) lead_lt
theorem cut_B3 (c : Dev nD) : iprop(∃ f, ((c : Thread nD τ).loc cc0_scratch8) ↦{fullShare} f : sProp 𝕄) ⊢ iprop((∃ f, ((c : Thread nD τ).loc cc0_scratch8) ↦[fib lead (me B3 c)]{fullShare} f) ∗ lands B3 c) :=
  rot_ex (ℓ := (c : Thread nD τ).loc cc0_scratch8) lead (me_lt B3 c) lead_lt
theorem cut_out (c : Dev nD) : iprop(∃ f, ((c : Thread nD τ).loc cc0_stg2_0) ↦{fullShare} f : sProp 𝕄)
    ⊢ iprop((∃ f, ((c : Thread nD τ).loc cc0_stg2_0) ↦[fib half (me A4 c)]{fullShare} f) ∗ lands A4 c ∗ (∃ f, ((c : Thread nD τ).loc cc0_stg2_0) ↦[fib half (8 + me B4 c)]{fullShare} f) ∗ lands B4 c) :=
  rot12_ex (ℓ := (c : Thread nD τ).loc cc0_stg2_0) half (me_lt A4 c) (me_lt B4 c) half_lt

theorem mk_rowSig (c : Dev nD) :
    iprop((bigSep (Finset.Ico 1 8) fun o => dutyTok ER (barCell (peer A1 c o)) 0 (7 - o)) ∗ lands A1 c ∗ lands B2 c ∗ lands B3 c ∗ lands A4 c : sProp 𝕄) ⊢ rowSig c 1 := by
  unfold rowSig rowPay lands
  simp only [bigSep_sep']
  exact Entails.refl _
theorem mk_colSig (c : Dev nD) :
    iprop((bigSep (Finset.Ico 1 4) fun o => dutyTok ER (barCell (peer B1 c o)) 0 (10 - o)) ∗ lands B1 c ∗ lands A2 c ∗ lands A3 c ∗ lands B4 c : sProp 𝕄) ⊢ colSig c 1 := by
  unfold colSig colPay lands
  simp only [bigSep_sep']
  exact Entails.refl _
theorem of_rowPay (c : Dev nD) :
    (bigSep (Finset.Ico 1 8) fun o => (rowPay (peer A1 c o) (me A1 c) : sProp 𝕄)) ⊢ iprop(dsts A1 c ∗ dsts B2 c ∗ dsts B3 c ∗ dsts A4 c) := by
  unfold rowPay dsts
  simp only [bigSep_sep']
  exact Entails.refl _
theorem of_colPay (c : Dev nD) :
    (bigSep (Finset.Ico 1 4) fun o => (colPay (peer B1 c o) (me B1 c) : sProp 𝕄)) ⊢ iprop(dsts B1 c ∗ dsts A2 c ∗ dsts A3 c ∗ dsts B4 c) := by
  unfold colPay dsts
  simp only [bigSep_sep']
  exact Entails.refl _

section
variable (dyV wV : Dev nD → Vec F S512x2048 .f32)

/-! ## The sources -/

/-- The sources of a family's copies. -/
def srcs (X : Fam) (c : Dev nD) : sProp 𝕄 := backPts dyV wV X c (sz X)

/-- The tokens of a family's copies. -/
def toks (X : Fam) (c : Dev nD) : sProp 𝕄 := bigSep (Finset.Ico 1 (sz X)) fun o => iprop(dutyTok ER (sCell X c o) 0 0 ∗ dutyTok ER (outCell X c o) 0 0)

/-- A family is ready to send. -/
theorem mk_snd (X : Fam) (c : Dev nD) : iprop(toks X c ∗ srcs dyV wV X c ∗ dsts X c) ⊢ snd dyV wV X c 1 := by
  unfold toks srcs backPts dsts snd toSend sent
  rw [bigSep_Ico_self]
  simp only [bigSep_sep']
  iintro ⟨⟨H1, H2⟩, H3, H4⟩
  isplitl; swap; · iempintro
  isplitl [H1]; · iexact H1
  isplitl [H2]; · iexact H2
  isplitl [H3]; · iexact H3
  iexact H4
/-- All is sent. -/
theorem of_snd (X : Fam) (c : Dev nD) : snd dyV wV X c (sz X) ⊢ doneCr X c 1 := by
  unfold snd
  rw [sent_all]
  iintro ⟨-, H⟩
  iexact H
theorem mk_rcv (X : Fam) (c : Dev nD) : toRecv X c 1 ⊢ rcv dyV wV X c 1 := by
  unfold rcv gotPts gotSem
  rw [bigSep_Ico_self, bigSep_Ico_self]
  iintro H
  isplitl [H]; · iexact H
  isplitl <;> iempintro
theorem of_rcv (X : Fam) (c : Dev nD) : rcv dyV wV X c (sz X) ⊢ iprop(gotPts dyV wV X c (sz X) ∗ gotSem X c (sz X)) := by
  unfold rcv
  iintro ⟨-, H⟩
  iexact H
theorem mk_dn (X : Fam) (c : Dev nD) : iprop(toDone X c 1 ∗ doneCr X c 1) ⊢ dn dyV wV X c 1 := by
  unfold dn backPts backSem
  rw [bigSep_Ico_self, bigSep_Ico_self]
  iintro ⟨H1, H2⟩
  isplitl [H1]; · iexact H1
  isplitl [H2]; · iexact H2
  isplitl <;> iempintro
theorem of_dn (X : Fam) (c : Dev nD) : dn dyV wV X c (sz X) ⊢ iprop(srcs dyV wV X c ∗ backSem X c (sz X)) := by
  unfold dn srcs
  iintro ⟨-, -, H⟩
  iexact H

theorem src_1 (c : Dev nD) : (((c : Thread nD τ).loc cc0_scratch0) ↦{fullShare} pV dyV wV c : sProp 𝕄)
    = iprop(((((c : Thread nD τ).loc cc0_scratch0) ↦[fib half (me A1 c)]{fullShare} pV dyV wV c) ∗ srcs dyV wV A1 c)
      ∗ (((c : Thread nD τ).loc cc0_scratch0) ↦[fib half (8 + me B1 c)]{fullShare} pV dyV wV c) ∗ srcs dyV wV B1 c) :=
  rot12 (ℓ := (c : Thread nD τ).loc cc0_scratch0) half (me_lt A1 c) (me_lt B1 c) half_lt fullShare (pV dyV wV c)
theorem src_A2 (c : Dev nD) : (((c : Thread nD τ).loc cc0_scratch3) ↦{fullShare} redAV dyV wV c : sProp 𝕄)
    = iprop((((c : Thread nD τ).loc cc0_scratch3) ↦[fib blk8 (me A2 c)]{fullShare} redAV dyV wV c) ∗ srcs dyV wV A2 c) :=
  rot (ℓ := (c : Thread nD τ).loc cc0_scratch3) blk8 (me_lt A2 c) blk8_lt4 fullShare (redAV dyV wV c)
theorem src_B2 (c : Dev nD) : (((c : Thread nD τ).loc cc0_scratch4) ↦{fullShare} redBV dyV wV c : sProp 𝕄)
    = iprop((((c : Thread nD τ).loc cc0_scratch4) ↦[fib blk8 (me B2 c)]{fullShare} redBV dyV wV c) ∗ srcs dyV wV B2 c) :=
  rot (ℓ := (c : Thread nD τ).loc cc0_scratch4) blk8 (me_lt B2 c) blk8_lt8 fullShare (redBV dyV wV c)
/-- What is kept of the own slot while the copies of it run. -/
def keep_A3 (c : Dev nD) : sProp 𝕄 := iprop((((c : Thread nD τ).loc cc0_scratch7) ↦[fib lead (me A3 c)]{fullShare.left} agA2V dyV wV c) ∗ (((c : Thread nD τ).loc cc0_scratch7) ↦[fib lead (me A3 c)]{lf 2 0} agA2V dyV wV c))
theorem src_A3 (c : Dev nD) : ((((c : Thread nD τ).loc cc0_scratch7) ↦[fib lead (me A3 c)]{fullShare} agA2V dyV wV c) : sProp 𝕄) = iprop(keep_A3 dyV wV c ∗ srcs dyV wV A3 c) := by
  rw [lend _ _ 2, sepA]
  rfl
/-- What is kept of the own slot while the copies of it run. -/
def keep_B3 (c : Dev nD) : sProp 𝕄 := iprop((((c : Thread nD τ).loc cc0_scratch8) ↦[fib lead (me B3 c)]{fullShare.left} agB2V dyV wV c) ∗ (((c : Thread nD τ).loc cc0_scratch8) ↦[fib lead (me B3 c)]{lf 3 0} agB2V dyV wV c))
theorem src_B3 (c : Dev nD) : ((((c : Thread nD τ).loc cc0_scratch8) ↦[fib lead (me B3 c)]{fullShare} agB2V dyV wV c) : sProp 𝕄) = iprop(keep_B3 dyV wV c ∗ srcs dyV wV B3 c) := by
  rw [lend _ _ 3, sepA]
  rfl
/-- What is kept of the own slot while the copies of it run. -/
def keep_A4 (c : Dev nD) : sProp 𝕄 := iprop((((c : Thread nD τ).loc cc0_stg2_0) ↦[fib half (me A4 c)]{fullShare.left} outV dyV wV) ∗ (((c : Thread nD τ).loc cc0_stg2_0) ↦[fib half (me A4 c)]{lf 3 0} outV dyV wV))
theorem src_A4 (c : Dev nD) : ((((c : Thread nD τ).loc cc0_stg2_0) ↦[fib half (me A4 c)]{fullShare} outV dyV wV) : sProp 𝕄) = iprop(keep_A4 dyV wV c ∗ srcs dyV wV A4 c) := by
  rw [lend _ _ 3, sepA]
  rfl
/-- What is kept of the own slot while the copies of it run. -/
def keep_B4 (c : Dev nD) : sProp 𝕄 := iprop((((c : Thread nD τ).loc cc0_stg2_0) ↦[fib half (8 + me B4 c)]{fullShare.left} outV dyV wV) ∗ (((c : Thread nD τ).loc cc0_stg2_0) ↦[fib half (8 + me B4 c)]{lf 2 0} outV dyV wV))
theorem src_B4 (c : Dev nD) : ((((c : Thread nD τ).loc cc0_stg2_0) ↦[fib half (8 + me B4 c)]{fullShare} outV dyV wV) : sProp 𝕄) = iprop(keep_B4 dyV wV c ∗ srcs dyV wV B4 c) := by
  rw [lend _ _ 2, sepA]
  rfl

/-! ## The buffers at the end -/

theorem fin_0 (c : Dev nD) :
    iprop(((((c : Thread nD τ).loc cc0_scratch0) ↦[fib half (me A1 c)]{fullShare} pV dyV wV c) ∗ srcs dyV wV A1 c)
      ∗ (((c : Thread nD τ).loc cc0_scratch0) ↦[fib half (8 + me B1 c)]{fullShare} pV dyV wV c) ∗ srcs dyV wV B1 c)
      ⊢ iprop(∃ f, ((c : Thread nD τ).loc cc0_scratch0) ↦{fullShare} f) := by
  rw [← src_1]; iintro H; iexists (pV dyV wV c); iexact H
theorem fin_1 (c : Dev nD) : iprop((∃ f, ((c : Thread nD τ).loc cc0_scratch1) ↦[fib lead (me A1 c)]{fullShare} f) ∗ gotPts dyV wV A1 c (sz A1)) ⊢ iprop(∃ f, ((c : Thread nD τ).loc cc0_scratch1) ↦{fullShare} f) :=
  rot_join (ℓ := (c : Thread nD τ).loc cc0_scratch1) lead (me_lt A1 c) lead_lt (rsA1V dyV wV c)
theorem fin_2 (c : Dev nD) : iprop((∃ f, ((c : Thread nD τ).loc cc0_scratch2) ↦[fib lead (me B1 c)]{fullShare} f) ∗ gotPts dyV wV B1 c (sz B1)) ⊢ iprop(∃ f, ((c : Thread nD τ).loc cc0_scratch2) ↦{fullShare} f) :=
  rot_join (ℓ := (c : Thread nD τ).loc cc0_scratch2) lead (me_lt B1 c) lead_lt (rsB1V dyV wV c)
theorem fin_3 (c : Dev nD) :
    iprop((((c : Thread nD τ).loc cc0_scratch3) ↦[fib blk8 (me A2 c)]{fullShare} redAV dyV wV c) ∗ srcs dyV wV A2 c)
      ⊢ iprop(∃ f, ((c : Thread nD τ).loc cc0_scratch3) ↦{fullShare} f) := by
  rw [← src_A2]; iintro H; iexists (redAV dyV wV c); iexact H
theorem fin_4 (c : Dev nD) :
    iprop((((c : Thread nD τ).loc cc0_scratch4) ↦[fib blk8 (me B2 c)]{fullShare} redBV dyV wV c) ∗ srcs dyV wV B2 c)
      ⊢ iprop(∃ f, ((c : Thread nD τ).loc cc0_scratch4) ↦{fullShare} f) := by
  rw [← src_B2]; iintro H; iexists (redBV dyV wV c); iexact H
theorem all_A2 (c : Dev nD) :
    (((c : Thread nD τ).loc cc0_scratch5) ↦{fullShare} rsA2V dyV wV c : sProp 𝕄)
      = iprop((((c : Thread nD τ).loc cc0_scratch5) ↦[fib lead (me A2 c)]{fullShare} rsA2V dyV wV c) ∗ gotPts dyV wV A2 c (sz A2)) :=
  rot (ℓ := (c : Thread nD τ).loc cc0_scratch5) lead (me_lt A2 c) lead_lt fullShare (rsA2V dyV wV c)
theorem fin_5 (c : Dev nD) :
    iprop((((c : Thread nD τ).loc cc0_scratch5) ↦[fib lead (me A2 c)]{fullShare} rsA2V dyV wV c) ∗ gotPts dyV wV A2 c (sz A2))
      ⊢ iprop(∃ f, ((c : Thread nD τ).loc cc0_scratch5) ↦{fullShare} f) := by
  rw [← all_A2]; iintro H; iexists (rsA2V dyV wV c); iexact H
theorem all_B2 (c : Dev nD) :
    (((c : Thread nD τ).loc cc0_scratch6) ↦{fullShare} rsB2V dyV wV c : sProp 𝕄)
      = iprop((((c : Thread nD τ).loc cc0_scratch6) ↦[fib lead (me B2 c)]{fullShare} rsB2V dyV wV c) ∗ gotPts dyV wV B2 c (sz B2)) :=
  rot (ℓ := (c : Thread nD τ).loc cc0_scratch6) lead (me_lt B2 c) lead_lt fullShare (rsB2V dyV wV c)
theorem fin_6 (c : Dev nD) :
    iprop((((c : Thread nD τ).loc cc0_scratch6) ↦[fib lead (me B2 c)]{fullShare} rsB2V dyV wV c) ∗ gotPts dyV wV B2 c (sz B2))
      ⊢ iprop(∃ f, ((c : Thread nD τ).loc cc0_scratch6) ↦{fullShare} f) := by
  rw [← all_B2]; iintro H; iexists (rsB2V dyV wV c); iexact H
theorem all_A3 (c : Dev nD) (q : PosShare TreeShare) :
    (((c : Thread nD τ).loc cc0_scratch7) ↦{q} agA2V dyV wV c : sProp 𝕄)
      = iprop((((c : Thread nD τ).loc cc0_scratch7) ↦[fib lead (me A3 c)]{q} agA2V dyV wV c)
        ∗ bigSep (Finset.Ico 1 (sz A3)) fun o => ((c : Thread nD τ).loc cc0_scratch7) ↦[fib lead (pslot A3 c o)]{q} agA2V dyV wV c) :=
  rot (ℓ := (c : Thread nD τ).loc cc0_scratch7) lead (me_lt A3 c) lead_lt q (agA2V dyV wV c)
theorem fin_7 (c : Dev nD) :
    iprop((keep_A3 dyV wV c ∗ srcs dyV wV A3 c) ∗ gotPts dyV wV A3 c (sz A3))
      ⊢ iprop(∃ f, ((c : Thread nD τ).loc cc0_scratch7) ↦{fullShare} f) := by
  rw [← src_A3]
  iintro H; iexists (agA2V dyV wV c)
  rw [all_A3]
  iexact H
theorem all_B3 (c : Dev nD) (q : PosShare TreeShare) :
    (((c : Thread nD τ).loc cc0_scratch8) ↦{q} agB2V dyV wV c : sProp 𝕄)
      = iprop((((c : Thread nD τ).loc cc0_scratch8) ↦[fib lead (me B3 c)]{q} agB2V dyV wV c)
        ∗ bigSep (Finset.Ico 1 (sz B3)) fun o => ((c : Thread nD τ).loc cc0_scratch8) ↦[fib lead (pslot B3 c o)]{q} agB2V dyV wV c) :=
  rot (ℓ := (c : Thread nD τ).loc cc0_scratch8) lead (me_lt B3 c) lead_lt q (agB2V dyV wV c)
theorem fin_8 (c : Dev nD) :
    iprop((keep_B3 dyV wV c ∗ srcs dyV wV B3 c) ∗ gotPts dyV wV B3 c (sz B3))
      ⊢ iprop(∃ f, ((c : Thread nD τ).loc cc0_scratch8) ↦{fullShare} f) := by
  rw [← src_B3]
  iintro H; iexists (agB2V dyV wV c)
  rw [all_B3]
  iexact H
theorem fin_out (c : Dev nD) :
    iprop((keep_A4 dyV wV c ∗ srcs dyV wV A4 c) ∗ gotPts dyV wV A4 c (sz A4) ∗ (keep_B4 dyV wV c ∗ srcs dyV wV B4 c) ∗ gotPts dyV wV B4 c (sz B4))
      ⊢ (((c : Thread nD τ).loc cc0_stg2_0) ↦{fullShare} outV dyV wV) := by
  rw [← src_A4, ← src_B4, rot12 (ℓ := (c : Thread nD τ).loc cc0_stg2_0) half (me_lt A4 c) (me_lt B4 c) half_lt fullShare (outV dyV wV)]
  iintro ⟨H1, H2, H3, H4⟩
  isplitl [H1 H2]
  · isplitl [H1]; · iexact H1
    ihave H := (Entails.of_eq (show gotPts dyV wV A4 c (sz A4) = bigSep (Finset.Ico 1 8) fun o => (((c : Thread nD τ).loc cc0_stg2_0) ↦[fib half ((me A4 c + o) % 8)]{fullShare} outV dyV wV) from rfl)) $$ H2
    iexact H
  isplitl [H3]; · iexact H3
  ihave H := (Entails.of_eq (show gotPts dyV wV B4 c (sz B4) = bigSep (Finset.Ico 1 4) fun o => (((c : Thread nD τ).loc cc0_stg2_0) ↦[fib half (8 + (me B4 c + o) % 4)]{fullShare} outV dyV wV) from rfl)) $$ H4
  iexact H

/-! ## Loads of a whole buffer that is held slot by slot -/

theorem ld_rsA2 {α : Type} {Q : α → sProp 𝕄} (c : Dev nD) {m : ℕ} (hm : m = sz A2) {inb} {hl : (Memref.whole cc0_scratch5).view.LoadsAt (Rect.unit (s := S4x8x512) ![0, 0, 0] S4x8x512.size inb).toLoadRect}
    {k : Vec F S4x8x512 .f32 → Prog (TpuEff nD τ sig (Elt F) Λ₀ .tc) α} :
    iprop(rcv dyV wV A2 c m ∗ (((c : Thread nD τ).loc cc0_scratch5) ↦[fib lead (me A2 c)]{fullShare} rsA2V dyV wV c))
      ⊢ iprop(((rcv dyV wV A2 c m ∗ (((c : Thread nD τ).loc cc0_scratch5) ↦[fib lead (me A2 c)]{fullShare} rsA2V dyV wV c)) -∗ wp frame (wpE (defs₀ (F := F)) 𝒱₀ (c : Thread nD τ) none) Set.univ (k (rsA2V dyV wV c)) Q)
        -∗ wp frame (wpE (defs₀ (F := F)) 𝒱₀ (c : Thread nD τ) none) Set.univ (.op (.load (Memref.whole cc0_scratch5) (Rect.unit (s := S4x8x512) ![0, 0, 0] S4x8x512.size inb).toLoadRect hl) k) Q) := by
  subst hm
  unfold rcv
  iintro ⟨⟨H1, H2, H3⟩, H4⟩ Hk
  ihave H := (Entails.of_eq (all_A2 dyV wV c).symm) $$ [H4 H2]
  · isplitl [H4]; · iexact H4
    iexact H2
  iapply (ld_whole c cc0_scratch5.idx cc0_scratch5.names z3 fullShare (rsA2V dyV wV c)) $$ H
  iintro H
  ihave H := (Entails.of_eq (all_A2 dyV wV c)) $$ H
  icases H with ⟨H4, H2⟩
  iapply Hk
  isplitl [H1 H2 H3]
  · isplitl [H1]; · iexact H1
    isplitl [H2]; · iexact H2
    iexact H3
  iexact H4

theorem ld_rsB2 {α : Type} {Q : α → sProp 𝕄} (c : Dev nD) {m : ℕ} (hm : m = sz B2) {inb} {hl : (Memref.whole cc0_scratch6).view.LoadsAt (Rect.unit (s := S8x8x512) ![0, 0, 0] S8x8x512.size inb).toLoadRect}
    {k : Vec F S8x8x512 .f32 → Prog (TpuEff nD τ sig (Elt F) Λ₀ .tc) α} :
    iprop(rcv dyV wV B2 c m ∗ (((c : Thread nD τ).loc cc0_scratch6) ↦[fib lead (me B2 c)]{fullShare} rsB2V dyV wV c))
      ⊢ iprop(((rcv dyV wV B2 c m ∗ (((c : Thread nD τ).loc cc0_scratch6) ↦[fib lead (me B2 c)]{fullShare} rsB2V dyV wV c)) -∗ wp frame (wpE (defs₀ (F := F)) 𝒱₀ (c : Thread nD τ) none) Set.univ (k (rsB2V dyV wV c)) Q)
        -∗ wp frame (wpE (defs₀ (F := F)) 𝒱₀ (c : Thread nD τ) none) Set.univ (.op (.load (Memref.whole cc0_scratch6) (Rect.unit (s := S8x8x512) ![0, 0, 0] S8x8x512.size inb).toLoadRect hl) k) Q) := by
  subst hm
  unfold rcv
  iintro ⟨⟨H1, H2, H3⟩, H4⟩ Hk
  ihave H := (Entails.of_eq (all_B2 dyV wV c).symm) $$ [H4 H2]
  · isplitl [H4]; · iexact H4
    iexact H2
  iapply (ld_whole c cc0_scratch6.idx cc0_scratch6.names z3 fullShare (rsB2V dyV wV c)) $$ H
  iintro H
  ihave H := (Entails.of_eq (all_B2 dyV wV c)) $$ H
  icases H with ⟨H4, H2⟩
  iapply Hk
  isplitl [H1 H2 H3]
  · isplitl [H1]; · iexact H1
    isplitl [H2]; · iexact H2
    iexact H3
  iexact H4

theorem got_A3 (c : Dev nD) : gotPts dyV wV A3 c (sz A3)
    = iprop((bigSep (Finset.Ico 1 (sz A3)) fun o => ((c : Thread nD τ).loc cc0_scratch7) ↦[fib lead (pslot A3 c o)]{fullShare.left} agA2V dyV wV c)
      ∗ bigSep (Finset.Ico 1 (sz A3)) fun o => ((c : Thread nD τ).loc cc0_scratch7) ↦[fib lead (pslot A3 c o)]{fullShare.right} agA2V dyV wV c) := by
  rw [← bigSep_sep']
  refine bigSep_congr fun o _ => ?_
  rw [show recvPts dyV wV A3 c (pslot A3 c o) = (((c : Thread nD τ).loc cc0_scratch7) ↦[fib lead (pslot A3 c o)]{fullShare} agA2V dyV wV c) from rfl]
  exact halve _ _
theorem ld_agA2 {α : Type} {Q : α → sProp 𝕄} (c : Dev nD) {m : ℕ} (hm : m = sz A3) {inb} {hl : (Memref.whole cc0_scratch7).view.LoadsAt (Rect.unit (s := S4x8x512) ![0, 0, 0] S4x8x512.size inb).toLoadRect}
    {k : Vec F S4x8x512 .f32 → Prog (TpuEff nD τ sig (Elt F) Λ₀ .tc) α} :
    iprop(rcv dyV wV A3 c m ∗ keep_A3 dyV wV c)
      ⊢ iprop(((rcv dyV wV A3 c m ∗ keep_A3 dyV wV c) -∗ wp frame (wpE (defs₀ (F := F)) 𝒱₀ (c : Thread nD τ) none) Set.univ (k (agA2V dyV wV c)) Q)
        -∗ wp frame (wpE (defs₀ (F := F)) 𝒱₀ (c : Thread nD τ) none) Set.univ (.op (.load (Memref.whole cc0_scratch7) (Rect.unit (s := S4x8x512) ![0, 0, 0] S4x8x512.size inb).toLoadRect hl) k) Q) := by
  subst hm
  unfold rcv keep_A3
  rw [got_A3]
  iintro ⟨⟨H1, ⟨H2, H2r⟩, H3⟩, ⟨H4, H5⟩⟩ Hk
  ihave H := (Entails.of_eq (all_A3 dyV wV c fullShare.left).symm) $$ [H4 H2]
  · isplitl [H4]; · iexact H4
    iexact H2
  iapply (ld_whole c cc0_scratch7.idx cc0_scratch7.names z3 fullShare.left (agA2V dyV wV c)) $$ H
  iintro H
  ihave H := (Entails.of_eq (all_A3 dyV wV c fullShare.left)) $$ H
  icases H with ⟨H4, H2⟩
  iapply Hk
  isplitl [H1 H2 H2r H3]
  · isplitl [H1]; · iexact H1
    isplitl [H2 H2r]
    · isplitl [H2]; · iexact H2
      iexact H2r
    iexact H3
  isplitl [H4]; · iexact H4
  iexact H5

theorem got_B3 (c : Dev nD) : gotPts dyV wV B3 c (sz B3)
    = iprop((bigSep (Finset.Ico 1 (sz B3)) fun o => ((c : Thread nD τ).loc cc0_scratch8) ↦[fib lead (pslot B3 c o)]{fullShare.left} agB2V dyV wV c)
      ∗ bigSep (Finset.Ico 1 (sz B3)) fun o => ((c : Thread nD τ).loc cc0_scratch8) ↦[fib lead (pslot B3 c o)]{fullShare.right} agB2V dyV wV c) := by
  rw [← bigSep_sep']
  refine bigSep_congr fun o _ => ?_
  rw [show recvPts dyV wV B3 c (pslot B3 c o) = (((c : Thread nD τ).loc cc0_scratch8) ↦[fib lead (pslot B3 c o)]{fullShare} agB2V dyV wV c) from rfl]
  exact halve _ _
theorem ld_agB2 {α : Type} {Q : α → sProp 𝕄} (c : Dev nD) {m : ℕ} (hm : m = sz B3) {inb} {hl : (Memref.whole cc0_scratch8).view.LoadsAt (Rect.unit (s := S8x8x512) ![0, 0, 0] S8x8x512.size inb).toLoadRect}
    {k : Vec F S8x8x512 .f32 → Prog (TpuEff nD τ sig (Elt F) Λ₀ .tc) α} :
    iprop(rcv dyV wV B3 c m ∗ keep_B3 dyV wV c)
      ⊢ iprop(((rcv dyV wV B3 c m ∗ keep_B3 dyV wV c) -∗ wp frame (wpE (defs₀ (F := F)) 𝒱₀ (c : Thread nD τ) none) Set.univ (k (agB2V dyV wV c)) Q)
        -∗ wp frame (wpE (defs₀ (F := F)) 𝒱₀ (c : Thread nD τ) none) Set.univ (.op (.load (Memref.whole cc0_scratch8) (Rect.unit (s := S8x8x512) ![0, 0, 0] S8x8x512.size inb).toLoadRect hl) k) Q) := by
  subst hm
  unfold rcv keep_B3
  rw [got_B3]
  iintro ⟨⟨H1, ⟨H2, H2r⟩, H3⟩, ⟨H4, H5⟩⟩ Hk
  ihave H := (Entails.of_eq (all_B3 dyV wV c fullShare.left).symm) $$ [H4 H2]
  · isplitl [H4]; · iexact H4
    iexact H2
  iapply (ld_whole c cc0_scratch8.idx cc0_scratch8.names z3 fullShare.left (agB2V dyV wV c)) $$ H
  iintro H
  ihave H := (Entails.of_eq (all_B3 dyV wV c fullShare.left)) $$ H
  icases H with ⟨H4, H2⟩
  iapply Hk
  isplitl [H1 H2 H2r H3]
  · isplitl [H1]; · iexact H1
    isplitl [H2 H2r]
    · isplitl [H2]; · iexact H2
      iexact H2r
    iexact H3
  isplitl [H4]; · iexact H4
  iexact H5

end

end Cert.AllReduce

end
-- ==== Proof.PartsI.lean ====
/-
The parts that compute: the second phase's own slots and sums, the result's own rows.
-/
module

public import proofs.«01_k».proof.Proof.Pieces

@[expose] public section

noncomputable section

namespace Cert.AllReduce

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Fam

variable {F : FTy → Type} [FloatOps F]

local notation "𝕄" => MT nD τ sig Unit (Elt F) ℕ UU ℕ

section
variable (dyV wV : Dev nD → Vec F S512x2048 .f32) (K : Dev nD × Option KX → ℕ)

theorem part15 {Q : PUnit → sProp 𝕄} (c : Dev nD) (v3 : BitVec 32) (v4 : BitVec 32) :
    iprop(env dyV wV K ∗ (snd dyV wV B2 c 6 ∗ (((c : Thread nD τ).loc cc0_scratch3) ↦[fib blk8 (me A2 c)]{fullShare} redAV dyV wV c) ∗ (((c : Thread nD τ).loc cc0_scratch4) ↦[fib blk8 (me B2 c)]{fullShare} redBV dyV wV c) ∗ (∃ f, ((c : Thread nD τ).loc cc0_scratch5) ↦[fib lead (me A2 c)]{fullShare} f) ∗ (∃ f, ((c : Thread nD τ).loc cc0_scratch6) ↦[fib lead (me B2 c)]{fullShare} f) ∗ ow c 28) ∗ ((snd dyV wV B2 c 8 ∗ (((c : Thread nD τ).loc cc0_scratch3) ↦[fib blk8 (me A2 c)]{fullShare} redAV dyV wV c) ∗ (((c : Thread nD τ).loc cc0_scratch4) ↦[fib blk8 (me B2 c)]{fullShare} redBV dyV wV c) ∗ (((c : Thread nD τ).loc cc0_scratch5) ↦[fib lead (me A2 c)]{fullShare} rsA2V dyV wV c) ∗ (((c : Thread nD τ).loc cc0_scratch6) ↦[fib lead (me B2 c)]{fullShare} rsB2V dyV wV c) ∗ ow c 30) -∗ Q ⟨⟩))
      ⊢ wp frame (wpE (defs₀ (F := F)) 𝒱₀ (c : Thread nD τ) none) Set.univ
          (k0_part15_skel (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 c v3 v4) Q := by
  unfold k0_part15_skel
  simp only [Prog.lift, Prog.bind_op, Prog.bind_ret, Prog.pure_eq_ret]
  iintro ⟨#HR, ⟨HB2, Hra, Hrb, Ha, Hb, HO⟩, Hk⟩
  iapply (send_B2 dyV wV K c 6 (by decide) (by decide) 28 (get_B2 c 6 (by decide) (by decide)) (d29 c) (o18 c 6 (by decide) (by decide)) (k0_off17_eq c) rfl (k0_off1_eq c)) $$ [HB2 HO]
  · isplitr; · iexact HR
    isplitl [HB2]; · iexact HB2
    iexact HO
  iintro ⟨HB2, HO⟩
  iapply (send_B2 dyV wV K c 7 (by decide) (by decide) 29 (get_B2 c 7 (by decide) (by decide)) (d30 c) (o18 c 7 (by decide) (by decide)) (k0_off17_eq c) rfl (k0_off1_eq c)) $$ [HB2 HO]
  · isplitr; · iexact HR
    isplitl [HB2]; · iexact HB2
    iexact HO
  iintro ⟨HB2, HO⟩
  iapply (ld_redA dyV wV c (k0_off19_eq c)) $$ Hra
  iintro Hra
  iapply (st_rsA2 dyV wV c (k0_off20_eq c)) $$ Ha
  iintro Ha
  iapply (ld_redB dyV wV c (k0_off21_eq c)) $$ Hrb
  iintro Hrb
  iapply (st_rsB2 dyV wV c (k0_off22_eq c)) $$ Hb
  iintro Hb
  rw [wp_ret]; imodintro
  iapply Hk
  isplitl [HB2]; · iexact HB2
  isplitl [Hra]; · iexact Hra
  isplitl [Hrb]; · iexact Hrb
  isplitl [Ha]; · iexact Ha
  isplitl [Hb]; · iexact Hb
  iexact HO

theorem part18 {Q : BitVec 32 → sProp 𝕄} (c : Dev nD) (v3 : BitVec 32) (v4 : BitVec 32) :
    iprop(env dyV wV K ∗ (rcv dyV wV A2 c 4 ∗ rcv dyV wV B2 c 6 ∗ (((c : Thread nD τ).loc cc0_scratch5) ↦[fib lead (me A2 c)]{fullShare} rsA2V dyV wV c) ∗ (((c : Thread nD τ).loc cc0_scratch6) ↦[fib lead (me B2 c)]{fullShare} rsB2V dyV wV c) ∗ (∃ f, ((c : Thread nD τ).loc cc0_scratch7) ↦[fib lead (me A3 c)]{fullShare} f) ∗ (∃ f, ((c : Thread nD τ).loc cc0_scratch8) ↦[fib lead (me B3 c)]{fullShare} f) ∗ ow c 30) ∗ (∀ r, (rcv dyV wV A2 c 4 ∗ rcv dyV wV B2 c 8 ∗ (((c : Thread nD τ).loc cc0_scratch5) ↦[fib lead (me A2 c)]{fullShare} rsA2V dyV wV c) ∗ (((c : Thread nD τ).loc cc0_scratch6) ↦[fib lead (me B2 c)]{fullShare} rsB2V dyV wV c) ∗ (((c : Thread nD τ).loc cc0_scratch7) ↦[fib lead (me A3 c)]{fullShare} agA2V dyV wV c) ∗ (((c : Thread nD τ).loc cc0_scratch8) ↦[fib lead (me B3 c)]{fullShare} agB2V dyV wV c) ∗ ow c 30) -∗ Q r))
      ⊢ wp frame (wpE (defs₀ (F := F)) 𝒱₀ (c : Thread nD τ) none) Set.univ
          (k0_part18_skel (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 c v3 v4) Q := by
  unfold k0_part18_skel
  simp only [Prog.lift, Prog.bind_op, Prog.bind_ret, Prog.pure_eq_ret]
  iintro ⟨#HR, ⟨HA2, HB2, Ra, Rb, Ha, Hb, HO⟩, Hk⟩
  iapply (run_recv dyV wV K c B2 6 (by decide) (by decide) 30 (by decide) (semR_B2 (pslot_lt B2 c 6) (o9 c 6 (by decide) (by decide))) rfl) $$ [HB2 HO]
  · isplitr; · iexact HR
    isplitl [HB2]; · iexact HB2
    iexact HO
  iintro ⟨HB2, HO⟩
  iapply (run_recv dyV wV K c B2 7 (by decide) (by decide) 30 (by decide) (semR_B2 (pslot_lt B2 c 7) (o9 c 7 (by decide) (by decide))) rfl) $$ [HB2 HO]
  · isplitr; · iexact HR
    isplitl [HB2]; · iexact HB2
    iexact HO
  iintro ⟨HB2, HO⟩
  iapply (ld_rsA2 dyV wV c (m := 4) rfl) $$ [HA2 Ra]
  · isplitl [HA2]; · iexact HA2
    iexact Ra
  iintro ⟨HA2, Ra⟩
  iapply (st_agA2 dyV wV c (k0_off20_eq c)) $$ Ha
  iintro Ha
  iapply (ld_rsB2 dyV wV c (m := 8) rfl) $$ [HB2 Rb]
  · isplitl [HB2]; · iexact HB2
    iexact Rb
  iintro ⟨HB2, Rb⟩
  iapply (st_agB2 dyV wV c (k0_off22_eq c)) $$ Hb
  iintro Hb
  rw [wp_ret]; imodintro
  iapply Hk
  isplitl [HA2]; · iexact HA2
  isplitl [HB2]; · iexact HB2
  isplitl [Ra]; · iexact Ra
  isplitl [Rb]; · iexact Rb
  isplitl [Ha]; · iexact Ha
  isplitl [Hb]; · iexact Hb
  iexact HO

theorem part24 {Q : (Σ' (v781 : FVec F S32x512 .f32), BitVec 32) → sProp 𝕄} (c : Dev nD) (v4 : BitVec 32) :
    iprop(env dyV wV K ∗ (rcv dyV wV A3 c 4 ∗ rcv dyV wV B3 c 4 ∗ keep_A3 dyV wV c ∗ ow c 40) ∗ ((rcv dyV wV A3 c 4 ∗ rcv dyV wV B3 c 8 ∗ keep_A3 dyV wV c ∗ ow c 40) -∗ Q ⟨k0_pay18 (agA2V dyV wV c), 32#32⟩))
      ⊢ wp frame (wpE (defs₀ (F := F)) 𝒱₀ (c : Thread nD τ) none) Set.univ
          (k0_part24_skel (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 c v4) Q := by
  unfold k0_part24_skel
  simp only [Prog.lift, Prog.bind_op, Prog.bind_ret, Prog.pure_eq_ret]
  iintro ⟨#HR, ⟨HA3, HB3, Ka, HO⟩, Hk⟩
  iapply (run_recv dyV wV K c B3 4 (by decide) (by decide) 40 (by decide) (semR_B3 (pslot_lt B3 c 4) (o9 c 4 (by decide) (by decide))) rfl) $$ [HB3 HO]
  · isplitr; · iexact HR
    isplitl [HB3]; · iexact HB3
    iexact HO
  iintro ⟨HB3, HO⟩
  iapply (run_recv dyV wV K c B3 5 (by decide) (by decide) 40 (by decide) (semR_B3 (pslot_lt B3 c 5) (o9 c 5 (by decide) (by decide))) rfl) $$ [HB3 HO]
  · isplitr; · iexact HR
    isplitl [HB3]; · iexact HB3
    iexact HO
  iintro ⟨HB3, HO⟩
  iapply (run_recv dyV wV K c B3 6 (by decide) (by decide) 40 (by decide) (semR_B3 (pslot_lt B3 c 6) (o9 c 6 (by decide) (by decide))) rfl) $$ [HB3 HO]
  · isplitr; · iexact HR
    isplitl [HB3]; · iexact HB3
    iexact HO
  iintro ⟨HB3, HO⟩
  iapply (run_recv dyV wV K c B3 7 (by decide) (by decide) 40 (by decide) (semR_B3 (pslot_lt B3 c 7) (o9 c 7 (by decide) (by decide))) rfl) $$ [HB3 HO]
  · isplitr; · iexact HR
    isplitl [HB3]; · iexact HB3
    iexact HO
  iintro ⟨HB3, HO⟩
  iapply (ld_agA2 dyV wV c (m := 4) rfl) $$ [HA3 Ka]
  · isplitl [HA3]; · iexact HA3
    iexact Ka
  iintro ⟨HA3, Ka⟩
  rw [wp_ret]; imodintro
  iapply Hk
  isplitl [HA3]; · iexact HA3
  isplitl [HB3]; · iexact HB3
  isplitl [Ka]; · iexact Ka
  iexact HO

theorem part25 {Q : PUnit → sProp 𝕄} (c : Dev nD) (v3 : BitVec 32) (v4 : BitVec 32) (w : BitVec 32) :
    iprop(env dyV wV K ∗ (rcv dyV wV B3 c 8 ∗ keep_B3 dyV wV c ∗ (∃ f, ((c : Thread nD τ).loc cc0_stg2_0) ↦[fib half (me A4 c)]{fullShare} f) ∗ (∃ f, ((c : Thread nD τ).loc cc0_stg2_0) ↦[fib half (8 + me B4 c)]{fullShare} f) ∗ toks A4 c ∗ dsts A4 c ∗ ow c 40) ∗ ((rcv dyV wV B3 c 8 ∗ keep_B3 dyV wV c ∗ keep_A4 dyV wV c ∗ (((c : Thread nD τ).loc cc0_stg2_0) ↦[fib half (8 + me B4 c)]{fullShare} outV dyV wV) ∗ snd dyV wV A4 c 3 ∗ ow c 42) -∗ Q ⟨⟩))
      ⊢ wp frame (wpE (defs₀ (F := F)) 𝒱₀ (c : Thread nD τ) none) Set.univ
          (k0_part25_skel (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 c v3 v4 (k0_pay18 (agA2V dyV wV c)) w) Q := by
  unfold k0_part25_skel
  simp only [Prog.lift, Prog.bind_op, Prog.bind_ret, Prog.pure_eq_ret]
  iintro ⟨#HR, ⟨HB3, Kb, Ha, Hb, Htok, Hdst, HO⟩, Hk⟩
  iapply (st_outA dyV wV c (k0_off7_eq c)) $$ Ha
  iintro Ha
  iapply (ld_agB2 dyV wV c (m := 8) rfl) $$ [HB3 Kb]
  · isplitl [HB3]; · iexact HB3
    iexact Kb
  iintro ⟨HB3, Kb⟩
  iapply (st_outB dyV wV c (k0_off8_eq c)) $$ Hb
  iintro Hb
  ihave Ha := (Entails.of_eq (src_A4 dyV wV c)) $$ Ha
  icases Ha with ⟨Ha, Hsrc⟩
  ihave HA4 := (mk_snd dyV wV A4 c) $$ [Htok Hsrc Hdst]
  · isplitl [Htok]; · iexact Htok
    isplitl [Hsrc]; · iexact Hsrc
    iexact Hdst
  iapply (send_A4 dyV wV K c 1 (by decide) (by decide) 40 (get_A4 c 1 (by decide) (by decide)) (d41 c) (k0_off25_eq c) rfl (k0_off1_eq c)) $$ [HA4 HO]
  · isplitr; · iexact HR
    isplitl [HA4]; · iexact HA4
    iexact HO
  iintro ⟨HA4, HO⟩
  iapply (send_A4 dyV wV K c 2 (by decide) (by decide) 41 (get_A4 c 2 (by decide) (by decide)) (d42 c) (k0_off25_eq c) rfl (k0_off1_eq c)) $$ [HA4 HO]
  · isplitr; · iexact HR
    isplitl [HA4]; · iexact HA4
    iexact HO
  iintro ⟨HA4, HO⟩
  rw [wp_ret]; imodintro
  iapply Hk
  isplitl [HB3]; · iexact HB3
  isplitl [Kb]; · iexact Kb
  isplitl [Ha]; · iexact Ha
  isplitl [Hb]; · iexact Hb
  isplitl [HA4]; · iexact HA4
  iexact HO

end

end Cert.AllReduce

end
-- ==== Proof.Body.lean ====
/-
The body of the kernel on one device: from what it starts with to the result.
-/
module

public import proofs.«01_k».proof.Proof.PartsA
public import proofs.«01_k».proof.Proof.PartsB
public import proofs.«01_k».proof.Proof.PartsC
public import proofs.«01_k».proof.Proof.PartsD
public import proofs.«01_k».proof.Proof.PartsE
public import proofs.«01_k».proof.Proof.PartsF
public import proofs.«01_k».proof.Proof.PartsG
public import proofs.«01_k».proof.Proof.PartsH
public import proofs.«01_k».proof.Proof.PartsI

@[expose] public section

noncomputable section

namespace Cert.AllReduce

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Fam

variable {F : FTy → Type} [FloatOps F]

local notation "𝕄" => MT nD τ sig Unit (Elt F) ℕ UU ℕ

section
variable (dyV wV : Dev nD → Vec F S512x2048 .f32) (K : Dev nD × Option KX → ℕ)

/-- A family's part of what a device starts with. -/
def famStart (X : Fam) (c : Dev nD) : sProp 𝕄 :=
  iprop(toks X c ∗ toRecv X c 1 ∗ toDone X c 1 ∗ atPos ER (sCell X c 0) 0 ∅ 0 ∗ atPos ER (rCell X c (me X c)) 0 ∅ 0)
/-- The two unused semaphores of a family, closed. -/
def idle (X : Fam) (c : Dev nD) : sProp 𝕄 := iprop(semVal (sCell X c 0) 0 ∗ semVal (rCell X c (me X c)) 0)
/-- A family's semaphores at the end. -/
def famEnd (X : Fam) (c : Dev nD) : sProp 𝕄 := iprop(idle X c ∗ gotSem X c (sz X) ∗ backSem X c (sz X))

/-- A family at its start: the unused semaphores close at once, the receive waits are counted from the first. -/
theorem fam_open (X : Fam) (c : Dev nD) :
    iprop(env dyV wV K ∗ famStart X c) ⊢ iprop(|={Set.univ}=> (toks X c ∗ rcv dyV wV X c 1 ∗ toDone X c 1 ∗ idle X c)) := by
  unfold env famStart idle
  iintro ⟨⟨#HR, #Hl⟩, ⟨H1, H2, H3, H4, H5⟩⟩
  imod (close_s0 dyV wV K X c) $$ [H4] with Hs
  · isplitr; · iexact HR
    iexact H4
  imod (close_rme dyV wV K X c) $$ [H5] with Hr
  · isplitr; · iexact HR
    iexact H5
  imodintro
  ihave H2 := (mk_rcv dyV wV X c) $$ H2
  isplitl [H1]; · iexact H1
  isplitl [H2]; · iexact H2
  isplitl [H3]; · iexact H3
  isplitl [Hs]; · iexact Hs
  iexact Hr

theorem fam_dn (X : Fam) (c : Dev nD) {m : ℕ} (hm : m = sz X) : iprop(snd dyV wV X c m ∗ toDone X c 1) ⊢ dn dyV wV X c 1 := by
  subst hm
  iintro ⟨H1, H2⟩
  ihave H1 := (of_snd dyV wV X c) $$ H1
  iapply (mk_dn dyV wV X c)
  isplitl [H2]; · iexact H2
  iexact H1

theorem fam_close (X : Fam) (c : Dev nD) {m : ℕ} (hm : m = sz X) :
    iprop(rcv dyV wV X c m ∗ dn dyV wV X c m ∗ idle X c) ⊢ iprop(gotPts dyV wV X c (sz X) ∗ srcs dyV wV X c ∗ famEnd X c) := by
  subst hm
  iintro ⟨H1, H2, H3⟩
  ihave H1 := (of_rcv dyV wV X c) $$ H1
  ihave H2 := (of_dn dyV wV X c) $$ H2
  icases H1 with ⟨H1, H1s⟩
  icases H2 with ⟨H2, H2s⟩
  isplitl [H1]; · iexact H1
  isplitl [H2]; · iexact H2
  unfold famEnd
  isplitl [H3]; · iexact H3
  isplitl [H1s]; · iexact H1s
  iexact H2s

/-- The half sums as the first phase leaves them are the second phase's sources. -/
theorem src_A2' (c : Dev nD) : (((c : Thread nD τ).loc cc0_scratch3) ↦{fullShare} accA dyV wV c 7 : sProp 𝕄)
    = iprop((((c : Thread nD τ).loc cc0_scratch3) ↦[fib blk8 (me A2 c)]{fullShare} redAV dyV wV c) ∗ srcs dyV wV A2 c) := src_A2 dyV wV c
theorem src_B2' (c : Dev nD) : (((c : Thread nD τ).loc cc0_scratch4) ↦{fullShare} accB dyV wV c 3 : sProp 𝕄)
    = iprop((((c : Thread nD τ).loc cc0_scratch4) ↦[fib blk8 (me B2 c)]{fullShare} redBV dyV wV c) ∗ srcs dyV wV B2 c) := src_B2 dyV wV c

/-- The tokens of the signals. -/
def rowToks (c : Dev nD) : sProp 𝕄 := bigSep (Finset.Ico 1 8) fun o => dutyTok ER (barCell (peer A1 c o)) 0 (7 - o)
def colToks (c : Dev nD) : sProp 𝕄 := bigSep (Finset.Ico 1 4) fun o => dutyTok ER (barCell (peer B1 c o)) 0 (10 - o)

/-- What a device holds of the protocol at the start. -/
def held (c : Dev nD) : sProp 𝕄 :=
  iprop(rowToks c ∗ colToks c ∗ (cred (tallyAt (barCell c) () 10) ∗ atPos ER (barCell c) 0 ∅ 0) ∗ famStart A1 c ∗ famStart B1 c ∗ famStart A2 c ∗ famStart B2 c ∗ famStart A3 c ∗ famStart B3 c ∗ famStart A4 c ∗ famStart B4 c)
/-- A device's scratch memory. -/
def scr (c : Dev nD) : sProp 𝕄 :=
  iprop((∃ f, ((c : Thread nD τ).loc cc0_scratch0) ↦{fullShare} f) ∗ (∃ f, ((c : Thread nD τ).loc cc0_scratch1) ↦{fullShare} f) ∗ (∃ f, ((c : Thread nD τ).loc cc0_scratch2) ↦{fullShare} f) ∗ (∃ f, ((c : Thread nD τ).loc cc0_scratch3) ↦{fullShare} f) ∗ (∃ f, ((c : Thread nD τ).loc cc0_scratch4) ↦{fullShare} f) ∗ (∃ f, ((c : Thread nD τ).loc cc0_scratch5) ↦{fullShare} f) ∗ (∃ f, ((c : Thread nD τ).loc cc0_scratch6) ↦{fullShare} f) ∗ (∃ f, ((c : Thread nD τ).loc cc0_scratch7) ↦{fullShare} f) ∗ (∃ f, ((c : Thread nD τ).loc cc0_scratch8) ↦{fullShare} f))
/-- A device's semaphores at the end. -/
def sems (c : Dev nD) : sProp 𝕄 :=
  iprop(semVal (barCell c) 0 ∗ famEnd A1 c ∗ famEnd B1 c ∗ famEnd A2 c ∗ famEnd B2 c ∗ famEnd A3 c ∗ famEnd B3 c ∗ famEnd A4 c ∗ famEnd B4 c)

set_option maxHeartbeats 4000000 in
/-- The body, part by part. -/
theorem sound_body {Q : PUnit → sProp 𝕄} (c : Dev nD) :
    iprop(env dyV wV K ∗ (held c ∗ scr c ∗ (((c : Thread nD τ).loc cc0_stg0_0) ↦{fullShare} dyV c) ∗ (((c : Thread nD τ).loc cc0_stg1_0) ↦{fullShare} wV c) ∗ (∃ f, ((c : Thread nD τ).loc cc0_stg2_0) ↦{fullShare} f) ∗ ow c 0) ∗ ((sems c ∗ scr c ∗ (((c : Thread nD τ).loc cc0_stg0_0) ↦{fullShare} dyV c) ∗ (((c : Thread nD τ).loc cc0_stg1_0) ↦{fullShare} wV c) ∗ (((c : Thread nD τ).loc cc0_stg2_0) ↦{fullShare} outV dyV wV) ∗ ow c 50) -∗ Q ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24) Q := by
  rw [cc0_body_eq_skeleton]; unfold cc0_body_skel
  simp only [k0_part38_eq_skeleton, Prog.lift, Prog.bind_op, Prog.bind_ret, Prog.pure_eq_ret]
  rw [wp_bind]
  simp only [k0_part38_skel, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton]
  unfold held scr rowToks colToks
  iintro ⟨#HR, ⟨⟨Hr, Hc, Hb, FA1, FB1, FA2, FB2, FA3, FB3, FA4, FB4⟩, ⟨M0, M1, M2, M3, M4, M5, M6, M7, M8⟩, Hdy, Hw, Mo, HO⟩, Hk⟩
  imod (fam_open dyV wV K A1 c) $$ [FA1] with ⟨TA1, RA1, EA1, IA1⟩
  · isplitr; · iexact HR
    iexact FA1
  imod (fam_open dyV wV K B1 c) $$ [FB1] with ⟨TB1, RB1, EB1, IB1⟩
  · isplitr; · iexact HR
    iexact FB1
  imod (fam_open dyV wV K A2 c) $$ [FA2] with ⟨TA2, RA2, EA2, IA2⟩
  · isplitr; · iexact HR
    iexact FA2
  imod (fam_open dyV wV K B2 c) $$ [FB2] with ⟨TB2, RB2, EB2, IB2⟩
  · isplitr; · iexact HR
    iexact FB2
  imod (fam_open dyV wV K A3 c) $$ [FA3] with ⟨TA3, RA3, EA3, IA3⟩
  · isplitr; · iexact HR
    iexact FA3
  imod (fam_open dyV wV K B3 c) $$ [FB3] with ⟨TB3, RB3, EB3, IB3⟩
  · isplitr; · iexact HR
    iexact FB3
  imod (fam_open dyV wV K A4 c) $$ [FA4] with ⟨TA4, RA4, EA4, IA4⟩
  · isplitr; · iexact HR
    iexact FA4
  imod (fam_open dyV wV K B4 c) $$ [FB4] with ⟨TB4, RB4, EB4, IB4⟩
  · isplitr; · iexact HR
    iexact FB4
  ihave M1 := (cut_A1 c) $$ M1
  icases M1 with ⟨M1, NA1⟩
  ihave M2 := (cut_B1 c) $$ M2
  icases M2 with ⟨M2, NB1⟩
  ihave M5 := (cut_A2 c) $$ M5
  icases M5 with ⟨M5, NA2⟩
  ihave M6 := (cut_B2 c) $$ M6
  icases M6 with ⟨M6, NB2⟩
  ihave M7 := (cut_A3 c) $$ M7
  icases M7 with ⟨M7, NA3⟩
  ihave M8 := (cut_B3 c) $$ M8
  icases M8 with ⟨M8, NB3⟩
  ihave Mo := (cut_out c) $$ Mo
  icases Mo with ⟨MoA, NA4, MoB, NB4⟩
  ihave Hr := (mk_rowSig c) $$ [Hr NA1 NB2 NB3 NA4]
  · isplitl [Hr]; · iexact Hr
    isplitl [NA1]; · iexact NA1
    isplitl [NB2]; · iexact NB2
    isplitl [NB3]; · iexact NB3
    iexact NA4
  ihave Hc := (mk_colSig c) $$ [Hc NB1 NA2 NA3 NB4]
  · isplitl [Hc]; · iexact Hc
    isplitl [NB1]; · iexact NB1
    isplitl [NA2]; · iexact NA2
    isplitl [NA3]; · iexact NA3
    iexact NB4
  rw [wp_bind]
  iapply (part1 dyV wV K c)
  isplitr; · iexact HR
  isplitl [Hr HO]
  · isplitl [Hr]; · iexact Hr
    iexact HO
  iintro %v31 %v41 %v261 %v271 ⟨Hr, HO⟩
  try dsimp only
  rw [wp_bind]
  iapply (part2 dyV wV K c _ _ _ _)
  isplitr; · iexact HR
  isplitl [Hr Hc Hb Hdy Hw M0 HO]
  · isplitl [Hr]; · iexact Hr
    isplitl [Hc]; · iexact Hc
    isplitl [Hb]; · iexact Hb
    isplitl [Hdy]; · iexact Hdy
    isplitl [Hw]; · iexact Hw
    isplitl [M0]; · iexact M0
    iexact HO
  iintro ⟨Hrp, Hcp, Hsv, Hdy, Hw, M0, HO⟩
  ihave Hrp := (of_rowPay c) $$ Hrp
  icases Hrp with ⟨LA1, LB2, LB3, LA4⟩
  ihave Hcp := (of_colPay c) $$ Hcp
  icases Hcp with ⟨LB1, LA2, LA3, LB4⟩
  ihave M0 := (Entails.of_eq (src_1 dyV wV c)) $$ M0
  icases M0 with ⟨⟨M0, QA1⟩, M0b, QB1⟩
  ihave SA1 := (mk_snd dyV wV A1 c) $$ [TA1 QA1 LA1]
  · isplitl [TA1]; · iexact TA1
    isplitl [QA1]; · iexact QA1
    iexact LA1
  ihave SB1 := (mk_snd dyV wV B1 c) $$ [TB1 QB1 LB1]
  · isplitl [TB1]; · iexact TB1
    isplitl [QB1]; · iexact QB1
    iexact LB1
  rw [wp_bind]
  iapply (part3 dyV wV K c _ _)
  isplitr; · iexact HR
  isplitl [SA1 HO]
  · isplitl [SA1]; · iexact SA1
    iexact HO
  iintro ⟨SA1, HO⟩
  rw [wp_bind]
  iapply (part4 dyV wV K c _ _)
  isplitr; · iexact HR
  isplitl [SA1 HO]
  · isplitl [SA1]; · iexact SA1
    iexact HO
  iintro ⟨SA1, HO⟩
  rw [wp_bind]
  iapply (part5 dyV wV K c _ _)
  isplitr; · iexact HR
  isplitl [SA1 SB1 HO]
  · isplitl [SA1]; · iexact SA1
    isplitl [SB1]; · iexact SB1
    iexact HO
  iintro %r5 ⟨SA1, SB1, HO⟩
  rw [wp_bind]
  iapply (part6 dyV wV K c _ _ _)
  isplitr; · iexact HR
  isplitl [SB1 M0 M0b M3 M4 HO]
  · isplitl [SB1]; · iexact SB1
    isplitl [M0]; · iexact M0
    isplitl [M0b]; · iexact M0b
    isplitl [M3]; · iexact M3
    isplitl [M4]; · iexact M4
    iexact HO
  iintro ⟨SB1, M0, M0b, M3, M4, HO⟩
  rw [wp_bind]
  iapply (part7 dyV wV K c _)
  isplitr; · iexact HR
  isplitl [RA1 M3 HO]
  · isplitl [RA1]; · iexact RA1
    isplitl [M3]; · iexact M3
    iexact HO
  iintro ⟨RA1, M3, HO⟩
  rw [wp_bind]
  iapply (part8 dyV wV K c _)
  isplitr; · iexact HR
  isplitl [RA1 M3 HO]
  · isplitl [RA1]; · iexact RA1
    isplitl [M3]; · iexact M3
    iexact HO
  iintro ⟨RA1, M3, HO⟩
  rw [wp_bind]
  iapply (part9 dyV wV K c _)
  isplitr; · iexact HR
  isplitl [RA1 M3 HO]
  · isplitl [RA1]; · iexact RA1
    isplitl [M3]; · iexact M3
    iexact HO
  iintro ⟨RA1, M3, HO⟩
  rw [wp_bind]
  iapply (part10 dyV wV K c _ _)
  isplitr; · iexact HR
  isplitl [RA1 RB1 M3 M4 HO]
  · isplitl [RA1]; · iexact RA1
    isplitl [RB1]; · iexact RB1
    isplitl [M3]; · iexact M3
    isplitl [M4]; · iexact M4
    iexact HO
  iintro ⟨RA1, RB1, M3, M4, HO⟩
  rw [wp_bind]
  iapply (part11 dyV wV K c _)
  isplitr; · iexact HR
  isplitl [RB1 M4 HO]
  · isplitl [RB1]; · iexact RB1
    isplitl [M4]; · iexact M4
    iexact HO
  iintro ⟨RB1, M4, HO⟩
  ihave M3 := (Entails.of_eq (src_A2' dyV wV c)) $$ M3
  icases M3 with ⟨M3, QA2⟩
  ihave SA2 := (mk_snd dyV wV A2 c) $$ [TA2 QA2 LA2]
  · isplitl [TA2]; · iexact TA2
    isplitl [QA2]; · iexact QA2
    iexact LA2
  ihave M4 := (Entails.of_eq (src_B2' dyV wV c)) $$ M4
  icases M4 with ⟨M4, QB2⟩
  ihave SB2 := (mk_snd dyV wV B2 c) $$ [TB2 QB2 LB2]
  · isplitl [TB2]; · iexact TB2
    isplitl [QB2]; · iexact QB2
    iexact LB2
  rw [wp_bind]
  iapply (part12 dyV wV K c _ _)
  isplitr; · iexact HR
  isplitl [SA2 HO]
  · isplitl [SA2]; · iexact SA2
    iexact HO
  iintro ⟨SA2, HO⟩
  rw [wp_bind]
  iapply (part13 dyV wV K c _ _)
  isplitr; · iexact HR
  isplitl [SA2 SB2 HO]
  · isplitl [SA2]; · iexact SA2
    isplitl [SB2]; · iexact SB2
    iexact HO
  iintro ⟨SA2, SB2, HO⟩
  rw [wp_bind]
  iapply (part14 dyV wV K c _ _)
  isplitr; · iexact HR
  isplitl [SB2 HO]
  · isplitl [SB2]; · iexact SB2
    iexact HO
  iintro ⟨SB2, HO⟩
  rw [wp_bind]
  iapply (part15 dyV wV K c _ _)
  isplitr; · iexact HR
  isplitl [SB2 M3 M4 M5 M6 HO]
  · isplitl [SB2]; · iexact SB2
    isplitl [M3]; · iexact M3
    isplitl [M4]; · iexact M4
    isplitl [M5]; · iexact M5
    isplitl [M6]; · iexact M6
    iexact HO
  iintro ⟨SB2, M3, M4, M5, M6, HO⟩
  rw [wp_bind]
  iapply (part16 dyV wV K c _ _)
  isplitr; · iexact HR
  isplitl [RA2 RB2 HO]
  · isplitl [RA2]; · iexact RA2
    isplitl [RB2]; · iexact RB2
    iexact HO
  iintro ⟨RA2, RB2, HO⟩
  rw [wp_bind]
  iapply (part17 dyV wV K c _)
  isplitr; · iexact HR
  isplitl [RB2 HO]
  · isplitl [RB2]; · iexact RB2
    iexact HO
  iintro ⟨RB2, HO⟩
  rw [wp_bind]
  iapply (part18 dyV wV K c _ _)
  isplitr; · iexact HR
  isplitl [RA2 RB2 M5 M6 M7 M8 HO]
  · isplitl [RA2]; · iexact RA2
    isplitl [RB2]; · iexact RB2
    isplitl [M5]; · iexact M5
    isplitl [M6]; · iexact M6
    isplitl [M7]; · iexact M7
    isplitl [M8]; · iexact M8
    iexact HO
  iintro %r18 ⟨RA2, RB2, M5, M6, M7, M8, HO⟩
  ihave M7 := (Entails.of_eq (src_A3 dyV wV c)) $$ M7
  icases M7 with ⟨KA3, QA3⟩
  ihave SA3 := (mk_snd dyV wV A3 c) $$ [TA3 QA3 LA3]
  · isplitl [TA3]; · iexact TA3
    isplitl [QA3]; · iexact QA3
    iexact LA3
  ihave M8 := (Entails.of_eq (src_B3 dyV wV c)) $$ M8
  icases M8 with ⟨KB3, QB3⟩
  ihave SB3 := (mk_snd dyV wV B3 c) $$ [TB3 QB3 LB3]
  · isplitl [TB3]; · iexact TB3
    isplitl [QB3]; · iexact QB3
    iexact LB3
  rw [wp_bind]
  iapply (part19 dyV wV K c _ _ _)
  isplitr; · iexact HR
  isplitl [SA3 HO]
  · isplitl [SA3]; · iexact SA3
    iexact HO
  iintro %r19 ⟨SA3, HO⟩
  try dsimp only
  rw [wp_bind]
  iapply (part20 dyV wV K c _ _ _ _)
  isplitr; · iexact HR
  isplitl [SB3 HO]
  · isplitl [SB3]; · iexact SB3
    iexact HO
  iintro ⟨SB3, HO⟩
  rw [wp_bind]
  iapply (part21 dyV wV K c _ _)
  isplitr; · iexact HR
  isplitl [SB3 HO]
  · isplitl [SB3]; · iexact SB3
    iexact HO
  iintro ⟨SB3, HO⟩
  rw [wp_bind]
  iapply (part22 dyV wV K c _ _)
  isplitr; · iexact HR
  isplitl [SB3 RA3 HO]
  · isplitl [SB3]; · iexact SB3
    isplitl [RA3]; · iexact RA3
    iexact HO
  iintro ⟨SB3, RA3, HO⟩
  rw [wp_bind]
  iapply (part23 dyV wV K c _)
  isplitr; · iexact HR
  isplitl [RA3 RB3 HO]
  · isplitl [RA3]; · iexact RA3
    isplitl [RB3]; · iexact RB3
    iexact HO
  iintro ⟨RA3, RB3, HO⟩
  rw [wp_bind]
  iapply (part24 dyV wV K c _)
  isplitr; · iexact HR
  isplitl [RA3 RB3 KA3 HO]
  · isplitl [RA3]; · iexact RA3
    isplitl [RB3]; · iexact RB3
    isplitl [KA3]; · iexact KA3
    iexact HO
  iintro ⟨RA3, RB3, KA3, HO⟩
  try dsimp only
  rw [wp_bind]
  iapply (part25 dyV wV K c _ _ _)
  isplitr; · iexact HR
  isplitl [RB3 KB3 MoA MoB TA4 LA4 HO]
  · isplitl [RB3]; · iexact RB3
    isplitl [KB3]; · iexact KB3
    isplitl [MoA]; · iexact MoA
    isplitl [MoB]; · iexact MoB
    isplitl [TA4]; · iexact TA4
    isplitl [LA4]; · iexact LA4
    iexact HO
  iintro ⟨RB3, KB3, KA4, MoB, SA4, HO⟩
  ihave MoB := (Entails.of_eq (src_B4 dyV wV c)) $$ MoB
  icases MoB with ⟨KB4, QB4⟩
  ihave SB4 := (mk_snd dyV wV B4 c) $$ [TB4 QB4 LB4]
  · isplitl [TB4]; · iexact TB4
    isplitl [QB4]; · iexact QB4
    iexact LB4
  rw [wp_bind]
  iapply (part26 dyV wV K c _ _)
  isplitr; · iexact HR
  isplitl [SA4 HO]
  · isplitl [SA4]; · iexact SA4
    iexact HO
  iintro ⟨SA4, HO⟩
  rw [wp_bind]
  iapply (part27 dyV wV K c _ _)
  isplitr; · iexact HR
  isplitl [SA4 HO]
  · isplitl [SA4]; · iexact SA4
    iexact HO
  iintro ⟨SA4, HO⟩
  rw [wp_bind]
  iapply (part28 dyV wV K c _ _)
  isplitr; · iexact HR
  isplitl [SB4 HO]
  · isplitl [SB4]; · iexact SB4
    iexact HO
  iintro ⟨SB4, HO⟩
  rw [wp_bind]
  iapply (part29 dyV wV K c _)
  isplitr; · iexact HR
  isplitl [RA4 HO]
  · isplitl [RA4]; · iexact RA4
    iexact HO
  iintro ⟨RA4, HO⟩
  rw [wp_bind]
  iapply (part30 dyV wV K c _ _)
  isplitr; · iexact HR
  isplitl [RA4 RB4 HO]
  · isplitl [RA4]; · iexact RA4
    isplitl [RB4]; · iexact RB4
    iexact HO
  iintro ⟨RA4, RB4, HO⟩
  ihave DA1 := (fam_dn dyV wV A1 c (m := 8) rfl) $$ [SA1 EA1]
  · isplitl [SA1]; · iexact SA1
    iexact EA1
  ihave DB1 := (fam_dn dyV wV B1 c (m := 4) rfl) $$ [SB1 EB1]
  · isplitl [SB1]; · iexact SB1
    iexact EB1
  ihave DA2 := (fam_dn dyV wV A2 c (m := 4) rfl) $$ [SA2 EA2]
  · isplitl [SA2]; · iexact SA2
    iexact EA2
  ihave DB2 := (fam_dn dyV wV B2 c (m := 8) rfl) $$ [SB2 EB2]
  · isplitl [SB2]; · iexact SB2
    iexact EB2
  ihave DA3 := (fam_dn dyV wV A3 c (m := 4) rfl) $$ [SA3 EA3]
  · isplitl [SA3]; · iexact SA3
    iexact EA3
  ihave DB3 := (fam_dn dyV wV B3 c (m := 8) rfl) $$ [SB3 EB3]
  · isplitl [SB3]; · iexact SB3
    iexact EB3
  ihave DA4 := (fam_dn dyV wV A4 c (m := 8) rfl) $$ [SA4 EA4]
  · isplitl [SA4]; · iexact SA4
    iexact EA4
  ihave DB4 := (fam_dn dyV wV B4 c (m := 4) rfl) $$ [SB4 EB4]
  · isplitl [SB4]; · iexact SB4
    iexact EB4
  rw [wp_bind]
  iapply (part31 dyV wV K c _)
  isplitr; · iexact HR
  isplitl [RB4 DA1 HO]
  · isplitl [RB4]; · iexact RB4
    isplitl [DA1]; · iexact DA1
    iexact HO
  iintro ⟨RB4, DA1, HO⟩
  rw [wp_bind]
  iapply (part32 dyV wV K c)
  isplitr; · iexact HR
  isplitl [DA1 DB1 HO]
  · isplitl [DA1]; · iexact DA1
    isplitl [DB1]; · iexact DB1
    iexact HO
  iintro ⟨DA1, DB1, HO⟩
  rw [wp_bind]
  iapply (part33 dyV wV K c)
  isplitr; · iexact HR
  isplitl [DB1 DA2 DB2 HO]
  · isplitl [DB1]; · iexact DB1
    isplitl [DA2]; · iexact DA2
    isplitl [DB2]; · iexact DB2
    iexact HO
  iintro ⟨DB1, DA2, DB2, HO⟩
  rw [wp_bind]
  iapply (part34 dyV wV K c)
  isplitr; · iexact HR
  isplitl [DB2 HO]
  · isplitl [DB2]; · iexact DB2
    iexact HO
  iintro ⟨DB2, HO⟩
  rw [wp_bind]
  iapply (part35 dyV wV K c)
  isplitr; · iexact HR
  isplitl [DA3 DB3 HO]
  · isplitl [DA3]; · iexact DA3
    isplitl [DB3]; · iexact DB3
    iexact HO
  iintro ⟨DA3, DB3, HO⟩
  rw [wp_bind]
  iapply (part36 dyV wV K c)
  isplitr; · iexact HR
  isplitl [DB3 HO]
  · isplitl [DB3]; · iexact DB3
    iexact HO
  iintro ⟨DB3, HO⟩
  rw [wp_bind]
  iapply (part37 dyV wV K c)
  isplitr; · iexact HR
  isplitl [DB3 DA4 HO]
  · isplitl [DB3]; · iexact DB3
    isplitl [DA4]; · iexact DA4
    iexact HO
  iintro ⟨DB3, DA4, HO⟩
  simp only [Prog.lift, Prog.bind_op, Prog.bind_ret, Prog.pure_eq_ret]
  iapply (run_done dyV wV K c A4 7 (by decide) (by decide) (semS_A4 (by decide) rfl) rfl) $$ [DA4 HO]
  · isplitr; · iexact HR
    isplitl [DA4]; · iexact DA4
    iexact HO
  iintro ⟨DA4, HO⟩
  iapply (run_done dyV wV K c B4 1 (by decide) (by decide) (semS_B4 (by decide) rfl) rfl) $$ [DB4 HO]
  · isplitr; · iexact HR
    isplitl [DB4]; · iexact DB4
    iexact HO
  iintro ⟨DB4, HO⟩
  rw [wp_ret]; imodintro
  iapply (run_done dyV wV K c B4 2 (by decide) (by decide) (semS_B4 (by decide) rfl) rfl) $$ [DB4 HO]
  · isplitr; · iexact HR
    isplitl [DB4]; · iexact DB4
    iexact HO
  iintro ⟨DB4, HO⟩
  iapply (run_done dyV wV K c B4 3 (by decide) (by decide) (semS_B4 (by decide) rfl) rfl) $$ [DB4 HO]
  · isplitr; · iexact HR
    isplitl [DB4]; · iexact DB4
    iexact HO
  iintro ⟨DB4, HO⟩
  rw [wp_ret]; imodintro
  iapply Hk
  ihave CA1 := (fam_close dyV wV A1 c (m := 8) rfl) $$ [RA1 DA1 IA1]
  · isplitl [RA1]; · iexact RA1
    isplitl [DA1]; · iexact DA1
    iexact IA1
  icases CA1 with ⟨GA1, QA1, FA1⟩
  ihave CB1 := (fam_close dyV wV B1 c (m := 4) rfl) $$ [RB1 DB1 IB1]
  · isplitl [RB1]; · iexact RB1
    isplitl [DB1]; · iexact DB1
    iexact IB1
  icases CB1 with ⟨GB1, QB1, FB1⟩
  ihave CA2 := (fam_close dyV wV A2 c (m := 4) rfl) $$ [RA2 DA2 IA2]
  · isplitl [RA2]; · iexact RA2
    isplitl [DA2]; · iexact DA2
    iexact IA2
  icases CA2 with ⟨GA2, QA2, FA2⟩
  ihave CB2 := (fam_close dyV wV B2 c (m := 8) rfl) $$ [RB2 DB2 IB2]
  · isplitl [RB2]; · iexact RB2
    isplitl [DB2]; · iexact DB2
    iexact IB2
  icases CB2 with ⟨GB2, QB2, FB2⟩
  ihave CA3 := (fam_close dyV wV A3 c (m := 4) rfl) $$ [RA3 DA3 IA3]
  · isplitl [RA3]; · iexact RA3
    isplitl [DA3]; · iexact DA3
    iexact IA3
  icases CA3 with ⟨GA3, QA3, FA3⟩
  ihave CB3 := (fam_close dyV wV B3 c (m := 8) rfl) $$ [RB3 DB3 IB3]
  · isplitl [RB3]; · iexact RB3
    isplitl [DB3]; · iexact DB3
    iexact IB3
  icases CB3 with ⟨GB3, QB3, FB3⟩
  ihave CA4 := (fam_close dyV wV A4 c (m := 8) rfl) $$ [RA4 DA4 IA4]
  · isplitl [RA4]; · iexact RA4
    isplitl [DA4]; · iexact DA4
    iexact IA4
  icases CA4 with ⟨GA4, QA4, FA4⟩
  ihave CB4 := (fam_close dyV wV B4 c (m := 4) rfl) $$ [RB4 DB4 IB4]
  · isplitl [RB4]; · iexact RB4
    isplitl [DB4]; · iexact DB4
    iexact IB4
  icases CB4 with ⟨GB4, QB4, FB4⟩
  isplitl [Hsv FA1 FB1 FA2 FB2 FA3 FB3 FA4 FB4]
  · unfold sems
    isplitl [Hsv]; · iexact Hsv
    isplitl [FA1]; · iexact FA1
    isplitl [FB1]; · iexact FB1
    isplitl [FA2]; · iexact FA2
    isplitl [FB2]; · iexact FB2
    isplitl [FA3]; · iexact FA3
    isplitl [FB3]; · iexact FB3
    isplitl [FA4]; · iexact FA4
    iexact FB4
  isplitl [M0 QA1 M0b QB1 M1 GA1 M2 GB1 M3 QA2 M4 QB2 M5 GA2 M6 GB2 KA3 QA3 GA3 KB3 QB3 GB3]
  · isplitl [M0 QA1 M0b QB1]
    · iapply (fin_0 dyV wV c)
      isplitl [M0 QA1]
      · isplitl [M0]; · iexact M0
        iexact QA1
      isplitl [M0b]; · iexact M0b
      iexact QB1
    isplitl [M1 GA1]
    · iapply (fin_1 dyV wV c)
      isplitl [M1]; · iexact M1
      iexact GA1
    isplitl [M2 GB1]
    · iapply (fin_2 dyV wV c)
      isplitl [M2]; · iexact M2
      iexact GB1
    isplitl [M3 QA2]
    · iapply (fin_3 dyV wV c)
      isplitl [M3]; · iexact M3
      iexact QA2
    isplitl [M4 QB2]
    · iapply (fin_4 dyV wV c)
      isplitl [M4]; · iexact M4
      iexact QB2
    isplitl [M5 GA2]
    · iapply (fin_5 dyV wV c)
      isplitl [M5]; · iexact M5
      iexact GA2
    isplitl [M6 GB2]
    · iapply (fin_6 dyV wV c)
      isplitl [M6]; · iexact M6
      iexact GB2
    isplitl [KA3 QA3 GA3]
    · iapply (fin_7 dyV wV c)
      isplitl [KA3 QA3]
      · isplitl [KA3]; · iexact KA3
        iexact QA3
      iexact GA3
    iapply (fin_8 dyV wV c)
    isplitl [KB3 QB3]
    · isplitl [KB3]; · iexact KB3
      iexact QB3
    iexact GB3
  isplitl [Hdy]; · iexact Hdy
  isplitl [Hw]; · iexact Hw
  isplitl [KA4 QA4 GA4 KB4 QB4 GB4]
  · iapply (fin_out dyV wV c)
    isplitl [KA4 QA4]
    · isplitl [KA4]; · iexact KA4
      iexact QA4
    isplitl [GA4]; · iexact GA4
    isplitl [KB4 QB4]
    · isplitl [KB4]; · iexact KB4
      iexact QB4
    iexact GB4
  iexact HO

end

end Cert.AllReduce

end
-- ==== Proof.Deal.lean ====
/-
The protocol's cells and tokens, as they are minted, dealt to the devices.
-/
module

public import proofs.«01_k».proof.Proof.Body

@[expose] public section

noncomputable section

namespace Cert.AllReduce

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Fam

variable {F : FTy → Type} [FloatOps F]

local notation "𝕄" => MT nD τ sig Unit (Elt F) ℕ UU ℕ

/-! ## The cells -/

theorem osem_dma (k : KX) : ∃ q : DmaSem sig, osem k = .dma q ∧ dec q.val = (k.1, k.2.1, k.2.2.val) ∧ 3 ≤ q.val := by
  obtain ⟨X, b, i⟩ := k
  cases b
  · exact ⟨rS X i.val, rfl, dec_rS X _ i.isLt, three_le_rS X _ i.isLt⟩
  · exact ⟨sS X i.val, rfl, dec_sS X _ i.isLt, three_le_sS X _ i.isLt⟩

theorem kx_ext {k k' : KX} (h : ((k.1, k.2.1, k.2.2.val) : Fam × Bool × ℕ) = (k'.1, k'.2.1, k'.2.2.val)) : k = k' := by
  obtain ⟨X, b, i⟩ := k
  obtain ⟨X', b', i'⟩ := k'
  have h1 : X = X' := congrArg (fun x : Fam × Bool × ℕ => x.1) h
  subst h1
  have h2 : b = b' := congrArg (fun x : Fam × Bool × ℕ => x.2.1) h
  have h3 : i.val = i'.val := congrArg (fun x : Fam × Bool × ℕ => x.2.2) h
  rw [h2, Fin.ext h3]

theorem osem_injective : Function.Injective (osem : KX → SemLoc sig) := by
  intro k k' h
  obtain ⟨q, e, d, -⟩ := osem_dma k
  obtain ⟨q', e', d', -⟩ := osem_dma k'
  have hq : q = q' := by rw [e, e'] at h; exact SemLoc.dma.inj h
  exact kx_ext (by rw [← d, ← d', hq])

theorem csem_injective : Function.Injective (csem : Option KX → SemLoc sig) := by
  intro k k' h
  cases k with
  | none => cases k' with
    | none => rfl
    | some k' => obtain ⟨q, e, -, -⟩ := osem_dma k'; have h : SemLoc.reg barS = osem k' := h; rw [e] at h; cases h
  | some k => cases k' with
    | none => obtain ⟨q, e, -, -⟩ := osem_dma k; have h : osem k = SemLoc.reg barS := h; rw [e] at h; cases h
    | some k' => exact congrArg some (osem_injective h)

theorem kcell_injective : Function.Injective (kcell : Dev nD × Option KX → GSem nD τ sig) := by
  rintro ⟨c, k⟩ ⟨c', k'⟩ h
  have h1 : c = c' := congrArg (fun g : GSem nD τ sig => g.1.1) h
  have h2 : csem k = csem k' := congrArg Prod.snd h
  rw [h1, csem_injective h2]

def allCells : Finset (GSem nD τ sig) := Finset.univ.map ⟨kcell, kcell_injective⟩

theorem dma_scoped : ∀ q : DmaSem sig, (SemLoc.dma q : SemLoc sig).isScoped .tc = true := by decide
theorem stage_low : ∀ (w : Fin cfg0.W) (s : Fin (cfg0.spec w).nbuf), ((cfg0.spec w).sem s).val < 3 := by decide

/-- The kernel's own semaphores are its scratch's, distinct, and none is a staging one. -/
theorem ownSemFacts : Pipeline.OwnSemFacts cfg0.spec osem where
  isScoped k := by obtain ⟨q, e, -, -⟩ := osem_dma k; rw [e]; exact dma_scoped q
  inj := osem_injective
  disj k w s h := by
    obtain ⟨q, e, -, h3⟩ := osem_dma k
    rw [e] at h
    have := stage_low w s
    rw [← SemLoc.dma.inj h] at this
    omega

/-! ## The tokens, by payer -/

/-- A device's payments: to its group, to its rank's ring, and both credits of each copy. -/
abbrev TX : Type := (Fin 7 ⊕ Fin 3) ⊕ KX

/-- The duty that a device's payment meets. -/
abbrev tokOf (ct : Dev nD × TX) : GSem nD τ sig × ℕ × ℕ := match ct.2 with
  | .inl (.inl i) => (barCell (peer A1 ct.1 (i.val + 1)), 0, 7 - (i.val + 1))
  | .inl (.inr i) => (barCell (peer B1 ct.1 (i.val + 1)), 0, 10 - (i.val + 1))
  | .inr k => if k.2.1 then (sCell k.1 ct.1 k.2.2.val, 0, 0) else (outCell k.1 ct.1 k.2.2.val, 0, 0)

theorem peer_inj {X : Fam} {c c' : Dev nD} {o : ℕ} (ho : o ≤ sz X) (h : peer X c o = peer X c' o) : c = c' := by
  rw [← peer_peer X c o ho, h, peer_peer X c' o ho]

theorem out_inj {X : Fam} {c c' : Dev nD} {o o' : ℕ} (ho : o < sz X) (ho' : o' < sz X) (h : peer X c o = peer X c' o') (hm : me X c = me X c') : o = o' ∧ c = c' := by
  have e : (me X c + o) % sz X = (me X c + o') % sz X := by
    have h := congrArg (me X) h
    rw [me_peer, me_peer] at h
    unfold pslot at h
    rw [h, hm]
  have hl := me_lt X c
  have ho2 : o = o' := by
    generalize sz X = n at *
    generalize me X c = a at *
    rcases Nat.lt_or_ge (a + o) n with h1 | h1 <;> rcases Nat.lt_or_ge (a + o') n with h2 | h2
    · rw [Nat.mod_eq_of_lt h1, Nat.mod_eq_of_lt h2] at e; omega
    · rw [Nat.mod_eq_of_lt h1, Nat.mod_eq_sub_mod h2, Nat.mod_eq_of_lt (by omega)] at e; omega
    · rw [Nat.mod_eq_sub_mod h1, Nat.mod_eq_of_lt (by omega), Nat.mod_eq_of_lt h2] at e; omega
    · rw [Nat.mod_eq_sub_mod h1, Nat.mod_eq_of_lt (by omega), Nat.mod_eq_sub_mod h2, Nat.mod_eq_of_lt (by omega)] at e; omega
  subst ho2
  exact ⟨rfl, peer_inj (Nat.le_of_lt ho) h⟩

theorem bar_inj {c c' : Dev nD} (h : barCell c = barCell c') : c = c' := congrArg (fun g : GSem nD τ sig => g.1.1) h

/-- A copy's two duties tell the copy. -/
theorem tok_copy (c : Dev nD) (k : KX) : ∃ (d : Dev nD) (q : DmaSem sig), tokOf (c, .inr k) = (((d : Thread nD τ), .dma q), 0, 0)
    ∧ (k.2.1 = true → d = c ∧ dec q.val = (k.1, true, k.2.2.val)) ∧ (k.2.1 = false → d = peer k.1 c k.2.2.val ∧ dec q.val = (k.1, false, me k.1 c)) := by
  obtain ⟨X, b, i⟩ := k
  cases b
  · exact ⟨peer X c i.val, rS X (me X c), rfl, (fun h => by cases h), fun _ => ⟨rfl, dec_rS X _ (me_lt X c)⟩⟩
  · exact ⟨c, sS X i.val, rfl, (fun _ => ⟨rfl, dec_sS X _ i.isLt⟩), fun h => by cases h⟩

theorem tokOf_injective : Function.Injective (tokOf : Dev nD × TX → GSem nD τ sig × ℕ × ℕ) := by
  have hrow : ∀ (c c' : Dev nD) (i i' : Fin 7), tokOf (c, .inl (.inl i)) = tokOf (c', .inl (.inl i')) → (c, (Sum.inl (Sum.inl i) : TX)) = (c', .inl (.inl i')) := by
    intro c c' i i' h
    have h1 : barCell (peer A1 c (i.val + 1)) = barCell (peer A1 c' (i'.val + 1)) := congrArg (fun x : GSem nD τ sig × ℕ × ℕ => x.1) h
    have h2 : 7 - (i.val + 1) = 7 - (i'.val + 1) := congrArg (fun x : GSem nD τ sig × ℕ × ℕ => x.2.2) h
    have h3 : i = i' := Fin.ext (by omega)
    subst h3
    rw [peer_inj (by rw [sz_A1]; omega) (bar_inj h1)]
  have hcol : ∀ (c c' : Dev nD) (i i' : Fin 3), tokOf (c, .inl (.inr i)) = tokOf (c', .inl (.inr i')) → (c, (Sum.inl (Sum.inr i) : TX)) = (c', .inl (.inr i')) := by
    intro c c' i i' h
    have h1 : barCell (peer B1 c (i.val + 1)) = barCell (peer B1 c' (i'.val + 1)) := congrArg (fun x : GSem nD τ sig × ℕ × ℕ => x.1) h
    have h2 : 10 - (i.val + 1) = 10 - (i'.val + 1) := congrArg (fun x : GSem nD τ sig × ℕ × ℕ => x.2.2) h
    have h3 : i = i' := Fin.ext (by omega)
    subst h3
    rw [peer_inj (by rw [show sz B1 = 4 from rfl]; omega) (bar_inj h1)]
  have hmix : ∀ (c c' : Dev nD) (i : Fin 7) (i' : Fin 3), tokOf (c, .inl (.inl i)) ≠ tokOf (c', .inl (.inr i')) := by
    intro c c' i i' h
    have h2 : 7 - (i.val + 1) = 10 - (i'.val + 1) := congrArg (fun x : GSem nD τ sig × ℕ × ℕ => x.2.2) h
    omega
  have hreg : ∀ (c c' : Dev nD) (a : Fin 7 ⊕ Fin 3) (k : KX), tokOf (c, .inl a) ≠ tokOf (c', .inr k) := by
    intro c c' a k h
    obtain ⟨d, q, e, -, -⟩ := tok_copy c' k
    rw [e] at h
    rcases a with i | i
    · have h2 : SemLoc.reg barS = SemLoc.dma q := congrArg (fun x : GSem nD τ sig × ℕ × ℕ => x.1.2) h
      cases h2
    · have h2 : SemLoc.reg barS = SemLoc.dma q := congrArg (fun x : GSem nD τ sig × ℕ × ℕ => x.1.2) h
      cases h2
  have hcopy : ∀ (c c' : Dev nD) (k k' : KX), tokOf (c, .inr k) = tokOf (c', .inr k') → (c, (Sum.inr k : TX)) = (c', .inr k') := by
    intro c c' k k' h
    obtain ⟨d, q, e, e1, e2⟩ := tok_copy c k
    obtain ⟨d', q', e', e1', e2'⟩ := tok_copy c' k'
    rw [e, e'] at h
    have hd : d = d' := congrArg (fun x : GSem nD τ sig × ℕ × ℕ => x.1.1.1) h
    have hs : SemLoc.dma q = (SemLoc.dma q' : SemLoc sig) := congrArg (fun x : GSem nD τ sig × ℕ × ℕ => x.1.2) h
    have hq : q = q' := SemLoc.dma.inj hs
    subst hd hq
    obtain ⟨X, b, i⟩ := k
    obtain ⟨X', b', i'⟩ := k'
    cases b <;> cases b'
    · obtain ⟨hd, hq⟩ := e2 rfl
      obtain ⟨hd', hq'⟩ := e2' rfl
      have hX : X = X' := congrArg (fun x : Fam × Bool × ℕ => x.1) (hq.symm.trans hq')
      subst hX
      have hm : me X c = me X c' := congrArg (fun x : Fam × Bool × ℕ => x.2.2) (hq.symm.trans hq')
      obtain ⟨ho, hc⟩ := out_inj i.isLt i'.isLt (hd.symm.trans hd') hm
      rw [hc, Fin.ext ho]
    · have := congrArg (fun x : Fam × Bool × ℕ => x.2.1) ((e2 rfl).2.symm.trans (e1' rfl).2); cases this
    · have := congrArg (fun x : Fam × Bool × ℕ => x.2.1) ((e1 rfl).2.symm.trans (e2' rfl).2); cases this
    · obtain ⟨hd, hq⟩ := e1 rfl
      obtain ⟨hd', hq'⟩ := e1' rfl
      rw [hd.symm.trans hd', show (⟨X, true, i⟩ : KX) = ⟨X', true, i'⟩ from kx_ext (hq.symm.trans hq')]
  rintro ⟨c, t⟩ ⟨c', t'⟩ h
  rcases t with (i | i) | k <;> rcases t' with (i' | i') | k'
  · exact hrow c c' i i' h
  · exact absurd h (hmix c c' i i')
  · exact absurd h (hreg c c' _ k')
  · exact absurd h.symm (hmix c' c i' i)
  · exact hcol c c' i i' h
  · exact absurd h (hreg c c' _ k')
  · exact absurd h.symm (hreg c' c _ k)
  · exact absurd h.symm (hreg c' c _ k)
  · exact hcopy c c' k k' h

def allToks : Finset (GSem nD τ sig × ℕ × ℕ) := Finset.univ.map ⟨tokOf, tokOf_injective⟩

/-! ## Over the families, over a family's semaphores -/

section Split

theorem bigSep_fam (Φ : Fam → sProp 𝕄) : bigSep Finset.univ Φ = iprop(Φ A1 ∗ Φ B1 ∗ Φ A2 ∗ Φ B2 ∗ Φ A3 ∗ Φ B3 ∗ Φ A4 ∗ Φ B4) :=
  bigSep_univ_eq_bigSepL [A1, B1, A2, B2, A3, B3, A4, B4] (by decide) (by decide) Φ

theorem bigSep_bool (Φ : Bool → sProp 𝕄) : bigSep Finset.univ Φ = iprop(Φ true ∗ Φ false) :=
  bigSep_univ_eq_bigSepL [true, false] (by decide) (by decide) Φ

theorem bigSep_sum {I J : Type} [Fintype I] [Fintype J] (Φ : I ⊕ J → sProp 𝕄) :
    bigSep Finset.univ Φ = iprop((bigSep Finset.univ fun i => Φ (.inl i)) ∗ bigSep Finset.univ fun j => Φ (.inr j)) := BI.bigSep_univ_sum Φ

theorem bigSep_option {I : Type} [Fintype I] [DecidableEq I] (Φ : Option I → sProp 𝕄) : bigSep Finset.univ Φ = iprop(Φ none ∗ bigSep Finset.univ fun i => Φ (some i)) := by
  rw [bigSep_univ_equiv (Equiv.optionEquivSumPUnit.{0, 0} I).symm, bigSep_sum]
  refine (BI.equiv_iff.mp ⟨BI.sep_comm, BI.sep_comm⟩).trans (congrArg₂ BI.sep ?_ rfl)
  exact bigSep_univ_eq_bigSepL [PUnit.unit] (by decide) (by decide) _

theorem bigSep_shift (n : ℕ) (Φ : ℕ → sProp 𝕄) : (bigSep (Finset.univ : Finset (Fin n)) fun i => Φ (i.val + 1)) = bigSep (Finset.Ico 1 (n + 1)) Φ := by
  rw [bigSep_fin_range n (fun i => Φ (i + 1))]
  refine (bigSep_mapped (f := fun i => i + 1) (fun a _ b _ e => Nat.succ_injective e) ?_ Φ).symm
  ext x
  simp only [Finset.mem_image, Finset.mem_range, Finset.mem_Ico]
  exact ⟨fun ⟨a, h, e⟩ => by omega, fun h => ⟨x - 1, by omega, by omega⟩⟩

theorem bigSep_head {n : ℕ} (h : 0 < n) (Φ : ℕ → sProp 𝕄) : bigSep (Finset.range n) Φ = iprop(Φ 0 ∗ bigSep (Finset.Ico 1 n) Φ) := by
  rw [Finset.range_eq_Ico, bigSep_Ico_head h]

/-- A device's own semaphores, by family: the send ones by offset, the receive ones from the device's own slot on. -/
theorem own_cells (c : Dev nD) (Ψ : GSem nD τ sig → sProp 𝕄) :
    (bigSep Finset.univ fun k : KX => Ψ ((c : Thread nD τ), osem k)) = bigSep Finset.univ fun X : Fam =>
      iprop((Ψ (sCell X c 0) ∗ bigSep (Finset.Ico 1 (sz X)) fun o => Ψ (sCell X c o))
        ∗ Ψ (rCell X c (me X c)) ∗ bigSep (Finset.Ico 1 (sz X)) fun o => Ψ (rCell X c (pslot X c o))) := by
  rw [Pipeline.bigSep_univ_sigma]
  refine bigSep_congr fun X _ => ?_
  rw [bigSep_univ_prod, bigSep_bool]
  have h0 : 0 < sz X := by cases X <;> decide
  refine congrArg₂ BI.sep ?_ ?_
  · rw [← bigSep_head h0 fun o => Ψ (sCell X c o)]
    exact bigSep_fin_range (sz X) fun o => Ψ (sCell X c o)
  · exact (bigSep_fin_range (sz X) fun s => Ψ (rCell X c s)).trans (bigSep_rotate (me_lt X c) fun s => Ψ (rCell X c s))

end Split

/-- A device's tokens as minted, with those it uses by family. -/
theorem own_toks (c : Dev nD) :
    (bigSep Finset.univ fun t : TX => (dutyTok ER (tokOf (c, t)).1 (tokOf (c, t)).2.1 (tokOf (c, t)).2.2 : sProp 𝕄))
      ⊢ iprop(rowToks c ∗ colToks c ∗ bigSep Finset.univ fun X : Fam => toks X c) := by
  have hX : ∀ X : Fam, (bigSep Finset.univ fun t : Bool × Fin (sz X) => (dutyTok ER (tokOf (c, .inr ⟨X, t⟩)).1 (tokOf (c, .inr ⟨X, t⟩)).2.1 (tokOf (c, .inr ⟨X, t⟩)).2.2 : sProp 𝕄)) ⊢ toks X c := by
    intro X
    rw [bigSep_univ_prod, bigSep_bool]
    have h0 : 0 < sz X := by cases X <;> decide
    unfold toks
    rw [bigSep_sep']
    refine BIClass.sep_mono ?_ ?_
    · refine (Entails.of_eq ((bigSep_fin_range (sz X) fun o => (dutyTok ER (sCell X c o) 0 0 : sProp 𝕄)).trans (bigSep_head h0 _))).trans ?_
      iintro ⟨-, H⟩; iexact H
    · refine (Entails.of_eq ((bigSep_fin_range (sz X) fun o => (dutyTok ER (outCell X c o) 0 0 : sProp 𝕄)).trans (bigSep_head h0 _))).trans ?_
      iintro ⟨-, H⟩; iexact H
  rw [bigSep_sum, bigSep_sum, Pipeline.bigSep_univ_sigma]
  unfold rowToks colToks
  rw [← bigSep_shift 7, ← bigSep_shift 3]
  have hT : (bigSep Finset.univ fun X : Fam => bigSep Finset.univ fun t : Bool × Fin (sz X) => (dutyTok ER (tokOf (c, .inr ⟨X, t⟩)).1 (tokOf (c, .inr ⟨X, t⟩)).2.1 (tokOf (c, .inr ⟨X, t⟩)).2.2 : sProp 𝕄))
      ⊢ bigSep Finset.univ fun X : Fam => toks X c := bigSep_mono fun X _ => hX X
  iintro ⟨⟨H1, H2⟩, H3⟩
  isplitl [H1]; · iexact H1
  isplitl [H2]; · iexact H2
  iapply hT; iexact H3

end Cert.AllReduce

end
-- ==== Proof.Credits.lean ====
/-
The credits the devices' dues stand for at the launch: ten units on each barrier, a copy's on each receive semaphore.
-/
module

public import proofs.«01_k».proof.Proof.Deal

@[expose] public section

noncomputable section

namespace Cert.AllReduce

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Fam

variable {F : FTy → Type} [FloatOps F]

local notation "𝕄" => MT nD τ sig Unit (Elt F) ℕ UU ℕ

/-! ## What a list of payments brings a cell -/

def brings (g : GSem nD τ sig) (l : List Pay) : ℕ := (l.map fun p => if p.1 = g then p.2 else 0).sum

theorem tally_brings (g : GSem nD τ sig) : ∀ l : List Pay, tally l g () = brings g l
  | [] => rfl
  | p :: l => by
    show (tally l + tallyAt p.1 () p.2) g () = _
    rw [Pi.add_apply, Finsupp.add_apply, tally_brings g l, tallyAt_apply]
    unfold brings
    rw [List.map_cons, List.sum_cons, Nat.add_comm]
    by_cases h : p.1 = g
    · rw [if_pos ⟨h.symm, rfl⟩, if_pos h]
    · rw [if_neg (fun ⟨e, _⟩ => h e.symm), if_neg h]

theorem brings_append (g : GSem nD τ sig) (l l' : List Pay) : brings g (l ++ l') = brings g l + brings g l' := by
  unfold brings; rw [List.map_append, List.sum_append]

theorem brings_mem {g : GSem nD τ sig} {l : List Pay} {k : ℕ} (h : (g, k) ∈ l) : k ≤ brings g l := by
  unfold brings
  refine List.single_le_sum (fun _ _ => Nat.zero_le _) _ (List.mem_map.mpr ⟨(g, k), h, if_pos rfl⟩)

theorem launch_at (g : GSem nD τ sig) : launchCredit (Pipeline.owing fun d => due d 0) 0 g () = ∑ d : Dev nD, brings g (dueL d) := by
  rw [Pipeline.launchCredit_owing]
  exact Finset.sum_congr rfl fun d _ => tally_brings g _

/-- Signals at one offset, one from each device: exactly one reaches a given barrier. -/
theorem one_signal (X : Fam) (c : Dev nD) {o : ℕ} (ho : o ≤ sz X) : (∑ d : Dev nD, if barCell (peer X d o) = barCell c then 1 else 0) = 1 := by
  have e : ∀ d : Dev nD, (barCell (peer X d o) = barCell c) = (d = peer X c (sz X - o)) := by
    intro d
    refine propext ⟨fun h => ?_, fun h => ?_⟩
    · rw [← bar_inj h, peer_peer X d o ho]
    · subst h
      refine congrArg barCell ?_
      have := peer_peer X c (sz X - o) (Nat.sub_le _ _)
      rwa [Nat.sub_sub_self ho] at this
  simp only [e]
  rw [Finset.sum_ite_eq' Finset.univ (peer X c (sz X - o)) fun _ => 1, if_pos (Finset.mem_univ _)]

theorem signals (X : Fam) (c : Dev nD) {n : ℕ} (hn : n ≤ sz X) :
    (∑ d : Dev nD, brings (barCell c) ((List.range n).map fun i => (barCell (peer X d (i + 1)), 1))) = n := by
  induction n with
  | zero => exact Finset.sum_eq_zero fun _ _ => rfl
  | succ n ih =>
    have e : ∀ d : Dev nD, brings (barCell c) ((List.range (n + 1)).map fun i => (barCell (peer X d (i + 1)), 1))
        = brings (barCell c) ((List.range n).map fun i => (barCell (peer X d (i + 1)), 1)) + if barCell (peer X d (n + 1)) = barCell c then 1 else 0 := by
      intro d
      rw [List.range_succ, List.map_append, brings_append]
      rfl
    rw [Finset.sum_congr rfl fun d _ => e d, Finset.sum_add_distrib, ih (by omega), one_signal X c hn]

theorem bar_credit (c : Dev nD) : 10 ≤ launchCredit (Pipeline.owing fun d => due d 0) 0 (barCell c) () := by
  rw [launch_at]
  refine le_trans (le_of_eq ?_) (Finset.sum_le_sum fun d _ => show
    brings (barCell c) ((List.range 7).map fun i => (barCell (peer A1 d (i + 1)), 1)) + brings (barCell c) ((List.range 3).map fun i => (barCell (peer B1 d (i + 1)), 1)) ≤ brings (barCell c) (dueL d) from ?_)
  · rw [Finset.sum_add_distrib, signals A1 c (n := 7) (by decide), signals B1 c (n := 3) (by decide)]
  · unfold dueL
    rw [brings_append, brings_append, brings_append, brings_append, brings_append, brings_append, brings_append, brings_append, brings_append]
    omega

theorem mem_fam (X : Fam) (d : Dev nD) {p : Pay} (h : p ∈ famDue X d) : p ∈ dueL d := by
  unfold dueL
  simp only [List.mem_append]
  cases X <;> simp only [h, true_or, or_true]

theorem recv_credit (X : Fam) (c : Dev nD) {o : ℕ} (h1 : 1 ≤ o) (h2 : o < sz X) :
    cr X ≤ launchCredit (Pipeline.owing fun d => due d 0) 0 (rCell X c (pslot X c o)) () := by
  rw [launch_at]
  refine le_trans (brings_mem (g := rCell X c (pslot X c o)) (l := dueL (peer X c o)) (k := cr X) (mem_fam X _ ?_))
    (Finset.single_le_sum (f := fun d : Dev nD => brings (rCell X c (pslot X c o)) (dueL d)) (fun _ _ => Nat.zero_le _) (Finset.mem_univ (peer X c o)))
  unfold famDue
  refine List.mem_map.mpr ⟨sz X - o - 1, List.mem_range.mpr (by omega), ?_⟩
  rw [show sz X - o - 1 + 1 = sz X - o by omega]
  show (rCell X (peer X (peer X c o) (sz X - o)) (me X (peer X c o)), cr X) = _
  rw [peer_peer X c o (Nat.le_of_lt h2), me_peer]

/-! ## As credits -/

theorem cred_least (g : GSem nD τ sig) (t : Tally Unit) {n : ℕ} (h : n ≤ t ()) : (cred (tallyOn g t) : sProp 𝕄) ⊢ cred (tallyAt g () n) := by
  have e : (tallyOn g t : CellTallies nD τ sig Unit) = tallyAt g () n + tallyAt g () (t () - n) := by
    rw [tallyAt_add]
    unfold tallyAt
    refine congrArg _ (Finsupp.ext fun u => ?_)
    cases u
    rw [Finsupp.single_eq_same]
    exact (Nat.add_sub_cancel' h).symm
  rw [e]
  refine (cred_add _ _).1.trans ?_
  iintro ⟨H, -⟩; iexact H

theorem last_of (A B C D : sProp 𝕄) : iprop((A ∗ B) ∗ C ∗ D) ⊢ D := by
  iintro ⟨-, -, H⟩; iexact H

/-- The launch's credit on device `c`, kept where a wait draws it. -/
theorem creds (c : Dev nD) :
    (Pipeline.launchCred (fun d => due d 0) c : sProp 𝕄) ⊢ iprop(cred (tallyAt (barCell c) () 10)
      ∗ bigSep Finset.univ fun X : Fam => bigSep (Finset.Ico 1 (sz X)) fun o => cred (tallyAt (rCell X c (pslot X c o)) () (cr X))) := by
  unfold Pipeline.launchCred
  refine (BI.bigSep_subset (Finset.subset_univ (Finset.univ.image (csem : Option KX → SemLoc sig)))).trans ?_
  rw [bigSep_mapped (s := Finset.univ) (f := (csem : Option KX → SemLoc sig)) csem_injective.injOn rfl, bigSep_option,
    own_cells c fun g => (cred (tallyOn g (launchCredit (Pipeline.owing fun d => due d 0) 0 g)) : sProp 𝕄)]
  refine BIClass.sep_mono (cred_least _ _ (bar_credit c)) (bigSep_mono fun X _ => ?_)
  have h : (bigSep (Finset.Ico 1 (sz X)) fun o => (cred (tallyOn (rCell X c (pslot X c o)) (launchCredit (Pipeline.owing fun d => due d 0) 0 (rCell X c (pslot X c o)))) : sProp 𝕄))
      ⊢ bigSep (Finset.Ico 1 (sz X)) fun o => cred (tallyAt (rCell X c (pslot X c o)) () (cr X)) :=
    bigSep_mono fun o ho => cred_least _ _ (recv_credit X c (Finset.mem_Ico.mp ho).1 (Finset.mem_Ico.mp ho).2)
  exact (last_of _ _ _ _).trans h

end Cert.AllReduce

end
-- ==== Proof.Launch.lean ====
/-
The launch: every device's cells are opened and dealt, the body runs on each, and the whole mesh ends with the result.
-/
module

public import proofs.«01_k».proof.Proof.Credits

@[expose] public section

noncomputable section

namespace Cert.AllReduce

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Fam

variable {F : FTy → Type} [FloatOps F]

local notation "𝕄" => MT nD τ sig Unit (Elt F) ℕ UU ℕ

variable (m : (ℓ : Loc nD τ sig) → Buf (Elt F) ℓ) (ρ : Dev nD → PrngReg)

/-! ## The data of the one pipeline region -/

/-- Device `c`'s block of dy, as its window stages it. -/
def dyOf (c : Dev nD) : Vec F S512x2048 .f32 := (win0_0.blk t0_0).view.read (Elt F) (m ((c : Thread nD τ).loc main_arg0))
/-- Device `c`'s block of W, as its window stages it. -/
def wOf (c : Dev nD) : Vec F S512x2048 .f32 := (win0_1.blk t0_0).view.read (Elt F) (m ((c : Thread nD τ).loc main_arg1))
/-- The result, the same on every device. -/
def resOf : Vec F S512x512 .f32 := outV (dyOf m) (wOf m)

/-- What device `c` starts from: the records, under some names, and its own share. -/
def start (c : Dev nD) : sProp 𝕄 := iprop(∃ K, env (dyOf m) (wOf m) K ∗ held c)

def dats (_ : Fin 1) (c : Dev nD) : Pipeline.Dat τ (Elt F) Unit ℕ UU ℕ cfg0 c where
  A w := (s₀ m ρ).mem ((cfg0.win w).arr.view.loc (c : Thread nD τ))
  after w _ := match w with
    | ⟨0, _⟩ => dyOf m c
    | ⟨1, _⟩ => wOf m c
    | ⟨2, _⟩ => resOf m
  Φ t := match t with
    | ⟨0, _⟩ => iprop(start m c ∗ scr c)
    | ⟨_ + 1, _⟩ => iprop(sems c ∗ scr c)
  q _ := fullShare
  owed t := match t with
    | ⟨0, _⟩ => due c 0
    | ⟨_ + 1, _⟩ => 0

theorem before_dy (c : Dev nD) (d) : (dats m ρ 0 c).before (0 : Fin 3) t0_0 d = dyOf m c := by
  unfold Pipeline.Dat.before; rw [if_pos (fetch0_0 _)]; rfl
theorem before_w (c : Dev nD) (d) : (dats m ρ 0 c).before (1 : Fin 3) t0_0 d = wOf m c := by
  unfold Pipeline.Dat.before; rw [if_pos (fetch0_1 _)]; rfl

theorem owns_buf (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A staging buffer at some contents equal to `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre (c : Dev nD) : sProp 𝕄 :=
  iprop((start m c ∗ scr c) ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost (c : Dev nD) : sProp 𝕄 :=
  iprop((sems c ∗ scr c) ∗ (dats m ρ 0 c).owesAt () t0_0.succ
    ∗ stg c cc0_stg0_0 (dyOf m c) ∗ stg c cc0_stg1_0 (wOf m c) ∗ stg c cc0_stg2_0 (resOf m))

set_option maxRecDepth 8000 in
/-- The body at the launch's pre- and postcondition. -/
theorem body_sound (c : Dev nD) : bodyPre m ρ c ⊢ wp frame (wpE (defs₀ (F := F)) 𝒱₀ (c : Thread nD τ) none) Set.univ
    (cc0_body (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24) (fun _ => bodyPost m ρ c) := by
  unfold bodyPre start
  simp only [before_dy, before_w]
  iintro ⟨⟨⟨%K, #HE, Hh⟩, Hs⟩, ⟨%W, -, HO⟩, ⟨%d0, %f0, %e0, H0⟩, ⟨%d1, %f1, %e1, H1⟩, ⟨%d2, %f2, -, H2⟩⟩
  subst e0 e1
  iapply (sound_body (dyOf m) (wOf m) K (Q := fun _ => bodyPost m ρ c) c)
  isplitr; · iexact HE
  isplitl [Hh Hs H0 H1 H2 HO]
  · isplitl [Hh]; · iexact Hh
    isplitl [Hs]; · iexact Hs
    isplitl [H0]; · iexact H0
    isplitl [H1]; · iexact H1
    isplitl [H2]; · iexists f2; iexact H2
    unfold ow
    iexists W; iexact HO
  · unfold bodyPost
    iintro ⟨HS, Hs, H0, H1, H2, HO⟩
    unfold ow
    icases HO with ⟨%W', HO⟩
    isplitl [HS Hs]
    · isplitl [HS] <;> iassumption
    isplitl [HO]
    · iexists W'
      isplitr; · ipureintro; exact fun _ _ => Or.inl trivial
      iexact HO
    isplitl [H0]
    · iexists _; isplitr; · (ipureintro; rfl)
      iexact H0
    isplitl [H1]
    · iexists _; isplitr; · (ipureintro; rfl)
      iexact H1
    iexists _; isplitr; · (ipureintro; rfl)
    iexact H2

set_option maxRecDepth 100000 in
theorem body_obligation (c : Dev nD) : Pipeline.BodyObligation (dats (F := F) m ρ 0 c) (defs₀ (F := F)) 𝒱₀ () Set.univ := fun t => by
  rw [fin_N0 t]
  rw [show ∀ Φ : Fin cfg0.W → sProp 𝕄, bigSep Finset.univ Φ = iprop(Φ (0 : Fin 3) ∗ Φ (1 : Fin 3) ∗ Φ (2 : Fin 3)) from bigSep_W0,
    show ∀ Φ : Fin cfg0.W → sProp 𝕄, bigSep Finset.univ Φ = iprop(Φ (0 : Fin 3) ∗ Φ (1 : Fin 3) ∗ Φ (2 : Fin 3)) from bigSep_W0]
  simp only [owns_buf]
  show bodyPre m ρ c ⊢ wp frame (wpE (defs₀ (F := F)) 𝒱₀ (c : Thread nD τ) none) Set.univ (cc0_body (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24) (fun _ => bodyPost m ρ c)
  exact body_sound m ρ c

end Cert.AllReduce

end
-- ==== Proof.Run.lean ====
/-
The run of the whole mesh: the cells are opened, the tokens dealt, the region run, and the memory and the counters read off at the end.
-/
module

public import proofs.«01_k».proof.Proof.Launch
public import Idealize.ShloMosaic.Lib.Pipeline.CollectiveSegs

@[expose] public section

noncomputable section

namespace Cert.AllReduce

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Fam

variable {F : FTy → Type} [FloatOps F]

local notation "𝕄" => MT nD τ sig Unit (Elt F) ℕ UU ℕ

variable (m : (ℓ : Loc nD τ sig) → Buf (Elt F) ℓ) (ρ : Dev nD → PrngReg)

/-! ## From the launch element to every device's share -/

def u₀ : UU := (initOf (Pipeline.cells cfgs cellOf_inj) (Pipeline.launchToks cfgs cellOf_inj), initOf allCells allToks)

/-- A device's positions, on all its cells. -/
def spots (c : Dev nD) : sProp 𝕄 := bigSep Finset.univ fun k : Option KX => atPos ER (kcell (c, k)) 0 ∅ 0
/-- A device's tokens as minted. -/
def minted (c : Dev nD) : sProp 𝕄 := bigSep Finset.univ fun t : TX => dutyTok ER (tokOf (c, t)).1 (tokOf (c, t)).2.1 (tokOf (c, t)).2.2
/-- The marks of a device's cells. -/
def marks (c : Dev nD) : sProp 𝕄 := bigSep Finset.univ fun k : Option KX => reached ER (kcell (c, k)) 0

/-- What the launch element deals device `c`. -/
def G (c : Dev nD) : sProp 𝕄 :=
  iprop((bigSep Finset.univ fun k : Option KX => roundState ER (Rd (dyOf m) (wOf m)) (kcell (c, k)) 0) ∗ marks c ∗ spots c ∗ minted c)

/-- What it holds once the cells are open. -/
def G' (c : Dev nD) : sProp 𝕄 := iprop(∃ K, records (dyOf m) (wOf m) K ∗ spots c ∗ minted c)

theorem by_device (Φ : GSem nD τ sig → sProp 𝕄) : bigSep allCells Φ = bigSep Finset.univ fun c : Dev nD => bigSep Finset.univ fun k : Option KX => Φ (kcell (c, k)) := by
  unfold allCells; rw [bigSep_map, bigSep_univ_prod]; rfl

theorem toks_by_device : (bigSep allToks fun x => (dutyTok ER x.1 x.2.1 x.2.2 : sProp 𝕄)) = bigSep Finset.univ fun c : Dev nD => minted c := by
  unfold allToks minted; rw [bigSep_map, bigSep_univ_prod]; rfl

theorem deal : BI.own (ER (initOf allCells allToks)) ⊢ (|==> bigSep Finset.univ (G m) : sProp 𝕄) := by
  have hst := by_device (F := F) fun g => roundState ER (Rd (dyOf m) (wOf m)) g 0
  have hre := by_device (F := F) fun g => reached ER g 0
  have hat := by_device (F := F) fun g => atPos ER g 0 ∅ 0
  iintro HX
  imod (Rounds.fund ER (Rd (dyOf m) (wOf m)) allCells allToks) $$ HX with ⟨Hst, Hr, Hat, Htok⟩
  imodintro
  ihave Hst := (Entails.of_eq hst) $$ Hst
  ihave Hr := (Entails.of_eq hre) $$ Hr
  ihave Hat := (Entails.of_eq hat) $$ Hat
  ihave Htok := (Entails.of_eq toks_by_device) $$ Htok
  unfold G marks spots
  simp only [bigSep_sep']
  isplitl [Hst]; · iexact Hst
  isplitl [Hr]; · iexact Hr
  isplitl [Hat]; · iexact Hat
  iexact Htok

/-! ## The semaphores, by family -/

theorem barrier_sem (c : Dev nD) : (unscopedSems0 c : sProp 𝕄) = semVal (barCell c) 0 := by
  unfold unscopedSems0; rw [bigSep_eq_bigSepL_of_eq [SemLoc.reg barS] (by decide) (by decide)]; rfl

theorem all_sems (c : Dev nD) :
    iprop(Pipeline.ownSems0 (Ix := Unit) (Name := ℕ) (U := UU) (Lvl := ℕ) (Val := Elt F) (τ := τ) osem c ∗ unscopedSems0 c)
      = (bigSep Finset.univ fun k : Option KX => semVal (kcell (c, k)) 0 : sProp 𝕄) := by
  rw [bigSep_option, barrier_sem]
  exact BI.equiv_iff.mp ⟨BI.sep_comm, BI.sep_comm⟩

/-- One device's cells, opened. -/
theorem open_cells (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Option KX => iprop(∃ κ : ℕ, cellInv ER (Rd (dyOf m) (wOf m)) κ (kcell (c, k)))) ∗ marks c ∗ spots c ∗ minted c) := by
  have hin : iprop((bigSep Finset.univ fun k : Option KX => semVal (kcell (c, k)) 0) ∗ bigSep Finset.univ fun k : Option KX => roundState ER (Rd (dyOf m) (wOf m)) (kcell (c, k)) 0)
      ⊢ (|={Set.univ}=> bigSep Finset.univ fun k : Option KX => iprop(∃ κ : ℕ, cellInv ER (Rd (dyOf m) (wOf m)) κ (kcell (c, k))) : sProp 𝕄) := by
    rw [← bigSep_sep']
    exact (bigSep_mono fun k _ => (Rounds.body_intro ER (Rd (dyOf m) (wOf m)) (kcell (c, k))).trans inv_alloc).trans (bigSep_fupd _ _)
  unfold G
  iintro ⟨Ho, Hu, Hst, Hr, Hat, Htok⟩
  ihave Hv := (Entails.of_eq (all_sems (F := F) c)) $$ [Ho Hu]
  · isplitl [Ho] <;> iassumption
  imod hin $$ [Hv Hst] with HI
  · isplitl [Hv] <;> iassumption
  imodintro
  isplitl [HI]; · iexact HI
  isplitl [Hr]; · iexact Hr
  isplitl [Hat] <;> iassumption

theorem share_out {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

/-- The names of all the cells, gathered, are the records every device keeps. -/
theorem gather :
    (bigSep Finset.univ fun c : Dev nD => iprop((bigSep Finset.univ fun k : Option KX => iprop(∃ κ : ℕ, cellInv ER (Rd (dyOf m) (wOf m)) κ (kcell (c, k)))) ∗ marks c ∗ spots c ∗ minted c) : sProp 𝕄)
      ⊢ bigSep Finset.univ (G' m) := by
  have hI := bigSep_univ_prod (fun ck : Dev nD × Option KX => (iprop(∃ κ : ℕ, cellInv ER (Rd (dyOf m) (wOf m)) κ (kcell ck)) : sProp 𝕄))
  have hR := bigSep_univ_prod (fun ck : Dev nD × Option KX => (reached ER (kcell ck) 0 : sProp 𝕄))
  rw [bigSep_sep', bigSep_sep']
  iintro ⟨HI, HM, HL⟩
  ihave HI := (Entails.of_eq hI.symm) $$ HI
  ihave HI := (BI.bigSep_exists_pi Finset.univ (fun (ck : Dev nD × Option KX) (κ : ℕ) => (cellInv ER (Rd (dyOf m) (wOf m)) κ (kcell ck) : sProp 𝕄))) $$ HI
  icases HI with ⟨%K, HI⟩
  unfold marks
  ihave HM := (Entails.of_eq hR.symm) $$ HM
  iapply (share_out (R := records (dyOf m) (wOf m) K) (Φ := fun c => iprop(spots c ∗ minted c)) (Ψ := G' m) (fun c => by
    unfold G'
    iintro ⟨HR, HL⟩
    iexists K
    isplitl [HR] <;> iassumption))
  isplitl [HI HM]
  · unfold records
    isplitl [HI] <;> iassumption
  · iexact HL

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => open_cells m c).trans (bigSep_fupd _ _)).trans (BI.fupd_mono (gather m))

/-! ## In and out of the region -/

/-- One family's part. -/
theorem fam_in (X : Fam) (c : Dev nD) :
    iprop(toks X c ∗ (bigSep (Finset.Ico 1 (sz X)) fun o => cred (tallyAt (rCell X c (pslot X c o)) () (cr X)))
        ∗ ((atPos ER (sCell X c 0) 0 ∅ 0 ∗ bigSep (Finset.Ico 1 (sz X)) fun o => atPos ER (sCell X c o) 0 ∅ 0)
          ∗ atPos ER (rCell X c (me X c)) 0 ∅ 0 ∗ bigSep (Finset.Ico 1 (sz X)) fun o => atPos ER (rCell X c (pslot X c o)) 0 ∅ 0))
      ⊢ (famStart X c : sProp 𝕄) := by
  unfold famStart toRecv toDone
  rw [bigSep_sep']
  iintro ⟨Ht, Hc, ⟨H1, H2⟩, H3, H4⟩
  isplitl [Ht]; · iexact Ht
  isplitl [Hc H4]
  · isplitl [Hc] <;> iassumption
  isplitl [H2]; · iexact H2
  isplitl [H1] <;> iassumption

theorem fams_in (c : Dev nD) :
    iprop((bigSep Finset.univ fun X : Fam => toks X c)
        ∗ (bigSep Finset.univ fun X : Fam => bigSep (Finset.Ico 1 (sz X)) fun o => cred (tallyAt (rCell X c (pslot X c o)) () (cr X)))
        ∗ (bigSep Finset.univ fun X : Fam => iprop((atPos ER (sCell X c 0) 0 ∅ 0 ∗ bigSep (Finset.Ico 1 (sz X)) fun o => atPos ER (sCell X c o) 0 ∅ 0)
          ∗ atPos ER (rCell X c (me X c)) 0 ∅ 0 ∗ bigSep (Finset.Ico 1 (sz X)) fun o => atPos ER (rCell X c (pslot X c o)) 0 ∅ 0)))
      ⊢ (iprop(famStart A1 c ∗ famStart B1 c ∗ famStart A2 c ∗ famStart B2 c ∗ famStart A3 c ∗ famStart B3 c ∗ famStart A4 c ∗ famStart B4 c) : sProp 𝕄) := by
  rw [← bigSep_sep', ← bigSep_sep', ← bigSep_fam fun X => famStart X c]
  exact bigSep_mono fun X _ => fam_in X c

/-- The share of a device, put in order. -/
theorem held_in (c : Dev nD) :
    iprop(spots c ∗ minted c ∗ Pipeline.launchCred (fun d => due d 0) c) ⊢ (held c : sProp 𝕄) := by
  have hs : (spots c : sProp 𝕄) = iprop(atPos ER (barCell c) 0 ∅ 0 ∗ bigSep Finset.univ fun X : Fam =>
      iprop((atPos ER (sCell X c 0) 0 ∅ 0 ∗ bigSep (Finset.Ico 1 (sz X)) fun o => atPos ER (sCell X c o) 0 ∅ 0)
        ∗ atPos ER (rCell X c (me X c)) 0 ∅ 0 ∗ bigSep (Finset.Ico 1 (sz X)) fun o => atPos ER (rCell X c (pslot X c o)) 0 ∅ 0)) := by
    unfold spots
    rw [bigSep_option]
    exact congrArg₂ BI.sep rfl (own_cells c fun g => (atPos ER g 0 ∅ 0 : sProp 𝕄))
  unfold held
  iintro ⟨Hs, Ht, Hc⟩
  ihave Hs := (Entails.of_eq hs) $$ Hs
  icases Hs with ⟨Hb, Hs⟩
  unfold minted
  ihave Ht := (own_toks c) $$ Ht
  icases Ht with ⟨Hr, Hl, Ht⟩
  ihave Hc := (creds c) $$ Hc
  icases Hc with ⟨Hbc, Hc⟩
  isplitl [Hr]; · iexact Hr
  isplitl [Hl]; · iexact Hl
  isplitl [Hb Hbc]
  · isplitl [Hbc] <;> iassumption
  iapply (fams_in c)
  isplitl [Ht]; · iexact Ht
  isplitl [Hc] <;> iassumption

theorem start_in (c : Dev nD) :
    iprop(Pipeline.unscopedRestP Pipeline.Prefetch.none cfg0.spec c (fun b => m ((c : Thread nD τ).loc b)) ∗ levAts L lv
        ∗ Pipeline.launchCred (fun d => due d 0) c ∗ prngReg c (ρ c) ∗ G' m c)
      ⊢ |={Set.univ}=> iprop(start m c ∗ emp) := by
  unfold G' start env
  iintro ⟨-, #Hl, Hc, -, ⟨%K, #HR, Hs, Ht⟩⟩
  imodintro
  isplitl
  · iexists K
    isplitr
    · isplitr; · iexact HR
      iexact Hl
    iapply (held_in c)
    isplitl [Hs]; · iexact Hs
    isplitl [Ht] <;> iassumption
  · iempintro

theorem region_in (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m c ∗ scr c) from rfl, show (Pipeline.scopedRest cfg0.spec c : sProp 𝕄) = scr c from scopedRest0_eq c]
  iintro ⟨Hs, -, Hr⟩
  isplitl [Hs] <;> iassumption

/-- The semaphores at the end, as the launch counts them. -/
theorem sems_out (c : Dev nD) : (sems c : sProp 𝕄) ⊢ iprop(unscopedSems0 c ∗ Pipeline.ownSems0 (Ix := Unit) (Name := ℕ) (U := UU) (Lvl := ℕ) (Val := Elt F) (τ := τ) osem c) := by
  have he : (Pipeline.ownSems0 (Ix := Unit) (Name := ℕ) (U := UU) (Lvl := ℕ) (Val := Elt F) (τ := τ) osem c : sProp 𝕄) = bigSep Finset.univ fun X : Fam =>
      iprop((semVal (sCell X c 0) 0 ∗ bigSep (Finset.Ico 1 (sz X)) fun o => semVal (sCell X c o) 0)
        ∗ semVal (rCell X c (me X c)) 0 ∗ bigSep (Finset.Ico 1 (sz X)) fun o => semVal (rCell X c (pslot X c o)) 0) := own_cells c fun g => (semVal g 0 : sProp 𝕄)
  have hf : (bigSep Finset.univ fun X : Fam => (famEnd X c : sProp 𝕄)) ⊢ bigSep Finset.univ fun X : Fam =>
      iprop((semVal (sCell X c 0) 0 ∗ bigSep (Finset.Ico 1 (sz X)) fun o => semVal (sCell X c o) 0)
        ∗ semVal (rCell X c (me X c)) 0 ∗ bigSep (Finset.Ico 1 (sz X)) fun o => semVal (rCell X c (pslot X c o)) 0) :=
    bigSep_mono fun X _ => show (famEnd X c : sProp 𝕄) ⊢ _ from by
      unfold famEnd idle gotSem backSem
      iintro ⟨⟨H1, H2⟩, H3, H4⟩
      isplitl [H1 H4]
      · isplitl [H1] <;> iassumption
      isplitl [H2] <;> iassumption
  rw [barrier_sem, he]
  unfold sems
  rw [← bigSep_fam fun X => famEnd X c]
  iintro ⟨Hb, Hf⟩
  isplitl [Hb]; · iexact Hb
  iapply hf; iexact Hf

theorem region_out (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = iprop(sems c ∗ scr c) from rfl, show (Pipeline.scopedRest cfg0.spec c : sProp 𝕄) = scr c from scopedRest0_eq c]
  iintro ⟨Hs, Hr⟩
  ihave Hs := (sems_out c) $$ Hs
  icases Hs with ⟨Hu, Ho⟩
  isplitl [Hu]; · iexact Hu
  isplitl [Ho] <;> iassumption

theorem stage_level : ∀ (w : Fin cfg0.W) (s : Fin (cfg0.spec w).nbuf) (c : Dev nD), lv ((c : Thread nD τ), .dma ((cfg0.spec w).sem s)) () = 0 :=
  fun w s _ => if_pos (stage_low w s)

/-- The staging copies' waits: all a device owes is at higher levels. -/
theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait c _ 0 0 (Nat.le_of_eq (stage_level w s c)) (by decide)
    · show _ ⊢ MayWait _ _ _ (0 : CellTallies nD τ sig Unit)
      rw [MayWait_zero]; iintro -; iempintro

theorem share_full (c : Dev nD) (w : Fin cfg0.W) : (dats m ρ 0 c).share w = fullShare := by unfold Pipeline.Dat.share; split <;> rfl

/-! ## The run -/

/-- A window's array at the end. -/
def endOf (c : Dev nD) (w : Fin cfg0.W) : Buf (Elt F) ((cfg0.win w).arr.view.loc (c : Thread nD τ)) := (dats m ρ 0 c).arrAt w cfg0.N

set_option maxRecDepth 100000 in
theorem run_raw : θ_run defs (onTc (τ := τ) (main (F := F))) (s₀ m ρ)
    (fun r => (∀ (c : Dev nD) (w : Fin cfg0.W), r.2.mem ((cfg0.win w).arr.view.loc (c : Thread nD τ)) = endOf m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_full m ρ)
    (hdistinct := winFacts0.arr_inj)
    (O₀ := fun d => due d 0) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (deal m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_in m ρ) (hin := region_in m ρ) (hout := region_out m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The memory at the end -/

theorem dyOf_eq (c : Dev nD) : dyOf m c = m ((c : Thread nD τ).loc main_arg0) := by
  unfold dyOf
  exact Memref.read_access_unit_zero (Elt F) main_arg0 (funext fun a => by fin_cases a <;> decide) (fun a => by fin_cases a <;> decide) _
theorem wOf_eq (c : Dev nD) : wOf m c = m ((c : Thread nD τ).loc main_arg1) := by
  unfold wOf
  exact Memref.read_access_unit_zero (Elt F) main_arg1 (funext fun a => by fin_cases a <;> decide) (fun a => by fin_cases a <;> decide) _

theorem end_res (c : Dev nD) : endOf m ρ c (2 : Fin 3) = resOf m := by
  have h : (win0_2.blk t0_0).view.read (Elt F) (endOf m ρ c (2 : Fin 3)) = resOf m := by
    unfold endOf
    rw [show cfg0.N = (t0_0 : Fin cfg0.N).val + 1 from rfl, (dats m ρ 0 c).arrAt_succ (2 : Fin 3) t0_0, if_pos (flush0_2 t0_0)]
    exact View.read_write_univ _ _
  exact (Memref.read_access_unit_zero (Elt F) main_v1 (funext fun a => by fin_cases a <;> decide) (fun a => by fin_cases a <;> decide) _).symm.trans h

/-- At the mesh of 32 devices, for any float operations, from any memory with zero counters: every weakly fair execution terminates, and
    every final state has each device's result array at `resOf`, its arguments unchanged and every counter at zero. -/
theorem run_main : θ_run defs (onTc (τ := τ) (main (F := F))) ⟨m, fun _ => 0, ρ⟩
    (fun r => (∀ c : Dev nD, r.2.mem ((c.tc : Thread nD τ).loc main_v1) = resOf m
        ∧ r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0) :=
  (θ_run defs _ _).mono (fun _ h => ⟨fun c => ⟨(h.1 c (2 : Fin 3)).trans (end_res m ρ c),
      (h.1 c (0 : Fin 3)).trans ((dats (F := F) m ρ 0 c).arrAt_in (0 : Fin 3) rfl _),
      (h.1 c (1 : Fin 3)).trans ((dats (F := F) m ρ 0 c).arrAt_in (1 : Fin 3) rfl _)⟩, h.2⟩) (run_raw m ρ)

end Cert.AllReduce

end
-- ==== Proof.Algebra.lean ====
/-
The sum the kernel computes, over the extended reals.

A device's partial product is a sum of 2048 products. The kernel adds the 32 partial products in two stages: half `A`
over the ranks and then over the groups, half `B` the other way. Over the extended reals the order does not matter, and
the 32 sums of 2048 are the reference's sum of 65536.
-/
module

public import proofs.«01_k».proof.Proof.Contents
public import Idealize.ShloMosaic.Lib.MatmulPlain
public import Idealize.ShloMosaic.Lib.StackMember
public import Idealize.ShloMosaic.Lib.Layout

@[expose] public section

noncomputable section

namespace Cert.AllReduce

open Cert.KernelIdeal Cert.KernelIdeal.Gen
open Idealize.ShloMosaic Idealize.ShloMosaic.TcCoe Idealize.ShloMosaic.ValueIdx
open Fam
open scoped BigOperators

/-! ## Sums over a ring and over the mesh -/

/-- A ring of eight, added from any member on, is the sum over its members. -/
theorem ring8 (f : ℕ → EReal) (a : ℕ) (ha : a < 8) :
    ∑ o ∈ Finset.range 8, f ((a + o) % 8) = ∑ s ∈ Finset.range 8, f s := by
  refine Finset.sum_bij (fun o _ => (a + o) % 8) ?_ ?_ ?_ (fun _ _ => rfl)
  · intro o _; exact Finset.mem_range.2 (Nat.mod_lt _ (by omega))
  · intro x hx y hy h
    have := Finset.mem_range.1 hx; have := Finset.mem_range.1 hy
    omega
  · intro s hs
    have := Finset.mem_range.1 hs
    exact ⟨(s + 8 - a) % 8, Finset.mem_range.2 (Nat.mod_lt _ (by omega)), by omega⟩

/-- A ring of four, likewise. -/
theorem ring4 (f : ℕ → EReal) (a : ℕ) (ha : a < 4) :
    ∑ o ∈ Finset.range 4, f ((a + o) % 4) = ∑ s ∈ Finset.range 4, f s := by
  refine Finset.sum_bij (fun o _ => (a + o) % 4) ?_ ?_ ?_ (fun _ _ => rfl)
  · intro o _; exact Finset.mem_range.2 (Nat.mod_lt _ (by omega))
  · intro x hx y hy h
    have := Finset.mem_range.1 hx; have := Finset.mem_range.1 hy
    omega
  · intro s hs
    have := Finset.mem_range.1 hs
    exact ⟨(s + 4 - a) % 4, Finset.mem_range.2 (Nat.mod_lt _ (by omega)), by omega⟩

/-- The sum over the groups and the ranks is the sum over the devices. -/
theorem mesh_sum (f : Dev nD → EReal) :
    ∑ g ∈ Finset.range 4, ∑ r ∈ Finset.range 8, f (dev g r) = ∑ c : Dev nD, f c := by
  rw [← Finset.sum_product']
  refine Finset.sum_bij (fun p _ => dev p.1 p.2) (fun _ _ => Finset.mem_univ _) ?_ ?_ (fun _ _ => rfl)
  · rintro ⟨a, b⟩ hx ⟨a', b'⟩ hy h
    have h1 := Finset.mem_product.1 hx; have h2 := Finset.mem_product.1 hy
    have := Finset.mem_range.1 h1.1; have := Finset.mem_range.1 h1.2
    have := Finset.mem_range.1 h2.1; have := Finset.mem_range.1 h2.2
    have hv := congrArg Fin.val h
    dsimp only at *
    rw [dev_val _ _ (by omega) (by omega), dev_val _ _ (by omega) (by omega)] at hv
    refine Prod.ext ?_ ?_ <;> dsimp only <;> omega
  · intro c _
    have := c_lt c
    exact ⟨(c.val / 8, c.val % 8), Finset.mem_product.2 ⟨Finset.mem_range.2 (by dsimp only; omega), Finset.mem_range.2 (by dsimp only; omega)⟩, dev_me c⟩

section
variable (dyV wV : Dev nD → Vec Ideal S512x2048 .f32)

/-! ## The partial product -/

/-- An entry of a device's partial product. -/
theorem pV_apply (c : Dev nD) (r j : Fin 512) :
    pV dyV wV c (ix2 r j) = ∑ k : Fin 2048, dyV c (ix2 r k) * wV c (ix2 j k) := by
  unfold pV k0_pay1
  rw [shapeCast_self, shapeCast_self, shapeCast_self]
  refine (Ideal.matmul_transposedRhs_apply (M := 512) (K := 2048) (N := 512) none (dyV c) (wV c) (constant (F := Ideal) S512x512 .f32 0x00000000#32) r j).trans ?_
  show Ideal.ofBits .f32 0x00000000#32 + _ = _
  rw [Ideal.ofBits_zero_f32, zero_add]

/-! ## The first phase -/

/-- The running sum over the ranks. -/
theorem accA_apply (c : Dev nD) (i : Fin 32) (j : Fin 512) (k : ℕ) :
    accA dyV wV c k (ix2 i j)
      = ∑ o ∈ Finset.range (k + 1), pV dyV wV (dev (c.val / 8) ((c.val % 8 + o) % 8)) (mk2 (32 * (c.val % 8) + i.val) j) := by
  induction k with
  | zero =>
    rw [Finset.sum_range_one, Nat.add_zero, Nat.mod_mod, dev_me]
    unfold accA k0_pay2
    rw [shapeCast_self]
    rfl
  | succ k ih =>
    rw [Finset.sum_range_succ, ← ih]
    conv_lhs => unfold accA k0_pay4
    rw [shapeCast_self]
    show accA dyV wV c k (ix2 i j) + shapeCast S32x512 _ _ (ix2 i j) = _
    refine congrArg (accA dyV wV c k (ix2 i j) + ·) ?_
    refine (shapeCast_dropUnit_apply ![32, 512] (slotA1 dyV wV c (pslot A1 c (k + 1))) _ (ix2 i j)).trans ?_
    unfold slotA1 rsA1V
    dsimp only
    have hp : pslot A1 c (k + 1) = (c.val % 8 + (k + 1)) % 8 := rfl
    rw [hp]
    have hs : (Fin.ofNat 8 ((c.val % 8 + (k + 1)) % 8)).val = (c.val % 8 + (k + 1)) % 8 := Nat.mod_mod _ _
    show pV dyV wV (dev (c.val / 8) (Fin.ofNat 8 ((c.val % 8 + (k + 1)) % 8)).val) (mk2 (32 * (c.val % 8) + i.val) j) = _
    rw [hs]

/-- The sum over the ranks of the device's group. -/
theorem redAV_apply (c : Dev nD) (i : Fin 32) (j : Fin 512) :
    redAV dyV wV c (ix2 i j)
      = ∑ r ∈ Finset.range 8, pV dyV wV (dev (c.val / 8) r) (mk2 (32 * (c.val % 8) + i.val) j) := by
  unfold redAV
  rw [accA_apply]
  exact ring8 (fun r => pV dyV wV (dev (c.val / 8) r) (mk2 (32 * (c.val % 8) + i.val) j)) _ (Nat.mod_lt _ (by omega))

/-- The running sum over the groups. -/
theorem accB_apply (c : Dev nD) (i : Fin 64) (j : Fin 512) (k : ℕ) :
    accB dyV wV c k (ix2 i j)
      = ∑ o ∈ Finset.range (k + 1), pV dyV wV (dev ((c.val / 8 + o) % 4) (c.val % 8)) (mk2 (64 * (c.val / 8) + 256 + i.val) j) := by
  have hc := c_lt c
  induction k with
  | zero =>
    rw [Finset.sum_range_one, Nat.add_zero, Nat.mod_eq_of_lt (a := c.val / 8) (b := 4) (by omega), dev_me]
    unfold accB k0_pay3
    rw [shapeCast_self]
    rfl
  | succ k ih =>
    rw [Finset.sum_range_succ, ← ih]
    conv_lhs => unfold accB k0_pay11
    rw [shapeCast_self]
    show accB dyV wV c k (ix2 i j) + shapeCast S64x512 _ _ (ix2 i j) = _
    refine congrArg (accB dyV wV c k (ix2 i j) + ·) ?_
    refine (shapeCast_dropUnit_apply ![64, 512] (slotB1 dyV wV c (pslot B1 c (k + 1))) _ (ix2 i j)).trans ?_
    unfold slotB1 rsB1V
    dsimp only
    have hp : pslot B1 c (k + 1) = (c.val / 8 + (k + 1)) % 4 := rfl
    rw [hp]
    have hs : (Fin.ofNat 4 ((c.val / 8 + (k + 1)) % 4)).val = (c.val / 8 + (k + 1)) % 4 := Nat.mod_mod _ _
    show pV dyV wV (dev (Fin.ofNat 4 ((c.val / 8 + (k + 1)) % 4)).val (c.val % 8)) (mk2 (64 * (c.val / 8) + 256 + i.val) j) = _
    rw [hs]

/-- The sum over the groups, at the device's rank. -/
theorem redBV_apply (c : Dev nD) (i : Fin 64) (j : Fin 512) :
    redBV dyV wV c (ix2 i j)
      = ∑ g ∈ Finset.range 4, pV dyV wV (dev g (c.val % 8)) (mk2 (64 * (c.val / 8) + 256 + i.val) j) := by
  have hc := c_lt c
  unfold redBV
  rw [accB_apply]
  exact ring4 (fun g => pV dyV wV (dev g (c.val % 8)) (mk2 (64 * (c.val / 8) + 256 + i.val) j)) _ (by omega)

/-! ## The second phase -/

/-- A finished row of half `A`: the sum over all groups and ranks. -/
theorem sumAV_apply (c : Dev nD) (i : Fin 8) (j : Fin 512) :
    sumAV dyV wV c (ix3 (0 : Fin 1) i j)
      = ∑ g ∈ Finset.range 4, ∑ r ∈ Finset.range 8, pV dyV wV (dev g r) (mk2 (32 * (c.val % 8) + 8 * (c.val / 8) + i.val) j) := by
  have hc := c_lt c
  unfold sumAV k0_pay16
  dsimp only
  rw [shapeCast_self]
  refine (shapeCast_addUnit_apply ![8, 512] _ _ (ix3 (0 : Fin 1) i j)).trans ?_
  refine (Ideal.multiReduction_add_single (rsA2V dyV wV c) _ _ _ _ _).trans ?_
  rw [Finset.sum_range]
  refine Finset.sum_congr rfl fun g _ => ?_
  show redAV dyV wV (dev g.val (c.val % 8)) (ix2 (Fin.ofNat 32 (8 * (c.val / 8) + i.val)) j) = _
  rw [redAV_apply, dev_val _ _ g.isLt (by omega)]
  refine Finset.sum_congr rfl fun r _ => ?_
  have h1 : (8 * g.val + c.val % 8) / 8 = g.val := by omega
  have h2 : 32 * ((8 * g.val + c.val % 8) % 8) + (Fin.ofNat 32 (8 * (c.val / 8) + i.val)).val
      = 32 * (c.val % 8) + 8 * (c.val / 8) + i.val := by
    show _ + (8 * (c.val / 8) + i.val) % 32 = _
    have := i.isLt
    omega
  rw [h1, h2]

/-- A finished row of half `B`, likewise. -/
theorem sumBV_apply (c : Dev nD) (i : Fin 8) (j : Fin 512) :
    sumBV dyV wV c (ix3 (0 : Fin 1) i j)
      = ∑ g ∈ Finset.range 4, ∑ r ∈ Finset.range 8, pV dyV wV (dev g r) (mk2 (64 * (c.val / 8) + 256 + 8 * (c.val % 8) + i.val) j) := by
  have hc := c_lt c
  rw [Finset.sum_comm]
  unfold sumBV k0_pay17
  dsimp only
  rw [shapeCast_self]
  refine (shapeCast_addUnit_apply ![8, 512] _ _ (ix3 (0 : Fin 1) i j)).trans ?_
  refine (Ideal.multiReduction_add_single (rsB2V dyV wV c) _ _ _ _ _).trans ?_
  rw [Finset.sum_range]
  refine Finset.sum_congr rfl fun r _ => ?_
  show redBV dyV wV (dev (c.val / 8) r.val) (ix2 (Fin.ofNat 64 (8 * (c.val % 8) + i.val)) j) = _
  have hr : r.val < 8 := r.isLt
  rw [redBV_apply, dev_val _ _ (by omega) hr]
  refine Finset.sum_congr rfl fun g _ => ?_
  have h1 : (8 * (c.val / 8) + r.val) % 8 = r.val := by omega
  have h2 : 64 * ((8 * (c.val / 8) + r.val) / 8) + 256 + (Fin.ofNat 64 (8 * (c.val % 8) + i.val)).val
      = 64 * (c.val / 8) + 256 + 8 * (c.val % 8) + i.val := by
    show _ + (8 * (c.val % 8) + i.val) % 64 = _
    have := i.isLt
    omega
  rw [h1, h2]

/-- An entry of the result is the sum of the 32 partial products' entries. -/
theorem outV_apply (r j : Fin 512) : outV dyV wV (ix2 r j) = ∑ c : Dev nD, pV dyV wV c (ix2 r j) := by
  have hr := r.isLt
  have e : mk2 r.val j = ix2 r j := by unfold mk2; rw [ofNat_val]
  rw [← mesh_sum (fun c => pV dyV wV c (ix2 r j))]
  unfold outV
  show (if r.val < 256 then
      sumAV dyV wV (dev (r.val % 32 / 8) (r.val / 32)) (ix3 (0 : Fin 1) (Fin.ofNat 8 (r.val % 8)) j)
    else
      sumBV dyV wV (dev ((r.val - 256) / 64) ((r.val - 256) % 64 / 8)) (ix3 (0 : Fin 1) (Fin.ofNat 8 (r.val % 8)) j)) = _
  split
  · rw [sumAV_apply, dev_val _ _ (by omega) (by omega)]
    have h : 32 * ((8 * (r.val % 32 / 8) + r.val / 32) % 8) + 8 * ((8 * (r.val % 32 / 8) + r.val / 32) / 8) + (Fin.ofNat 8 (r.val % 8)).val = r.val := by
      show _ + r.val % 8 % 8 = _
      omega
    rw [h, e]
  · rw [sumBV_apply, dev_val _ _ (by omega) (by omega)]
    have h : 64 * ((8 * ((r.val - 256) / 64) + (r.val - 256) % 64 / 8) / 8) + 256 + 8 * ((8 * ((r.val - 256) / 64) + (r.val - 256) % 64 / 8) % 8) + (Fin.ofNat 8 (r.val % 8)).val = r.val := by
      show _ + r.val % 8 % 8 = _
      omega
    rw [h, e]

/-! ## Against one product of the whole arrays -/

/-- A sum of `a · b` terms is `a` sums of `b`. -/
theorem split_sum (a b : ℕ) (f : Fin (a * b) → EReal) :
    ∑ k : Fin (a * b), f k = ∑ c : Fin a, ∑ k : Fin b, f (finProdFinEquiv (c, k)) := by
  rw [← finProdFinEquiv.sum_comp, Fintype.sum_prod_type]

/-- If the devices hold the 32 column blocks of `dy` and `w`, an entry of the result is the whole product's. -/
theorem outV_whole (dy w : (⟨2, ![512, 65536]⟩ : Shape).Idx → EReal)
    (hd : ∀ c : Dev nD, dyV c = Layout.block ⟨2, ![512, 2048]⟩ ⟨2, ![512, 65536]⟩ 1 32 c dy)
    (hw : ∀ c : Dev nD, wV c = Layout.block ⟨2, ![512, 2048]⟩ ⟨2, ![512, 65536]⟩ 1 32 c w) (r j : Fin 512) :
    outV dyV wV (ix2 r j) = ∑ k : Fin 65536, dy (ix2 r k) * w (ix2 j k) := by
  rw [outV_apply]
  refine Eq.trans ?_ (split_sum 32 2048 fun k => dy (ix2 r k) * w (ix2 j k)).symm
  refine Finset.sum_congr rfl fun c _ => ?_
  rw [pV_apply]
  refine Finset.sum_congr rfl fun k _ => ?_
  have hi : ∀ (h : Layout.Tiles ⟨2, ![512, 2048]⟩ ⟨2, ![512, 65536]⟩ 1 32) (a : Fin 512),
      h.idx c (ix2 a k) = ix2 a (finProdFinEquiv (m := 32) (n := 2048) (c, k)) := fun h a => by
    funext b
    match b with
    | ⟨0, _⟩ => rfl
    | ⟨1, _⟩ =>
      refine Fin.ext ?_
      show c.val * 2048 + k.val = k.val + 2048 * c.val
      omega
  rw [hd, hw, Layout.block_apply, Layout.block_apply, hi, hi]

end

end Cert.AllReduce

end
-- ==== Proof.Claims.lean ====
/-
The claims: both programs of the kernel and the reference run, keep their arguments and leave every counter at zero; and
at the ideal numbers every device ends with the reference's whole product.
-/
module

public import proofs.«01_k».proof.Defs
public import proofs.«01_k».proof.Proof.Run
public import proofs.«01_k».proof.Proof.Algebra
public import proofs.«01_k».proof.Proof.Gen.Kernel
public import proofs.«01_k».proof.Proof.Gen.ReferenceIdeal.Run

@[expose] public section

noncomputable section

namespace Cert.AllReduce

open Idealize.ShloMosaic Idealize.ShloMosaic.TcCoe Idealize.ShloMosaic.ValueIdx Idealize.SL.Sem
open scoped BigOperators

instance kernelFacts : Cert.Kernel.Facts := Cert.Kernel.Gen.facts

/-- The run's part about the arguments and the counters. -/
theorem kept {F : FTy → Type} [FloatOps F] (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => (h.1 c).2, h.2⟩) (run_main m ρ)

/-- The two prints of the kernel have the same body table: -/
theorem bodies_same : Cert.Kernel.defs₀ (F := Bits) = Cert.KernelIdeal.defs₀ (F := Bits) := by
  unfold Cert.Kernel.defs₀ Cert.KernelIdeal.defs₀
  refine congrArg Defs.onTc (funext fun l => funext fun x => ?_)
  rcases l with ⟨_ | n, h⟩
  · rcases x with ⟨t, s⟩
    rfl
  · exact absurd h (by omega)

/-- and so the same definitions. -/
theorem defs_same : Cert.Kernel.defs (F := Bits) = Cert.KernelIdeal.defs (F := Bits) := by
  unfold Cert.Kernel.defs Cert.KernelIdeal.defs
  exact congrArg (Pipeline.defs Cert.KernelIdeal.pcfgs) bodies_same

/-- The kernel at the bit patterns: it terminates, keeps its arguments and leaves every counter at zero. -/
theorem frame_kernel : Cert.quiescent_Kernel (hKernel := Cert.Kernel.Gen.facts) := fun m ρ _ => by
  have h := kept (F := Bits) m ρ
  rw [← defs_same] at h
  exact h

/-- The kernel at the ideal numbers, likewise. -/
theorem frame_ideal : Cert.quiescent_KernelIdeal (hKernelIdeal := Cert.KernelIdeal.Gen.facts) := fun m ρ _ =>
  (θ_run Cert.KernelIdeal.defs _ _).mono (fun _ h => ⟨fun c => (h.1 c).2, h.2⟩) (run_main (F := Ideal) m ρ)

/-- The reference: it runs, keeps its arguments, and has no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference's product, entry by entry: the sum over the 65536 columns. -/
theorem product_apply (dy w : FVec Ideal Cert.ReferenceIdeal.S512x65536 .f32) (r j : Fin 512) :
    Host.dotGeneral Cert.ReferenceIdeal.dot_S512x65536_S65536x512_S512x512_1_0_0_1_n_n none dy
        (transpose Cert.ReferenceIdeal.S65536x512 [1, 0] w Cert.ReferenceIdeal.Gen.transposes_S512x65536_S65536x512_1_0) (ix2 r j)
      = ∑ k : Fin 65536, dy (ix2 r k) * w (ix2 j k) := by
  refine (StackMember.dotGeneral_plain_apply (m := 512) (k := 65536) (n := 512) none dy _ r j).trans ?_
  refine Finset.sum_congr rfl fun k _ => congrArg (dy (ix2 r k) * ·) ?_
  exact transpose_ix2_apply w _ k j

/-- At the ideal numbers, from devices that hold the 32 column blocks of the two arrays, both programs run and every
device's result is the reference's. -/
theorem algebraic : Cert.algebraic_KernelIdeal_ReferenceIdeal (hKernelIdeal := Cert.KernelIdeal.Gen.facts) (hReferenceIdeal := Cert.ReferenceIdeal.Gen.facts) := by
  intro m ρ m' ρ' _ hin
  refine ⟨_, ?_, (θ_run Cert.ReferenceIdeal.defs _ _).mono (fun r h => h 0) (Cert.ReferenceIdeal.Value.run (F := Ideal) m' ρ')⟩
  refine (θ_run Cert.KernelIdeal.defs _ _).mono (fun r h c => ⟨(h.1 c).1.trans ?_, (h.1 c).2⟩) (run_main (F := Ideal) m ρ)
  funext i
  obtain ⟨a, b, rfl⟩ : ∃ a b : Fin 512, i = ix2 a b := ⟨i 0, i 1, by funext d; match d with | ⟨0, _⟩ => rfl | ⟨1, _⟩ => rfl⟩
  refine (outV_whole (dyOf m) (wOf m) _ _ (fun c => (dyOf_eq m c).trans (hin c).1) (fun c => (wOf_eq m c).trans (hin c).2) a b).trans ?_
  exact (product_apply _ _ a b).symm

end Cert.AllReduce

end
-- ==== Proof.lean ====
/-
The certificate: its five claims, assembled.
-/
module

public import proofs.«01_k».proof.Defs
public import proofs.«01_k».proof.Proof.Claims

@[expose] public section

noncomputable section

namespace Cert.Proof

/-- Everything the certificate claims. -/
theorem claim : Cert.Claim := ⟨Cert.Kernel.Gen.facts, Cert.KernelIdeal.Gen.facts, Cert.ReferenceIdeal.Gen.facts, AllReduce.frame_kernel, AllReduce.frame_ideal, AllReduce.frame_reference, trivial, AllReduce.algebraic⟩

end Cert.Proof

end
